-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v20)) (v4 : (c : Dev Cert.KernelIdeal.nD) → Buf (Elt Ideal) ((c.tc : Thread Cert.KernelIdeal.nD Cert.KernelIdeal.τ).loc Cert.KernelIdeal.main_v21)) (v5 : (c : Dev Cert.KernelIdeal.nD) → Buf (Elt Ideal) ((c.tc : Thread Cert.KernelIdeal.nD Cert.KernelIdeal.τ).loc Cert.KernelIdeal.main_v11_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_v21) = v4 c
          ∧ r.2.mem ((c.tc : Thread Cert.KernelIdeal.nD Cert.KernelIdeal.τ).loc Cert.KernelIdeal.main_v11_0) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_v7) = v4 c
          ∧ r.2.mem ((c.tc : Thread Cert.ReferenceIdeal.nD Cert.ReferenceIdeal.τ).loc Cert.ReferenceIdeal.main_v29) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x768x1x1 : Shape := ⟨4, ![4096, 768, 1, 1]⟩
abbrev S768x8 : Shape := ⟨2, ![768, 8]⟩
abbrev S4096x768 : Shape := ⟨2, ![4096, 768]⟩
abbrev S_ : Shape := ⟨0, ![]⟩
abbrev S1 : Shape := ⟨1, ![1]⟩
abbrev S2 : Shape := ⟨1, ![2]⟩
abbrev S1x1 : Shape := ⟨2, ![1, 1]⟩
abbrev S4096x8 : Shape := ⟨2, ![4096, 8]⟩
abbrev S4096x1 : Shape := ⟨2, ![4096, 1]⟩
abbrev S1x8 : Shape := ⟨2, ![1, 8]⟩
abbrev S1x4096x8 : Shape := ⟨3, ![1, 4096, 8]⟩
abbrev S1x1x1 : Shape := ⟨3, ![1, 1, 1]⟩
abbrev S4096 : Shape := ⟨1, ![4096]⟩
abbrev S1x4096x1 : Shape := ⟨3, ![1, 4096, 1]⟩
abbrev S8 : Shape := ⟨1, ![8]⟩
abbrev S1x4096 : Shape := ⟨2, ![1, 4096]⟩
abbrev S512x1 : Shape := ⟨2, ![512, 1]⟩
abbrev S1x1024 : Shape := ⟨2, ![1, 1024]⟩
abbrev S512x1024 : Shape := ⟨2, ![512, 1024]⟩
abbrev S512 : Shape := ⟨1, ![512]⟩
abbrev S512x8 : Shape := ⟨2, ![512, 8]⟩
abbrev S1x1x8 : Shape := ⟨3, ![1, 1, 8]⟩
abbrev S4096x8x640 : Shape := ⟨3, ![4096, 8, 640]⟩
abbrev S256x1 : Shape := ⟨2, ![256, 1]⟩
abbrev S256x8x640 : Shape := ⟨3, ![256, 8, 640]⟩
abbrev S256x1x1 : Shape := ⟨3, ![256, 1, 1]⟩

abbrev nBuf : Space → Nat
  | .hbm => 300
  | .vmem => 26
  | .smem => 0
  | _ => 0

abbrev hbmTy0_0 (i : Nat) : BufTy := match i % 128 with
  | 0 => ⟨S4096x768x1x1, .f32⟩
  | 1 => ⟨S768x8, .f32⟩
  | 2 => ⟨S4096x768, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .f32⟩
  | 14 => ⟨S_, .f32⟩
  | 15 => ⟨S_, .f32⟩
  | 16 => ⟨S_, .f32⟩
  | 17 => ⟨S1x1, .f32⟩
  | 18 => ⟨S1x1, .f32⟩
  | 19 => ⟨S1, .i32⟩
  | 20 => ⟨S_, .i32⟩
  | 21 => ⟨S1, .i32⟩
  | 22 => ⟨S_, .i32⟩
  | 23 => ⟨S4096x8, .i64⟩
  | 24 => ⟨S4096x8, .i64⟩
  | 25 => ⟨S_, .i64⟩
  | 26 => ⟨S4096x8, .i64⟩
  | 27 => ⟨S4096x8, .i64⟩
  | 28 => ⟨S_, .i64⟩
  | 29 => ⟨S4096x8, .i64⟩
  | 30 => ⟨S4096x8, .i64⟩
  | 31 => ⟨S4096x8, .i64⟩
  | 32 => ⟨S_, .i64⟩
  | 33 => ⟨S4096x8, .i64⟩
  | 34 => ⟨S4096x8, .i64⟩
  | 35 => ⟨S4096x8, .i32⟩
  | 36 => ⟨S4096x8, .i32⟩
  | 37 => ⟨S_, .i32⟩
  | 38 => ⟨S_, .i32⟩
  | 39 => ⟨S_, .i32⟩
  | 40 => ⟨S4096x8, .i32⟩
  | 41 => ⟨S4096x8, .i32⟩
  | 42 => ⟨S4096x8, .i32⟩
  | 43 => ⟨S4096x8, .i32⟩
  | 44 => ⟨S4096x8, .i32⟩
  | 45 => ⟨S_, .i32⟩
  | 46 => ⟨S4096x8, .i32⟩
  | 47 => ⟨S4096x8, .i32⟩
  | 48 => ⟨S_, .i32⟩
  | 49 => ⟨S4096x8, .i32⟩
  | 50 => ⟨S4096x8, .i32⟩
  | 51 => ⟨S4096x8, .i32⟩
  | 52 => ⟨S4096x8, .i32⟩
  | 53 => ⟨S4096x8, .i32⟩
  | 54 => ⟨S_, .i32⟩
  | 55 => ⟨S4096x8, .i32⟩
  | 56 => ⟨S4096x8, .i32⟩
  | 57 => ⟨S_, .i32⟩
  | 58 => ⟨S4096x8, .i32⟩
  | 59 => ⟨S4096x8, .i32⟩
  | 60 => ⟨S4096x8, .i32⟩
  | 61 => ⟨S4096x8, .i32⟩
  | 62 => ⟨S4096x8, .i32⟩
  | 63 => ⟨S_, .i32⟩
  | 64 => ⟨S4096x8, .i32⟩
  | 65 => ⟨S4096x8, .i32⟩
  | 66 => ⟨S_, .i32⟩
  | 67 => ⟨S4096x8, .i32⟩
  | 68 => ⟨S4096x8, .i32⟩
  | 69 => ⟨S4096x8, .i32⟩
  | 70 => ⟨S4096x8, .i32⟩
  | 71 => ⟨S4096x8, .i32⟩
  | 72 => ⟨S_, .i32⟩
  | 73 => ⟨S4096x8, .i32⟩
  | 74 => ⟨S4096x8, .i32⟩
  | 75 => ⟨S_, .i32⟩
  | 76 => ⟨S4096x8, .i32⟩
  | 77 => ⟨S4096x8, .i32⟩
  | 78 => ⟨S4096x8, .i32⟩
  | 79 => ⟨S4096x8, .i32⟩
  | 80 => ⟨S4096x8, .i32⟩
  | 81 => ⟨S4096x8, .i32⟩
  | 82 => ⟨S4096x8, .i32⟩
  | 83 => ⟨S4096x8, .i32⟩
  | 84 => ⟨S_, .i32⟩
  | 85 => ⟨S4096x8, .i32⟩
  | 86 => ⟨S4096x8, .i32⟩
  | 87 => ⟨S4096x8, .i32⟩
  | 88 => ⟨S_, .i32⟩
  | 89 => ⟨S4096x8, .i32⟩
  | 90 => ⟨S4096x8, .i32⟩
  | 91 => ⟨S_, .i32⟩
  | 92 => ⟨S4096x8, .i32⟩
  | 93 => ⟨S4096x8, .i32⟩
  | 94 => ⟨S4096x8, .i32⟩
  | 95 => ⟨S4096x8, .i32⟩
  | 96 => ⟨S4096x8, .i32⟩
  | 97 => ⟨S_, .i32⟩
  | 98 => ⟨S4096x8, .i32⟩
  | 99 => ⟨S4096x8, .i32⟩
  | 100 => ⟨S_, .i32⟩
  | 101 => ⟨S4096x8, .i32⟩
  | 102 => ⟨S4096x8, .i32⟩
  | 103 => ⟨S4096x8, .i32⟩
  | 104 => ⟨S4096x8, .i32⟩
  | 105 => ⟨S4096x8, .i32⟩
  | 106 => ⟨S_, .i32⟩
  | 107 => ⟨S4096x8, .i32⟩
  | 108 => ⟨S4096x8, .i32⟩
  | 109 => ⟨S_, .i32⟩
  | 110 => ⟨S4096x8, .i32⟩
  | 111 => ⟨S4096x8, .i32⟩
  | 112 => ⟨S4096x8, .i32⟩
  | 113 => ⟨S4096x8, .i32⟩
  | 114 => ⟨S4096x8, .i32⟩
  | 115 => ⟨S_, .i32⟩
  | 116 => ⟨S4096x8, .i32⟩
  | 117 => ⟨S4096x8, .i32⟩
  | 118 => ⟨S_, .i32⟩
  | 119 => ⟨S4096x8, .i32⟩
  | 120 => ⟨S4096x8, .i32⟩
  | 121 => ⟨S4096x8, .i32⟩
  | 122 => ⟨S4096x8, .i32⟩
  | 123 => ⟨S4096x8, .i32⟩
  | 124 => ⟨S4096x8, .i32⟩
  | 125 => ⟨S4096x8, .i32⟩
  | 126 => ⟨S4096x8, .i32⟩
  | 127 => ⟨S_, .i32⟩
  | _ => ⟨S4096x768x1x1, .f32⟩

abbrev hbmTy0_1 (i : Nat) : BufTy := match i % 128 with
  | 0 => ⟨S4096x8, .i32⟩
  | 1 => ⟨S4096x8, .i32⟩
  | 2 => ⟨S4096x8, .i32⟩
  | 3 => ⟨S_, .i32⟩
  | 4 => ⟨S4096x8, .i32⟩
  | 5 => ⟨S4096x8, .i32⟩
  | 6 => ⟨S_, .i32⟩
  | 7 => ⟨S4096x8, .i32⟩
  | 8 => ⟨S4096x8, .i32⟩
  | 9 => ⟨S4096x8, .i32⟩
  | 10 => ⟨S4096x8, .i32⟩
  | 11 => ⟨S4096x8, .i32⟩
  | 12 => ⟨S_, .i32⟩
  | 13 => ⟨S4096x8, .i32⟩
  | 14 => ⟨S4096x8, .i32⟩
  | 15 => ⟨S_, .i32⟩
  | 16 => ⟨S4096x8, .i32⟩
  | 17 => ⟨S4096x8, .i32⟩
  | 18 => ⟨S4096x8, .i32⟩
  | 19 => ⟨S4096x8, .i32⟩
  | 20 => ⟨S4096x8, .i32⟩
  | 21 => ⟨S_, .i32⟩
  | 22 => ⟨S4096x8, .i32⟩
  | 23 => ⟨S4096x8, .i32⟩
  | 24 => ⟨S_, .i32⟩
  | 25 => ⟨S4096x8, .i32⟩
  | 26 => ⟨S4096x8, .i32⟩
  | 27 => ⟨S4096x8, .i32⟩
  | 28 => ⟨S4096x8, .i32⟩
  | 29 => ⟨S4096x8, .i32⟩
  | 30 => ⟨S_, .i32⟩
  | 31 => ⟨S4096x8, .i32⟩
  | 32 => ⟨S4096x8, .i32⟩
  | 33 => ⟨S_, .i32⟩
  | 34 => ⟨S4096x8, .i32⟩
  | 35 => ⟨S4096x8, .i32⟩
  | 36 => ⟨S4096x8, .i32⟩
  | 37 => ⟨S4096x8, .i32⟩
  | 38 => ⟨S4096x8, .i32⟩
  | 39 => ⟨S4096x8, .i32⟩
  | 40 => ⟨S4096x8, .i32⟩
  | 41 => ⟨S4096x8, .i32⟩
  | 42 => ⟨S_, .i32⟩
  | 43 => ⟨S4096x8, .i32⟩
  | 44 => ⟨S4096x8, .i32⟩
  | 45 => ⟨S4096x8, .i32⟩
  | 46 => ⟨S_, .i32⟩
  | 47 => ⟨S4096x8, .i32⟩
  | 48 => ⟨S4096x8, .i32⟩
  | 49 => ⟨S_, .i32⟩
  | 50 => ⟨S4096x8, .i32⟩
  | 51 => ⟨S4096x8, .i32⟩
  | 52 => ⟨S4096x8, .i32⟩
  | 53 => ⟨S4096x8, .i32⟩
  | 54 => ⟨S4096x8, .i32⟩
  | 55 => ⟨S_, .i32⟩
  | 56 => ⟨S4096x8, .i32⟩
  | 57 => ⟨S4096x8, .i32⟩
  | 58 => ⟨S_, .i32⟩
  | 59 => ⟨S4096x8, .i32⟩
  | 60 => ⟨S4096x8, .i32⟩
  | 61 => ⟨S4096x8, .i32⟩
  | 62 => ⟨S4096x8, .i32⟩
  | 63 => ⟨S4096x8, .i32⟩
  | 64 => ⟨S_, .i32⟩
  | 65 => ⟨S4096x8, .i32⟩
  | 66 => ⟨S4096x8, .i32⟩
  | 67 => ⟨S_, .i32⟩
  | 68 => ⟨S4096x8, .i32⟩
  | 69 => ⟨S4096x8, .i32⟩
  | 70 => ⟨S4096x8, .i32⟩
  | 71 => ⟨S4096x8, .i32⟩
  | 72 => ⟨S4096x8, .i32⟩
  | 73 => ⟨S_, .i32⟩
  | 74 => ⟨S4096x8, .i32⟩
  | 75 => ⟨S4096x8, .i32⟩
  | 76 => ⟨S_, .i32⟩
  | 77 => ⟨S4096x8, .i32⟩
  | 78 => ⟨S4096x8, .i32⟩
  | 79 => ⟨S4096x8, .i32⟩
  | 80 => ⟨S4096x8, .i32⟩
  | 81 => ⟨S4096x8, .i32⟩
  | 82 => ⟨S4096x8, .i32⟩
  | 83 => ⟨S4096x8, .i32⟩
  | 84 => ⟨S4096x8, .i32⟩
  | 85 => ⟨S_, .i32⟩
  | 86 => ⟨S4096x8, .i32⟩
  | 87 => ⟨S4096x8, .i32⟩
  | 88 => ⟨S4096x8, .i32⟩
  | 89 => ⟨S_, .i32⟩
  | 90 => ⟨S4096x8, .i32⟩
  | 91 => ⟨S4096x8, .i32⟩
  | 92 => ⟨S_, .i32⟩
  | 93 => ⟨S4096x8, .i32⟩
  | 94 => ⟨S4096x8, .i32⟩
  | 95 => ⟨S4096x8, .i32⟩
  | 96 => ⟨S4096x8, .i32⟩
  | 97 => ⟨S4096x8, .i32⟩
  | 98 => ⟨S_, .i32⟩
  | 99 => ⟨S4096x8, .i32⟩
  | 100 => ⟨S4096x8, .i32⟩
  | 101 => ⟨S_, .i32⟩
  | 102 => ⟨S4096x8, .i32⟩
  | 103 => ⟨S4096x8, .i32⟩
  | 104 => ⟨S4096x8, .i32⟩
  | 105 => ⟨S4096x8, .i32⟩
  | 106 => ⟨S4096x8, .i32⟩
  | 107 => ⟨S_, .i32⟩
  | 108 => ⟨S4096x8, .i32⟩
  | 109 => ⟨S4096x8, .i32⟩
  | 110 => ⟨S_, .i32⟩
  | 111 => ⟨S4096x8, .i32⟩
  | 112 => ⟨S4096x8, .i32⟩
  | 113 => ⟨S4096x8, .i32⟩
  | 114 => ⟨S4096x8, .i32⟩
  | 115 => ⟨S4096x8, .i32⟩
  | 116 => ⟨S_, .i32⟩
  | 117 => ⟨S4096x8, .i32⟩
  | 118 => ⟨S4096x8, .i32⟩
  | 119 => ⟨S_, .i32⟩
  | 120 => ⟨S4096x8, .i32⟩
  | 121 => ⟨S4096x8, .i32⟩
  | 122 => ⟨S4096x8, .i32⟩
  | 123 => ⟨S4096x8, .i32⟩
  | 124 => ⟨S4096x8, .i32⟩
  | 125 => ⟨S4096x8, .i32⟩
  | 126 => ⟨S4096x8, .i32⟩
  | 127 => ⟨S4096x8, .i32⟩
  | _ => ⟨S4096x768x1x1, .f32⟩

abbrev hbmTy0_2 (i : Nat) : BufTy := match i % 128 with
  | 0 => ⟨S_, .i32⟩
  | 1 => ⟨S4096x8, .i32⟩
  | 2 => ⟨S4096x8, .i32⟩
  | 3 => ⟨S4096x8, .i32⟩
  | 4 => ⟨S_, .i32⟩
  | 5 => ⟨S4096x8, .i32⟩
  | 6 => ⟨S4096x8, .i32⟩
  | 7 => ⟨S_, .i32⟩
  | 8 => ⟨S4096x8, .i32⟩
  | 9 => ⟨S4096x8, .i32⟩
  | 10 => ⟨S4096x8, .f32⟩
  | 11 => ⟨S_, .f32⟩
  | 12 => ⟨S4096x8, .f32⟩
  | 13 => ⟨S4096x8, .f32⟩
  | 14 => ⟨S1x1, .f32⟩
  | 15 => ⟨S4096x8, .f32⟩
  | 16 => ⟨S4096x8, .f32⟩
  | 17 => ⟨S4096x8, .f32⟩
  | 18 => ⟨S4096x8, .f32⟩
  | 19 => ⟨S4096x8, .f32⟩
  | 20 => ⟨S4096x8, .f32⟩
  | 21 => ⟨S_, .f32⟩
  | 22 => ⟨S4096x8, .f32⟩
  | 23 => ⟨S4096x8, .f32⟩
  | 24 => ⟨S4096x8, .f32⟩
  | 25 => ⟨S4096x1, .f32⟩
  | 26 => ⟨S4096x1, .i32⟩
  | 27 => ⟨S1x8, .f32⟩
  | 28 => ⟨S1x1, .f32⟩
  | 29 => ⟨S1x1, .f32⟩
  | 30 => ⟨S1x4096, .f32⟩
  | 31 => ⟨S1x4096, .i32⟩
  | 32 => ⟨S4096x1, .i32⟩
  | 33 => ⟨S1x8, .f32⟩
  | 34 => ⟨S1x1, .f32⟩
  | 35 => ⟨S4096x8x640, .i32⟩
  | 36 => ⟨S4096x8x640, .f32⟩
  | 37 => ⟨S_, .i32⟩
  | 38 => ⟨S4096x8x640, .i32⟩
  | 39 => ⟨S4096x8x640, .i1⟩
  | 40 => ⟨S4096x8x640, .i1⟩
  | 41 => ⟨S_, .f32⟩
  | 42 => ⟨S_, .f32⟩
  | 43 => ⟨S_, .f32⟩
  | _ => ⟨S4096x768x1x1, .f32⟩

abbrev hbmTy (i : Nat) : BufTy := match i / 128 with
  | 0 => hbmTy0_0 i
  | 1 => hbmTy0_1 i
  | 2 => hbmTy0_2 i
  | _ => ⟨S4096x768x1x1, .f32⟩

abbrev bufTy : (tb : Table) → Fin (tcTables nBuf tb) → BufTy
  | .hbm, ⟨i, _⟩ => hbmTy i
  | .local _ .vmem, ⟨0, _⟩ => ⟨S4096x768, .f32⟩
  | .local _ .vmem, ⟨1, _⟩ => ⟨S768x8, .f32⟩
  | .local _ .vmem, ⟨2, _⟩ => ⟨S4096x8, .f32⟩
  | .local _ .vmem, ⟨3, _⟩ => ⟨S4096x8, .f32⟩
  | .local _ .vmem, ⟨4, _⟩ => ⟨S4096x1, .f32⟩
  | .local _ .vmem, ⟨5, _⟩ => ⟨S4096x1, .i32⟩
  | .local _ .vmem, ⟨6, _⟩ => ⟨S1x8, .f32⟩
  | .local _ .vmem, ⟨7, _⟩ => ⟨S1x1, .f32⟩
  | .local _ .vmem, ⟨8, _⟩ => ⟨S1x1, .f32⟩
  | .local _ .vmem, ⟨9, _⟩ => ⟨S512x1, .f32⟩
  | .local _ .vmem, ⟨10, _⟩ => ⟨S512x1, .f32⟩
  | .local _ .vmem, ⟨11, _⟩ => ⟨S512x1, .i32⟩
  | .local _ .vmem, ⟨12, _⟩ => ⟨S512x1, .i32⟩
  | .local _ .vmem, ⟨13, _⟩ => ⟨S1x4096, .f32⟩
  | .local _ .vmem, ⟨14, _⟩ => ⟨S1x4096, .i32⟩
  | .local _ .vmem, ⟨15, _⟩ => ⟨S1x8, .f32⟩
  | .local _ .vmem, ⟨16, _⟩ => ⟨S512x1, .i32⟩
  | .local _ .vmem, ⟨17, _⟩ => ⟨S512x1, .i32⟩
  | .local _ .vmem, ⟨18, _⟩ => ⟨S1x8, .f32⟩
  | .local _ .vmem, ⟨19, _⟩ => ⟨S1x1, .f32⟩
  | .local _ .vmem, ⟨20, _⟩ => ⟨S256x1, .i32⟩
  | .local _ .vmem, ⟨21, _⟩ => ⟨S256x1, .i32⟩
  | .local _ .vmem, ⟨22, _⟩ => ⟨S256x8x640, .i32⟩
  | .local _ .vmem, ⟨23, _⟩ => ⟨S256x8x640, .i32⟩
  | .local _ .vmem, ⟨24, _⟩ => ⟨S256x8x640, .f32⟩
  | .local _ .vmem, ⟨25, _⟩ => ⟨S256x8x640, .f32⟩
  | _, _ => ⟨S4096x768x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_c : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_c_1 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_call0_v0 : Ref sig .tc := ⟨.hbm, 37, rfl⟩
abbrev main_call0_call0_c : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_c_0 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_c_1 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_call0_v12 : Ref sig .tc := ⟨.hbm, 52, rfl⟩
abbrev main_call0_call0_v13 : Ref sig .tc := ⟨.hbm, 53, rfl⟩
abbrev main_call0_call0_c_2 : Ref sig .tc := ⟨.hbm, 54, rfl⟩
abbrev main_call0_call0_v14 : Ref sig .tc := ⟨.hbm, 55, rfl⟩
abbrev main_call0_call0_v15 : Ref sig .tc := ⟨.hbm, 56, rfl⟩
abbrev main_call0_call0_c_3 : Ref sig .tc := ⟨.hbm, 57, rfl⟩
abbrev main_call0_call0_v16 : Ref sig .tc := ⟨.hbm, 58, rfl⟩
abbrev main_call0_call0_v17 : Ref sig .tc := ⟨.hbm, 59, rfl⟩
abbrev main_call0_call0_v18 : Ref sig .tc := ⟨.hbm, 60, rfl⟩
abbrev main_call0_call0_v19 : Ref sig .tc := ⟨.hbm, 61, rfl⟩
abbrev main_call0_call0_v20 : Ref sig .tc := ⟨.hbm, 62, rfl⟩
abbrev main_call0_call0_c_4 : Ref sig .tc := ⟨.hbm, 63, rfl⟩
abbrev main_call0_call0_v21 : Ref sig .tc := ⟨.hbm, 64, rfl⟩
abbrev main_call0_call0_v22 : Ref sig .tc := ⟨.hbm, 65, rfl⟩
abbrev main_call0_call0_c_5 : Ref sig .tc := ⟨.hbm, 66, rfl⟩
abbrev main_call0_call0_v23 : Ref sig .tc := ⟨.hbm, 67, rfl⟩
abbrev main_call0_call0_v24 : Ref sig .tc := ⟨.hbm, 68, rfl⟩
abbrev main_call0_call0_v25 : Ref sig .tc := ⟨.hbm, 69, rfl⟩
abbrev main_call0_call0_v26 : Ref sig .tc := ⟨.hbm, 70, rfl⟩
abbrev main_call0_call0_v27 : Ref sig .tc := ⟨.hbm, 71, rfl⟩
abbrev main_call0_call0_c_6 : Ref sig .tc := ⟨.hbm, 72, rfl⟩
abbrev main_call0_call0_v28 : Ref sig .tc := ⟨.hbm, 73, rfl⟩
abbrev main_call0_call0_v29 : Ref sig .tc := ⟨.hbm, 74, rfl⟩
abbrev main_call0_call0_c_7 : Ref sig .tc := ⟨.hbm, 75, rfl⟩
abbrev main_call0_call0_v30 : Ref sig .tc := ⟨.hbm, 76, rfl⟩
abbrev main_call0_call0_v31 : Ref sig .tc := ⟨.hbm, 77, rfl⟩
abbrev main_call0_call0_v32 : Ref sig .tc := ⟨.hbm, 78, rfl⟩
abbrev main_call0_call0_v33 : Ref sig .tc := ⟨.hbm, 79, rfl⟩
abbrev main_call0_call0_v34 : Ref sig .tc := ⟨.hbm, 80, rfl⟩
abbrev main_call0_call0_v35 : Ref sig .tc := ⟨.hbm, 81, rfl⟩
abbrev main_call0_call0_v36 : Ref sig .tc := ⟨.hbm, 82, rfl⟩
abbrev main_call0_call0_v37 : Ref sig .tc := ⟨.hbm, 83, rfl⟩
abbrev main_call0_call0_c_8 : Ref sig .tc := ⟨.hbm, 84, rfl⟩
abbrev main_call0_call0_v38 : Ref sig .tc := ⟨.hbm, 85, rfl⟩
abbrev main_call0_call0_v39 : Ref sig .tc := ⟨.hbm, 86, rfl⟩
abbrev main_call0_call0_v40 : Ref sig .tc := ⟨.hbm, 87, rfl⟩
abbrev main_call0_call0_c_9 : Ref sig .tc := ⟨.hbm, 88, rfl⟩
abbrev main_call0_call0_v41 : Ref sig .tc := ⟨.hbm, 89, rfl⟩
abbrev main_call0_call0_v42 : Ref sig .tc := ⟨.hbm, 90, rfl⟩
abbrev main_call0_call0_c_10 : Ref sig .tc := ⟨.hbm, 91, rfl⟩
abbrev main_call0_call0_v43 : Ref sig .tc := ⟨.hbm, 92, rfl⟩
abbrev main_call0_call0_v44 : Ref sig .tc := ⟨.hbm, 93, rfl⟩
abbrev main_call0_call0_v45 : Ref sig .tc := ⟨.hbm, 94, rfl⟩
abbrev main_call0_call0_v46 : Ref sig .tc := ⟨.hbm, 95, rfl⟩
abbrev main_call0_call0_v47 : Ref sig .tc := ⟨.hbm, 96, rfl⟩
abbrev main_call0_call0_c_11 : Ref sig .tc := ⟨.hbm, 97, rfl⟩
abbrev main_call0_call0_v48 : Ref sig .tc := ⟨.hbm, 98, rfl⟩
abbrev main_call0_call0_v49 : Ref sig .tc := ⟨.hbm, 99, rfl⟩
abbrev main_call0_call0_c_12 : Ref sig .tc := ⟨.hbm, 100, rfl⟩
abbrev main_call0_call0_v50 : Ref sig .tc := ⟨.hbm, 101, rfl⟩
abbrev main_call0_call0_v51 : Ref sig .tc := ⟨.hbm, 102, rfl⟩
abbrev main_call0_call0_v52 : Ref sig .tc := ⟨.hbm, 103, rfl⟩
abbrev main_call0_call0_v53 : Ref sig .tc := ⟨.hbm, 104, rfl⟩
abbrev main_call0_call0_v54 : Ref sig .tc := ⟨.hbm, 105, rfl⟩
abbrev main_call0_call0_c_13 : Ref sig .tc := ⟨.hbm, 106, rfl⟩
abbrev main_call0_call0_v55 : Ref sig .tc := ⟨.hbm, 107, rfl⟩
abbrev main_call0_call0_v56 : Ref sig .tc := ⟨.hbm, 108, rfl⟩
abbrev main_call0_call0_c_14 : Ref sig .tc := ⟨.hbm, 109, rfl⟩
abbrev main_call0_call0_v57 : Ref sig .tc := ⟨.hbm, 110, rfl⟩
abbrev main_call0_call0_v58 : Ref sig .tc := ⟨.hbm, 111, rfl⟩
abbrev main_call0_call0_v59 : Ref sig .tc := ⟨.hbm, 112, rfl⟩
abbrev main_call0_call0_v60 : Ref sig .tc := ⟨.hbm, 113, rfl⟩
abbrev main_call0_call0_v61 : Ref sig .tc := ⟨.hbm, 114, rfl⟩
abbrev main_call0_call0_c_15 : Ref sig .tc := ⟨.hbm, 115, rfl⟩
abbrev main_call0_call0_v62 : Ref sig .tc := ⟨.hbm, 116, rfl⟩
abbrev main_call0_call0_v63 : Ref sig .tc := ⟨.hbm, 117, rfl⟩
abbrev main_call0_call0_c_16 : Ref sig .tc := ⟨.hbm, 118, rfl⟩
abbrev main_call0_call0_v64 : Ref sig .tc := ⟨.hbm, 119, rfl⟩
abbrev main_call0_call0_v65 : Ref sig .tc := ⟨.hbm, 120, rfl⟩
abbrev main_call0_call0_v66 : Ref sig .tc := ⟨.hbm, 121, rfl⟩
abbrev main_call0_call0_v67 : Ref sig .tc := ⟨.hbm, 122, rfl⟩
abbrev main_call0_call0_v68 : Ref sig .tc := ⟨.hbm, 123, rfl⟩
abbrev main_call0_call0_v69 : Ref sig .tc := ⟨.hbm, 124, rfl⟩
abbrev main_call0_call0_v70 : Ref sig .tc := ⟨.hbm, 125, rfl⟩
abbrev main_call0_call0_v71 : Ref sig .tc := ⟨.hbm, 126, rfl⟩
abbrev main_call0_call0_c_17 : Ref sig .tc := ⟨.hbm, 127, rfl⟩
abbrev main_call0_call0_v72 : Ref sig .tc := ⟨.hbm, 128, rfl⟩
abbrev main_call0_call0_v73 : Ref sig .tc := ⟨.hbm, 129, rfl⟩
abbrev main_call0_call0_v74 : Ref sig .tc := ⟨.hbm, 130, rfl⟩
abbrev main_call0_call0_c_18 : Ref sig .tc := ⟨.hbm, 131, rfl⟩
abbrev main_call0_call0_v75 : Ref sig .tc := ⟨.hbm, 132, rfl⟩
abbrev main_call0_call0_v76 : Ref sig .tc := ⟨.hbm, 133, rfl⟩
abbrev main_call0_call0_c_19 : Ref sig .tc := ⟨.hbm, 134, rfl⟩
abbrev main_call0_call0_v77 : Ref sig .tc := ⟨.hbm, 135, rfl⟩
abbrev main_call0_call0_v78 : Ref sig .tc := ⟨.hbm, 136, rfl⟩
abbrev main_call0_call0_v79 : Ref sig .tc := ⟨.hbm, 137, rfl⟩
abbrev main_call0_call0_v80 : Ref sig .tc := ⟨.hbm, 138, rfl⟩
abbrev main_call0_call0_v81 : Ref sig .tc := ⟨.hbm, 139, rfl⟩
abbrev main_call0_call0_c_20 : Ref sig .tc := ⟨.hbm, 140, rfl⟩
abbrev main_call0_call0_v82 : Ref sig .tc := ⟨.hbm, 141, rfl⟩
abbrev main_call0_call0_v83 : Ref sig .tc := ⟨.hbm, 142, rfl⟩
abbrev main_call0_call0_c_21 : Ref sig .tc := ⟨.hbm, 143, rfl⟩
abbrev main_call0_call0_v84 : Ref sig .tc := ⟨.hbm, 144, rfl⟩
abbrev main_call0_call0_v85 : Ref sig .tc := ⟨.hbm, 145, rfl⟩
abbrev main_call0_call0_v86 : Ref sig .tc := ⟨.hbm, 146, rfl⟩
abbrev main_call0_call0_v87 : Ref sig .tc := ⟨.hbm, 147, rfl⟩
abbrev main_call0_call0_v88 : Ref sig .tc := ⟨.hbm, 148, rfl⟩
abbrev main_call0_call0_c_22 : Ref sig .tc := ⟨.hbm, 149, rfl⟩
abbrev main_call0_call0_v89 : Ref sig .tc := ⟨.hbm, 150, rfl⟩
abbrev main_call0_call0_v90 : Ref sig .tc := ⟨.hbm, 151, rfl⟩
abbrev main_call0_call0_c_23 : Ref sig .tc := ⟨.hbm, 152, rfl⟩
abbrev main_call0_call0_v91 : Ref sig .tc := ⟨.hbm, 153, rfl⟩
abbrev main_call0_call0_v92 : Ref sig .tc := ⟨.hbm, 154, rfl⟩
abbrev main_call0_call0_v93 : Ref sig .tc := ⟨.hbm, 155, rfl⟩
abbrev main_call0_call0_v94 : Ref sig .tc := ⟨.hbm, 156, rfl⟩
abbrev main_call0_call0_v95 : Ref sig .tc := ⟨.hbm, 157, rfl⟩
abbrev main_call0_call0_c_24 : Ref sig .tc := ⟨.hbm, 158, rfl⟩
abbrev main_call0_call0_v96 : Ref sig .tc := ⟨.hbm, 159, rfl⟩
abbrev main_call0_call0_v97 : Ref sig .tc := ⟨.hbm, 160, rfl⟩
abbrev main_call0_call0_c_25 : Ref sig .tc := ⟨.hbm, 161, rfl⟩
abbrev main_call0_call0_v98 : Ref sig .tc := ⟨.hbm, 162, rfl⟩
abbrev main_call0_call0_v99 : Ref sig .tc := ⟨.hbm, 163, rfl⟩
abbrev main_call0_call0_v100 : Ref sig .tc := ⟨.hbm, 164, rfl⟩
abbrev main_call0_call0_v101 : Ref sig .tc := ⟨.hbm, 165, rfl⟩
abbrev main_call0_call0_v102 : Ref sig .tc := ⟨.hbm, 166, rfl⟩
abbrev main_call0_call0_v103 : Ref sig .tc := ⟨.hbm, 167, rfl⟩
abbrev main_call0_call0_v104 : Ref sig .tc := ⟨.hbm, 168, rfl⟩
abbrev main_call0_call0_v105 : Ref sig .tc := ⟨.hbm, 169, rfl⟩
abbrev main_call0_call0_c_26 : Ref sig .tc := ⟨.hbm, 170, rfl⟩
abbrev main_call0_call0_v106 : Ref sig .tc := ⟨.hbm, 171, rfl⟩
abbrev main_call0_call0_v107 : Ref sig .tc := ⟨.hbm, 172, rfl⟩
abbrev main_call0_call0_v108 : Ref sig .tc := ⟨.hbm, 173, rfl⟩
abbrev main_call0_call0_c_27 : Ref sig .tc := ⟨.hbm, 174, rfl⟩
abbrev main_call0_call0_v109 : Ref sig .tc := ⟨.hbm, 175, rfl⟩
abbrev main_call0_call0_v110 : Ref sig .tc := ⟨.hbm, 176, rfl⟩
abbrev main_call0_call0_c_28 : Ref sig .tc := ⟨.hbm, 177, rfl⟩
abbrev main_call0_call0_v111 : Ref sig .tc := ⟨.hbm, 178, rfl⟩
abbrev main_call0_call0_v112 : Ref sig .tc := ⟨.hbm, 179, rfl⟩
abbrev main_call0_call0_v113 : Ref sig .tc := ⟨.hbm, 180, rfl⟩
abbrev main_call0_call0_v114 : Ref sig .tc := ⟨.hbm, 181, rfl⟩
abbrev main_call0_call0_v115 : Ref sig .tc := ⟨.hbm, 182, rfl⟩
abbrev main_call0_call0_c_29 : Ref sig .tc := ⟨.hbm, 183, rfl⟩
abbrev main_call0_call0_v116 : Ref sig .tc := ⟨.hbm, 184, rfl⟩
abbrev main_call0_call0_v117 : Ref sig .tc := ⟨.hbm, 185, rfl⟩
abbrev main_call0_call0_c_30 : Ref sig .tc := ⟨.hbm, 186, rfl⟩
abbrev main_call0_call0_v118 : Ref sig .tc := ⟨.hbm, 187, rfl⟩
abbrev main_call0_call0_v119 : Ref sig .tc := ⟨.hbm, 188, rfl⟩
abbrev main_call0_call0_v120 : Ref sig .tc := ⟨.hbm, 189, rfl⟩
abbrev main_call0_call0_v121 : Ref sig .tc := ⟨.hbm, 190, rfl⟩
abbrev main_call0_call0_v122 : Ref sig .tc := ⟨.hbm, 191, rfl⟩
abbrev main_call0_call0_c_31 : Ref sig .tc := ⟨.hbm, 192, rfl⟩
abbrev main_call0_call0_v123 : Ref sig .tc := ⟨.hbm, 193, rfl⟩
abbrev main_call0_call0_v124 : Ref sig .tc := ⟨.hbm, 194, rfl⟩
abbrev main_call0_call0_c_32 : Ref sig .tc := ⟨.hbm, 195, rfl⟩
abbrev main_call0_call0_v125 : Ref sig .tc := ⟨.hbm, 196, rfl⟩
abbrev main_call0_call0_v126 : Ref sig .tc := ⟨.hbm, 197, rfl⟩
abbrev main_call0_call0_v127 : Ref sig .tc := ⟨.hbm, 198, rfl⟩
abbrev main_call0_call0_v128 : Ref sig .tc := ⟨.hbm, 199, rfl⟩
abbrev main_call0_call0_v129 : Ref sig .tc := ⟨.hbm, 200, rfl⟩
abbrev main_call0_call0_c_33 : Ref sig .tc := ⟨.hbm, 201, rfl⟩
abbrev main_call0_call0_v130 : Ref sig .tc := ⟨.hbm, 202, rfl⟩
abbrev main_call0_call0_v131 : Ref sig .tc := ⟨.hbm, 203, rfl⟩
abbrev main_call0_call0_c_34 : Ref sig .tc := ⟨.hbm, 204, rfl⟩
abbrev main_call0_call0_v132 : Ref sig .tc := ⟨.hbm, 205, rfl⟩
abbrev main_call0_call0_v133 : Ref sig .tc := ⟨.hbm, 206, rfl⟩
abbrev main_call0_call0_v134 : Ref sig .tc := ⟨.hbm, 207, rfl⟩
abbrev main_call0_call0_v135 : Ref sig .tc := ⟨.hbm, 208, rfl⟩
abbrev main_call0_call0_v136 : Ref sig .tc := ⟨.hbm, 209, rfl⟩
abbrev main_call0_call0_v137 : Ref sig .tc := ⟨.hbm, 210, rfl⟩
abbrev main_call0_call0_v138 : Ref sig .tc := ⟨.hbm, 211, rfl⟩
abbrev main_call0_call0_v139 : Ref sig .tc := ⟨.hbm, 212, rfl⟩
abbrev main_call0_call0_c_35 : Ref sig .tc := ⟨.hbm, 213, rfl⟩
abbrev main_call0_call0_v140 : Ref sig .tc := ⟨.hbm, 214, rfl⟩
abbrev main_call0_call0_v141 : Ref sig .tc := ⟨.hbm, 215, rfl⟩
abbrev main_call0_call0_v142 : Ref sig .tc := ⟨.hbm, 216, rfl⟩
abbrev main_call0_call0_c_36 : Ref sig .tc := ⟨.hbm, 217, rfl⟩
abbrev main_call0_call0_v143 : Ref sig .tc := ⟨.hbm, 218, rfl⟩
abbrev main_call0_call0_v144 : Ref sig .tc := ⟨.hbm, 219, rfl⟩
abbrev main_call0_call0_c_37 : Ref sig .tc := ⟨.hbm, 220, rfl⟩
abbrev main_call0_call0_v145 : Ref sig .tc := ⟨.hbm, 221, rfl⟩
abbrev main_call0_call0_v146 : Ref sig .tc := ⟨.hbm, 222, rfl⟩
abbrev main_call0_call0_v147 : Ref sig .tc := ⟨.hbm, 223, rfl⟩
abbrev main_call0_call0_v148 : Ref sig .tc := ⟨.hbm, 224, rfl⟩
abbrev main_call0_call0_v149 : Ref sig .tc := ⟨.hbm, 225, rfl⟩
abbrev main_call0_call0_c_38 : Ref sig .tc := ⟨.hbm, 226, rfl⟩
abbrev main_call0_call0_v150 : Ref sig .tc := ⟨.hbm, 227, rfl⟩
abbrev main_call0_call0_v151 : Ref sig .tc := ⟨.hbm, 228, rfl⟩
abbrev main_call0_call0_c_39 : Ref sig .tc := ⟨.hbm, 229, rfl⟩
abbrev main_call0_call0_v152 : Ref sig .tc := ⟨.hbm, 230, rfl⟩
abbrev main_call0_call0_v153 : Ref sig .tc := ⟨.hbm, 231, rfl⟩
abbrev main_call0_call0_v154 : Ref sig .tc := ⟨.hbm, 232, rfl⟩
abbrev main_call0_call0_v155 : Ref sig .tc := ⟨.hbm, 233, rfl⟩
abbrev main_call0_call0_v156 : Ref sig .tc := ⟨.hbm, 234, rfl⟩
abbrev main_call0_call0_c_40 : Ref sig .tc := ⟨.hbm, 235, rfl⟩
abbrev main_call0_call0_v157 : Ref sig .tc := ⟨.hbm, 236, rfl⟩
abbrev main_call0_call0_v158 : Ref sig .tc := ⟨.hbm, 237, rfl⟩
abbrev main_call0_call0_c_41 : Ref sig .tc := ⟨.hbm, 238, rfl⟩
abbrev main_call0_call0_v159 : Ref sig .tc := ⟨.hbm, 239, rfl⟩
abbrev main_call0_call0_v160 : Ref sig .tc := ⟨.hbm, 240, rfl⟩
abbrev main_call0_call0_v161 : Ref sig .tc := ⟨.hbm, 241, rfl⟩
abbrev main_call0_call0_v162 : Ref sig .tc := ⟨.hbm, 242, rfl⟩
abbrev main_call0_call0_v163 : Ref sig .tc := ⟨.hbm, 243, rfl⟩
abbrev main_call0_call0_c_42 : Ref sig .tc := ⟨.hbm, 244, rfl⟩
abbrev main_call0_call0_v164 : Ref sig .tc := ⟨.hbm, 245, rfl⟩
abbrev main_call0_call0_v165 : Ref sig .tc := ⟨.hbm, 246, rfl⟩
abbrev main_call0_call0_c_43 : Ref sig .tc := ⟨.hbm, 247, rfl⟩
abbrev main_call0_call0_v166 : Ref sig .tc := ⟨.hbm, 248, rfl⟩
abbrev main_call0_call0_v167 : Ref sig .tc := ⟨.hbm, 249, rfl⟩
abbrev main_call0_call0_v168 : Ref sig .tc := ⟨.hbm, 250, rfl⟩
abbrev main_call0_call0_v169 : Ref sig .tc := ⟨.hbm, 251, rfl⟩
abbrev main_call0_call0_v170 : Ref sig .tc := ⟨.hbm, 252, rfl⟩
abbrev main_call0_v19_0 : Ref sig .tc := ⟨.hbm, 253, rfl⟩
abbrev main_call0_call0_v172 : Ref sig .tc := ⟨.hbm, 254, rfl⟩
abbrev main_call0_call0_v173 : Ref sig .tc := ⟨.hbm, 255, rfl⟩
abbrev main_call0_call0_c_44 : Ref sig .tc := ⟨.hbm, 256, rfl⟩
abbrev main_call0_call0_v174 : Ref sig .tc := ⟨.hbm, 257, rfl⟩
abbrev main_call0_v19_1 : Ref sig .tc := ⟨.hbm, 258, rfl⟩
abbrev main_call0_v20 : Ref sig .tc := ⟨.hbm, 259, rfl⟩
abbrev main_call0_c_2 : Ref sig .tc := ⟨.hbm, 260, rfl⟩
abbrev main_call0_v21 : Ref sig .tc := ⟨.hbm, 261, rfl⟩
abbrev main_call0_v22 : Ref sig .tc := ⟨.hbm, 262, rfl⟩
abbrev main_call0_c_3 : Ref sig .tc := ⟨.hbm, 263, rfl⟩
abbrev main_call0_v23 : Ref sig .tc := ⟨.hbm, 264, rfl⟩
abbrev main_call0_v24 : Ref sig .tc := ⟨.hbm, 265, rfl⟩
abbrev main_call0_v25 : Ref sig .tc := ⟨.hbm, 266, rfl⟩
abbrev main_call0_cst : Ref sig .tc := ⟨.hbm, 267, rfl⟩
abbrev main_call0_v26 : Ref sig .tc := ⟨.hbm, 268, rfl⟩
abbrev main_call0_v27 : Ref sig .tc := ⟨.hbm, 269, rfl⟩
abbrev main_call0_v28 : Ref sig .tc := ⟨.hbm, 270, rfl⟩
abbrev main_call0_v29 : Ref sig .tc := ⟨.hbm, 271, rfl⟩
abbrev main_call0_v30 : Ref sig .tc := ⟨.hbm, 272, rfl⟩
abbrev main_call0_v31 : Ref sig .tc := ⟨.hbm, 273, rfl⟩
abbrev main_call0_v32 : Ref sig .tc := ⟨.hbm, 274, rfl⟩
abbrev main_call0_v33 : Ref sig .tc := ⟨.hbm, 275, rfl⟩
abbrev main_v8 : Ref sig .tc := ⟨.hbm, 276, rfl⟩
abbrev main_cst_3 : Ref sig .tc := ⟨.hbm, 277, rfl⟩
abbrev main_v9 : Ref sig .tc := ⟨.hbm, 278, rfl⟩
abbrev main_v10 : Ref sig .tc := ⟨.hbm, 279, rfl⟩
abbrev main_v11_0 : Ref sig .tc := ⟨.hbm, 280, rfl⟩
abbrev main_v11_1 : Ref sig .tc := ⟨.hbm, 281, rfl⟩
abbrev main_v11_2 : Ref sig .tc := ⟨.hbm, 282, rfl⟩
abbrev main_v11_3 : Ref sig .tc := ⟨.hbm, 283, rfl⟩
abbrev main_v11_4 : Ref sig .tc := ⟨.hbm, 284, rfl⟩
abbrev main_v11_5 : Ref sig .tc := ⟨.hbm, 285, rfl⟩
abbrev main_v12 : Ref sig .tc := ⟨.hbm, 286, rfl⟩
abbrev main_v13 : Ref sig .tc := ⟨.hbm, 287, rfl⟩
abbrev main_v14_0 : Ref sig .tc := ⟨.hbm, 288, rfl⟩
abbrev main_v14_1 : Ref sig .tc := ⟨.hbm, 289, rfl⟩
abbrev main_v14_2 : Ref sig .tc := ⟨.hbm, 290, rfl⟩
abbrev main_v15_0 : Ref sig .tc := ⟨.hbm, 291, rfl⟩
abbrev main_v15_1 : Ref sig .tc := ⟨.hbm, 292, rfl⟩
abbrev main_c_4 : Ref sig .tc := ⟨.hbm, 293, rfl⟩
abbrev main_v16 : Ref sig .tc := ⟨.hbm, 294, rfl⟩
abbrev main_v17 : Ref sig .tc := ⟨.hbm, 295, rfl⟩
abbrev main_v18 : Ref sig .tc := ⟨.hbm, 296, rfl⟩
abbrev main_v19 : Ref sig .tc := ⟨.hbm, 297, rfl⟩
abbrev main_v20 : Ref sig .tc := ⟨.hbm, 298, rfl⟩
abbrev main_v21 : Ref sig .tc := ⟨.hbm, 299, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg7_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem7_0 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25

abbrev nD : Nat := 1
abbrev τ : Topo := Topo.v7x

variable {F : FTy → Type} [FloatOps F]

abbrev grid0 : Pipeline.Grid := .none

abbrev stage0_0 : Fin 1 → Memref sig .tc .vmem S4096x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨1, ![8], ![false]⟩

def k1_cond1 (i : grid1.Coords) : BitVec 1 :=
  let arg0 : BitVec 32 := BitVec.ofNat 32 (i 0).val
  let c0_i32_24 : BitVec 32 := 0#32
  let v128 : BitVec 1 := Scalar.cmpi .eq arg0 c0_i32_24
  let v129 : BitVec 32 := Scalar.extui v128
  let c0_i32_25 : BitVec 32 := 0#32
  let v130 : BitVec 1 := Scalar.cmpi .ne v129 c0_i32_25
  v130

def k1_cond2 (i : grid1.Coords) : BitVec 1 :=
  let arg0 : BitVec 32 := BitVec.ofNat 32 (i 0).val
  let c7_i32 : BitVec 32 := 7#32
  let v135 : BitVec 1 := Scalar.cmpi .eq arg0 c7_i32
  let v136 : BitVec 32 := Scalar.extui v135
  let c0_i32_30 : BitVec 32 := 0#32
  let v137 : BitVec 1 := Scalar.cmpi .ne v136 c0_i32_30
  v137

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S256x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x8x640 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x8x640 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S4096x768x1x1 : Shape := ⟨4, ![4096, 768, 1, 1]⟩
abbrev S768x8 : Shape := ⟨2, ![768, 8]⟩
abbrev S_ : Shape := ⟨0, ![]⟩
abbrev S4096x768 : Shape := ⟨2, ![4096, 768]⟩
abbrev S4096x8 : Shape := ⟨2, ![4096, 8]⟩
abbrev S1x1 : Shape := ⟨2, ![1, 1]⟩
abbrev S4096 : Shape := ⟨1, ![4096]⟩
abbrev S4096x1 : Shape := ⟨2, ![4096, 1]⟩
abbrev S1 : Shape := ⟨1, ![1]⟩
abbrev S2 : Shape := ⟨1, ![2]⟩
abbrev S4096x2 : Shape := ⟨2, ![4096, 2]⟩
abbrev S1x8 : Shape := ⟨2, ![1, 8]⟩
abbrev S8 : Shape := ⟨1, ![8]⟩
abbrev S4096x8x1 : Shape := ⟨3, ![4096, 8, 1]⟩
abbrev S1x1x640 : Shape := ⟨3, ![1, 1, 640]⟩
abbrev S4096x8x640 : Shape := ⟨3, ![4096, 8, 640]⟩

abbrev nBuf : Space → Nat
  | .hbm => 529
  | .vmem => 0
  | .smem => 0
  | _ => 0

abbrev hbmTy0_0 (i : Nat) : BufTy := match i % 128 with
  | 0 => ⟨S4096x768x1x1, .f32⟩
  | 1 => ⟨S768x8, .f32⟩
  | 2 => ⟨S_, .f32⟩
  | 3 => ⟨S4096x768, .f32⟩
  | 4 => ⟨S_, .f32⟩
  | 5 => ⟨S4096x768, .f32⟩
  | 6 => ⟨S4096x768, .f32⟩
  | 7 => ⟨S4096x8, .f32⟩
  | 8 => ⟨S_, .f32⟩
  | 9 => ⟨S4096x8, .f32⟩
  | 10 => ⟨S4096x8, .f32⟩
  | 11 => ⟨S_, .f32⟩
  | 12 => ⟨S_, .f32⟩
  | 13 => ⟨S_, .f32⟩
  | 14 => ⟨S4096x8, .f32⟩
  | 15 => ⟨S4096x8, .f32⟩
  | 16 => ⟨S_, .f32⟩
  | 17 => ⟨S4096x8, .f32⟩
  | 18 => ⟨S4096x8, .f32⟩
  | 19 => ⟨S_, .i32⟩
  | 20 => ⟨S_, .f32⟩
  | 21 => ⟨S_, .f32⟩
  | 22 => ⟨S1x1, .f32⟩
  | 23 => ⟨S_, .f32⟩
  | 24 => ⟨S1x1, .f32⟩
  | 25 => ⟨S1x1, .f32⟩
  | 26 => ⟨S4096x8, .f32⟩
  | 27 => ⟨S4096x8, .f32⟩
  | 28 => ⟨S4096x8, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .i1⟩
  | 37 => ⟨S_, .f32⟩
  | 38 => ⟨S_, .f32⟩
  | 39 => ⟨S_, .f32⟩
  | 40 => ⟨S_, .f32⟩
  | 41 => ⟨S_, .f32⟩
  | 42 => ⟨S4096, .f32⟩
  | 43 => ⟨S4096x1, .f32⟩
  | 44 => ⟨S4096x8, .f32⟩
  | 45 => ⟨S4096x8, .f32⟩
  | 46 => ⟨S4096x8, .f32⟩
  | 47 => ⟨S_, .f32⟩
  | 48 => ⟨S4096, .f32⟩
  | 49 => ⟨S4096, .f32⟩
  | 50 => ⟨S4096, .f32⟩
  | 51 => ⟨S4096, .f32⟩
  | 52 => ⟨S_, .f32⟩
  | 53 => ⟨S_, .f32⟩
  | 54 => ⟨S_, .f32⟩
  | 55 => ⟨S_, .f32⟩
  | 56 => ⟨S_, .i32⟩
  | 57 => ⟨S_, .i32⟩
  | 58 => ⟨S_, .i32⟩
  | 59 => ⟨S_, .i32⟩
  | 60 => ⟨S1, .i32⟩
  | 61 => ⟨S_, .i32⟩
  | 62 => ⟨S_, .i32⟩
  | 63 => ⟨S_, .i32⟩
  | 64 => ⟨S1, .i32⟩
  | 65 => ⟨S2, .i32⟩
  | 66 => ⟨S_, .f32⟩
  | 67 => ⟨S_, .f32⟩
  | 68 => ⟨S_, .f32⟩
  | 69 => ⟨S_, .f32⟩
  | 70 => ⟨S1x1, .f32⟩
  | 71 => ⟨S1x1, .f32⟩
  | 72 => ⟨S1, .i32⟩
  | 73 => ⟨S_, .i32⟩
  | 74 => ⟨S1, .i32⟩
  | 75 => ⟨S_, .i32⟩
  | 76 => ⟨S4096x8, .i64⟩
  | 77 => ⟨S4096x8, .i64⟩
  | 78 => ⟨S_, .i64⟩
  | 79 => ⟨S4096x8, .i64⟩
  | 80 => ⟨S4096x8, .i64⟩
  | 81 => ⟨S_, .i64⟩
  | 82 => ⟨S4096x8, .i64⟩
  | 83 => ⟨S4096x8, .i64⟩
  | 84 => ⟨S4096x8, .i64⟩
  | 85 => ⟨S_, .i64⟩
  | 86 => ⟨S4096x8, .i64⟩
  | 87 => ⟨S4096x8, .i64⟩
  | 88 => ⟨S4096x8, .i32⟩
  | 89 => ⟨S4096x8, .i32⟩
  | 90 => ⟨S_, .i32⟩
  | 91 => ⟨S_, .i32⟩
  | 92 => ⟨S_, .i32⟩
  | 93 => ⟨S4096x8, .i32⟩
  | 94 => ⟨S4096x8, .i32⟩
  | 95 => ⟨S4096x8, .i32⟩
  | 96 => ⟨S4096x8, .i32⟩
  | 97 => ⟨S4096x8, .i32⟩
  | 98 => ⟨S_, .i32⟩
  | 99 => ⟨S4096x8, .i32⟩
  | 100 => ⟨S4096x8, .i32⟩
  | 101 => ⟨S_, .i32⟩
  | 102 => ⟨S4096x8, .i32⟩
  | 103 => ⟨S4096x8, .i32⟩
  | 104 => ⟨S4096x8, .i32⟩
  | 105 => ⟨S4096x8, .i32⟩
  | 106 => ⟨S4096x8, .i32⟩
  | 107 => ⟨S_, .i32⟩
  | 108 => ⟨S4096x8, .i32⟩
  | 109 => ⟨S4096x8, .i32⟩
  | 110 => ⟨S_, .i32⟩
  | 111 => ⟨S4096x8, .i32⟩
  | 112 => ⟨S4096x8, .i32⟩
  | 113 => ⟨S4096x8, .i32⟩
  | 114 => ⟨S4096x8, .i32⟩
  | 115 => ⟨S4096x8, .i32⟩
  | 116 => ⟨S_, .i32⟩
  | 117 => ⟨S4096x8, .i32⟩
  | 118 => ⟨S4096x8, .i32⟩
  | 119 => ⟨S_, .i32⟩
  | 120 => ⟨S4096x8, .i32⟩
  | 121 => ⟨S4096x8, .i32⟩
  | 122 => ⟨S4096x8, .i32⟩
  | 123 => ⟨S4096x8, .i32⟩
  | 124 => ⟨S4096x8, .i32⟩
  | 125 => ⟨S_, .i32⟩
  | 126 => ⟨S4096x8, .i32⟩
  | 127 => ⟨S4096x8, .i32⟩
  | _ => ⟨S4096x768x1x1, .f32⟩

abbrev hbmTy0_1 (i : Nat) : BufTy := match i % 128 with
  | 0 => ⟨S_, .i32⟩
  | 1 => ⟨S4096x8, .i32⟩
  | 2 => ⟨S4096x8, .i32⟩
  | 3 => ⟨S4096x8, .i32⟩
  | 4 => ⟨S4096x8, .i32⟩
  | 5 => ⟨S4096x8, .i32⟩
  | 6 => ⟨S4096x8, .i32⟩
  | 7 => ⟨S4096x8, .i32⟩
  | 8 => ⟨S4096x8, .i32⟩
  | 9 => ⟨S_, .i32⟩
  | 10 => ⟨S4096x8, .i32⟩
  | 11 => ⟨S4096x8, .i32⟩
  | 12 => ⟨S4096x8, .i32⟩
  | 13 => ⟨S_, .i32⟩
  | 14 => ⟨S4096x8, .i32⟩
  | 15 => ⟨S4096x8, .i32⟩
  | 16 => ⟨S_, .i32⟩
  | 17 => ⟨S4096x8, .i32⟩
  | 18 => ⟨S4096x8, .i32⟩
  | 19 => ⟨S4096x8, .i32⟩
  | 20 => ⟨S4096x8, .i32⟩
  | 21 => ⟨S4096x8, .i32⟩
  | 22 => ⟨S_, .i32⟩
  | 23 => ⟨S4096x8, .i32⟩
  | 24 => ⟨S4096x8, .i32⟩
  | 25 => ⟨S_, .i32⟩
  | 26 => ⟨S4096x8, .i32⟩
  | 27 => ⟨S4096x8, .i32⟩
  | 28 => ⟨S4096x8, .i32⟩
  | 29 => ⟨S4096x8, .i32⟩
  | 30 => ⟨S4096x8, .i32⟩
  | 31 => ⟨S_, .i32⟩
  | 32 => ⟨S4096x8, .i32⟩
  | 33 => ⟨S4096x8, .i32⟩
  | 34 => ⟨S_, .i32⟩
  | 35 => ⟨S4096x8, .i32⟩
  | 36 => ⟨S4096x8, .i32⟩
  | 37 => ⟨S4096x8, .i32⟩
  | 38 => ⟨S4096x8, .i32⟩
  | 39 => ⟨S4096x8, .i32⟩
  | 40 => ⟨S_, .i32⟩
  | 41 => ⟨S4096x8, .i32⟩
  | 42 => ⟨S4096x8, .i32⟩
  | 43 => ⟨S_, .i32⟩
  | 44 => ⟨S4096x8, .i32⟩
  | 45 => ⟨S4096x8, .i32⟩
  | 46 => ⟨S4096x8, .i32⟩
  | 47 => ⟨S4096x8, .i32⟩
  | 48 => ⟨S4096x8, .i32⟩
  | 49 => ⟨S4096x8, .i32⟩
  | 50 => ⟨S4096x8, .i32⟩
  | 51 => ⟨S4096x8, .i32⟩
  | 52 => ⟨S_, .i32⟩
  | 53 => ⟨S4096x8, .i32⟩
  | 54 => ⟨S4096x8, .i32⟩
  | 55 => ⟨S4096x8, .i32⟩
  | 56 => ⟨S_, .i32⟩
  | 57 => ⟨S4096x8, .i32⟩
  | 58 => ⟨S4096x8, .i32⟩
  | 59 => ⟨S_, .i32⟩
  | 60 => ⟨S4096x8, .i32⟩
  | 61 => ⟨S4096x8, .i32⟩
  | 62 => ⟨S4096x8, .i32⟩
  | 63 => ⟨S4096x8, .i32⟩
  | 64 => ⟨S4096x8, .i32⟩
  | 65 => ⟨S_, .i32⟩
  | 66 => ⟨S4096x8, .i32⟩
  | 67 => ⟨S4096x8, .i32⟩
  | 68 => ⟨S_, .i32⟩
  | 69 => ⟨S4096x8, .i32⟩
  | 70 => ⟨S4096x8, .i32⟩
  | 71 => ⟨S4096x8, .i32⟩
  | 72 => ⟨S4096x8, .i32⟩
  | 73 => ⟨S4096x8, .i32⟩
  | 74 => ⟨S_, .i32⟩
  | 75 => ⟨S4096x8, .i32⟩
  | 76 => ⟨S4096x8, .i32⟩
  | 77 => ⟨S_, .i32⟩
  | 78 => ⟨S4096x8, .i32⟩
  | 79 => ⟨S4096x8, .i32⟩
  | 80 => ⟨S4096x8, .i32⟩
  | 81 => ⟨S4096x8, .i32⟩
  | 82 => ⟨S4096x8, .i32⟩
  | 83 => ⟨S_, .i32⟩
  | 84 => ⟨S4096x8, .i32⟩
  | 85 => ⟨S4096x8, .i32⟩
  | 86 => ⟨S_, .i32⟩
  | 87 => ⟨S4096x8, .i32⟩
  | 88 => ⟨S4096x8, .i32⟩
  | 89 => ⟨S4096x8, .i32⟩
  | 90 => ⟨S4096x8, .i32⟩
  | 91 => ⟨S4096x8, .i32⟩
  | 92 => ⟨S4096x8, .i32⟩
  | 93 => ⟨S4096x8, .i32⟩
  | 94 => ⟨S4096x8, .i32⟩
  | 95 => ⟨S_, .i32⟩
  | 96 => ⟨S4096x8, .i32⟩
  | 97 => ⟨S4096x8, .i32⟩
  | 98 => ⟨S4096x8, .i32⟩
  | 99 => ⟨S_, .i32⟩
  | 100 => ⟨S4096x8, .i32⟩
  | 101 => ⟨S4096x8, .i32⟩
  | 102 => ⟨S_, .i32⟩
  | 103 => ⟨S4096x8, .i32⟩
  | 104 => ⟨S4096x8, .i32⟩
  | 105 => ⟨S4096x8, .i32⟩
  | 106 => ⟨S4096x8, .i32⟩
  | 107 => ⟨S4096x8, .i32⟩
  | 108 => ⟨S_, .i32⟩
  | 109 => ⟨S4096x8, .i32⟩
  | 110 => ⟨S4096x8, .i32⟩
  | 111 => ⟨S_, .i32⟩
  | 112 => ⟨S4096x8, .i32⟩
  | 113 => ⟨S4096x8, .i32⟩
  | 114 => ⟨S4096x8, .i32⟩
  | 115 => ⟨S4096x8, .i32⟩
  | 116 => ⟨S4096x8, .i32⟩
  | 117 => ⟨S_, .i32⟩
  | 118 => ⟨S4096x8, .i32⟩
  | 119 => ⟨S4096x8, .i32⟩
  | 120 => ⟨S_, .i32⟩
  | 121 => ⟨S4096x8, .i32⟩
  | 122 => ⟨S4096x8, .i32⟩
  | 123 => ⟨S4096x8, .i32⟩
  | 124 => ⟨S4096x8, .i32⟩
  | 125 => ⟨S4096x8, .i32⟩
  | 126 => ⟨S_, .i32⟩
  | 127 => ⟨S4096x8, .i32⟩
  | _ => ⟨S4096x768x1x1, .f32⟩

abbrev hbmTy0_2 (i : Nat) : BufTy := match i % 128 with
  | 0 => ⟨S4096x8, .i32⟩
  | 1 => ⟨S_, .i32⟩
  | 2 => ⟨S4096x8, .i32⟩
  | 3 => ⟨S4096x8, .i32⟩
  | 4 => ⟨S4096x8, .i32⟩
  | 5 => ⟨S4096x8, .i32⟩
  | 6 => ⟨S4096x8, .i32⟩
  | 7 => ⟨S4096x8, .i32⟩
  | 8 => ⟨S4096x8, .i32⟩
  | 9 => ⟨S4096x8, .i32⟩
  | 10 => ⟨S_, .i32⟩
  | 11 => ⟨S4096x8, .i32⟩
  | 12 => ⟨S4096x8, .i32⟩
  | 13 => ⟨S4096x8, .i32⟩
  | 14 => ⟨S_, .i32⟩
  | 15 => ⟨S4096x8, .i32⟩
  | 16 => ⟨S4096x8, .i32⟩
  | 17 => ⟨S_, .i32⟩
  | 18 => ⟨S4096x8, .i32⟩
  | 19 => ⟨S4096x8, .i32⟩
  | 20 => ⟨S4096x8, .i32⟩
  | 21 => ⟨S4096x8, .i32⟩
  | 22 => ⟨S4096x8, .i32⟩
  | 23 => ⟨S_, .i32⟩
  | 24 => ⟨S4096x8, .i32⟩
  | 25 => ⟨S4096x8, .i32⟩
  | 26 => ⟨S_, .i32⟩
  | 27 => ⟨S4096x8, .i32⟩
  | 28 => ⟨S4096x8, .i32⟩
  | 29 => ⟨S4096x8, .i32⟩
  | 30 => ⟨S4096x8, .i32⟩
  | 31 => ⟨S4096x8, .i32⟩
  | 32 => ⟨S_, .i32⟩
  | 33 => ⟨S4096x8, .i32⟩
  | 34 => ⟨S4096x8, .i32⟩
  | 35 => ⟨S_, .i32⟩
  | 36 => ⟨S4096x8, .i32⟩
  | 37 => ⟨S4096x8, .i32⟩
  | 38 => ⟨S4096x8, .i32⟩
  | 39 => ⟨S4096x8, .i32⟩
  | 40 => ⟨S4096x8, .i32⟩
  | 41 => ⟨S_, .i32⟩
  | 42 => ⟨S4096x8, .i32⟩
  | 43 => ⟨S4096x8, .i32⟩
  | 44 => ⟨S_, .i32⟩
  | 45 => ⟨S4096x8, .i32⟩
  | 46 => ⟨S4096x8, .i32⟩
  | 47 => ⟨S4096x8, .i32⟩
  | 48 => ⟨S4096x8, .i32⟩
  | 49 => ⟨S4096x8, .i32⟩
  | 50 => ⟨S4096x8, .i32⟩
  | 51 => ⟨S4096x8, .i32⟩
  | 52 => ⟨S4096x8, .i32⟩
  | 53 => ⟨S_, .i32⟩
  | 54 => ⟨S4096x8, .i32⟩
  | 55 => ⟨S4096x8, .i32⟩
  | 56 => ⟨S4096x8, .i32⟩
  | 57 => ⟨S_, .i32⟩
  | 58 => ⟨S4096x8, .i32⟩
  | 59 => ⟨S4096x8, .i32⟩
  | 60 => ⟨S_, .i32⟩
  | 61 => ⟨S4096x8, .i32⟩
  | 62 => ⟨S4096x8, .i32⟩
  | 63 => ⟨S4096x8, .f32⟩
  | 64 => ⟨S_, .f32⟩
  | 65 => ⟨S4096x8, .f32⟩
  | 66 => ⟨S4096x8, .f32⟩
  | 67 => ⟨S1x1, .f32⟩
  | 68 => ⟨S4096x8, .f32⟩
  | 69 => ⟨S4096x8, .f32⟩
  | 70 => ⟨S4096x8, .f32⟩
  | 71 => ⟨S4096x8, .f32⟩
  | 72 => ⟨S4096x8, .f32⟩
  | 73 => ⟨S4096x8, .f32⟩
  | 74 => ⟨S_, .f32⟩
  | 75 => ⟨S4096x8, .f32⟩
  | 76 => ⟨S4096x8, .f32⟩
  | 77 => ⟨S4096x8, .f32⟩
  | 78 => ⟨S_, .f32⟩
  | 79 => ⟨S4096, .f32⟩
  | 80 => ⟨S_, .f32⟩
  | 81 => ⟨S4096, .f32⟩
  | 82 => ⟨S4096, .f32⟩
  | 83 => ⟨S4096x1, .f32⟩
  | 84 => ⟨S4096x8, .f32⟩
  | 85 => ⟨S4096x8, .f32⟩
  | 86 => ⟨S4096x8, .f32⟩
  | 87 => ⟨S_, .f32⟩
  | 88 => ⟨S4096, .f32⟩
  | 89 => ⟨S4096x1, .f32⟩
  | 90 => ⟨S4096x8, .f32⟩
  | 91 => ⟨S4096x8, .f32⟩
  | 92 => ⟨S4096x8, .i32⟩
  | 93 => ⟨S_, .f32⟩
  | 94 => ⟨S_, .i32⟩
  | 95 => ⟨S4096, .f32⟩
  | 96 => ⟨S4096, .i32⟩
  | 97 => ⟨S4096, .i32⟩
  | 98 => ⟨S_, .i32⟩
  | 99 => ⟨S4096, .i32⟩
  | 100 => ⟨S4096, .i1⟩
  | 101 => ⟨S_, .i32⟩
  | 102 => ⟨S4096, .i32⟩
  | 103 => ⟨S4096, .i32⟩
  | 104 => ⟨S4096, .i32⟩
  | 105 => ⟨S_, .i32⟩
  | 106 => ⟨S4096, .i32⟩
  | 107 => ⟨S4096, .i1⟩
  | 108 => ⟨S_, .i32⟩
  | 109 => ⟨S4096, .i32⟩
  | 110 => ⟨S4096, .i32⟩
  | 111 => ⟨S4096, .i32⟩
  | 112 => ⟨S4096x1, .i32⟩
  | 113 => ⟨S4096x1, .i32⟩
  | 114 => ⟨S4096x2, .i32⟩
  | 115 => ⟨S4096, .f32⟩
  | 116 => ⟨S4096x1, .i32⟩
  | 117 => ⟨S1x8, .i32⟩
  | 118 => ⟨S4096x8, .i32⟩
  | 119 => ⟨S4096x8, .i32⟩
  | 120 => ⟨S4096x8, .i1⟩
  | 121 => ⟨S4096x8, .f32⟩
  | 122 => ⟨S4096, .f32⟩
  | 123 => ⟨S4096, .i32⟩
  | 124 => ⟨S4096, .f32⟩
  | 125 => ⟨S4096, .i32⟩
  | 126 => ⟨S_, .i32⟩
  | 127 => ⟨S4096, .i32⟩
  | _ => ⟨S4096x768x1x1, .f32⟩

abbrev hbmTy0_3 (i : Nat) : BufTy := match i % 128 with
  | 0 => ⟨S4096, .i1⟩
  | 1 => ⟨S_, .i32⟩
  | 2 => ⟨S4096, .i32⟩
  | 3 => ⟨S4096, .i32⟩
  | 4 => ⟨S4096, .i32⟩
  | 5 => ⟨S4096x1, .i32⟩
  | 6 => ⟨S1, .i32⟩
  | 7 => ⟨S_, .i32⟩
  | 8 => ⟨S4096x1, .i32⟩
  | 9 => ⟨S4096x1, .i1⟩
  | 10 => ⟨S1x1, .i32⟩
  | 11 => ⟨S4096x1, .i32⟩
  | 12 => ⟨S4096x1, .i1⟩
  | 13 => ⟨S4096x1, .i1⟩
  | 14 => ⟨S_, .i1⟩
  | 15 => ⟨S4096, .i1⟩
  | 16 => ⟨S4096x8, .f32⟩
  | 17 => ⟨S4096x8, .i1⟩
  | 18 => ⟨S_, .f32⟩
  | 19 => ⟨S4096x8, .f32⟩
  | 20 => ⟨S4096x8, .f32⟩
  | 21 => ⟨S4096x8, .i32⟩
  | 22 => ⟨S_, .i32⟩
  | 23 => ⟨S_, .i32⟩
  | 24 => ⟨S4096x8, .i32⟩
  | 25 => ⟨S_, .i32⟩
  | 26 => ⟨S4096x8, .i32⟩
  | 27 => ⟨S4096x8, .i32⟩
  | 28 => ⟨S_, .i32⟩
  | 29 => ⟨S4096x8, .i32⟩
  | 30 => ⟨S4096x8, .i1⟩
  | 31 => ⟨S_, .i32⟩
  | 32 => ⟨S4096x8, .i32⟩
  | 33 => ⟨S4096x8, .i1⟩
  | 34 => ⟨S4096x8, .i1⟩
  | 35 => ⟨S_, .i32⟩
  | 36 => ⟨S4096x8, .i32⟩
  | 37 => ⟨S4096x8, .i1⟩
  | 38 => ⟨S4096x8, .i1⟩
  | 39 => ⟨S4096x8, .i1⟩
  | 40 => ⟨S4096x8, .i32⟩
  | 41 => ⟨S4096, .i32⟩
  | 42 => ⟨S4096, .i32⟩
  | 43 => ⟨S4096, .i32⟩
  | 44 => ⟨S_, .i32⟩
  | 45 => ⟨S4096, .i32⟩
  | 46 => ⟨S4096, .i1⟩
  | 47 => ⟨S_, .i32⟩
  | 48 => ⟨S4096, .i32⟩
  | 49 => ⟨S4096, .i32⟩
  | 50 => ⟨S4096, .i32⟩
  | 51 => ⟨S4096x1, .i32⟩
  | 52 => ⟨S1, .i32⟩
  | 53 => ⟨S_, .i32⟩
  | 54 => ⟨S4096x1, .i32⟩
  | 55 => ⟨S4096x1, .i1⟩
  | 56 => ⟨S1x1, .i32⟩
  | 57 => ⟨S4096x1, .i32⟩
  | 58 => ⟨S4096x1, .i1⟩
  | 59 => ⟨S4096x1, .i1⟩
  | 60 => ⟨S_, .i1⟩
  | 61 => ⟨S4096, .i1⟩
  | 62 => ⟨S4096x8, .i32⟩
  | 63 => ⟨S4096x8, .i1⟩
  | 64 => ⟨S_, .i32⟩
  | 65 => ⟨S4096x8, .i32⟩
  | 66 => ⟨S4096x8, .i32⟩
  | 67 => ⟨S4096x8, .f32⟩
  | 68 => ⟨S_, .f32⟩
  | 69 => ⟨S8, .f32⟩
  | 70 => ⟨S_, .f32⟩
  | 71 => ⟨S8, .f32⟩
  | 72 => ⟨S8, .f32⟩
  | 73 => ⟨S_, .f32⟩
  | 74 => ⟨S8, .f32⟩
  | 75 => ⟨S_, .f32⟩
  | 76 => ⟨S8, .f32⟩
  | 77 => ⟨S8, .f32⟩
  | 78 => ⟨S8, .f32⟩
  | 79 => ⟨S_, .f32⟩
  | 80 => ⟨S_, .f32⟩
  | 81 => ⟨S_, .f32⟩
  | 82 => ⟨S_, .f32⟩
  | 83 => ⟨S4096x1, .f32⟩
  | 84 => ⟨S4096x8, .f32⟩
  | 85 => ⟨S4096x8, .f32⟩
  | 86 => ⟨S_, .f32⟩
  | 87 => ⟨S4096, .f32⟩
  | 88 => ⟨S4096x1, .f32⟩
  | 89 => ⟨S_, .f32⟩
  | 90 => ⟨S4096x1, .f32⟩
  | 91 => ⟨S4096x1, .f32⟩
  | 92 => ⟨S4096x8, .f32⟩
  | 93 => ⟨S4096x8, .f32⟩
  | 94 => ⟨S_, .i32⟩
  | 95 => ⟨S_, .i32⟩
  | 96 => ⟨S_, .i32⟩
  | 97 => ⟨S4096x8, .i32⟩
  | 98 => ⟨S4096x8, .i32⟩
  | 99 => ⟨S_, .i32⟩
  | 100 => ⟨S4096x8, .i32⟩
  | 101 => ⟨S4096x8, .i32⟩
  | 102 => ⟨S_, .i32⟩
  | 103 => ⟨S4096, .i32⟩
  | 104 => ⟨S4096, .i1⟩
  | 105 => ⟨S_, .i32⟩
  | 106 => ⟨S4096, .i32⟩
  | 107 => ⟨S4096, .i32⟩
  | 108 => ⟨S4096, .i32⟩
  | 109 => ⟨S4096x1, .i32⟩
  | 110 => ⟨S1, .i32⟩
  | 111 => ⟨S_, .i32⟩
  | 112 => ⟨S4096x1, .i32⟩
  | 113 => ⟨S4096x1, .i1⟩
  | 114 => ⟨S1x1, .i32⟩
  | 115 => ⟨S4096x1, .i32⟩
  | 116 => ⟨S4096x1, .i1⟩
  | 117 => ⟨S4096x1, .i1⟩
  | 118 => ⟨S_, .i1⟩
  | 119 => ⟨S4096, .i1⟩
  | 120 => ⟨S4096x8, .i32⟩
  | 121 => ⟨S4096x8, .i1⟩
  | 122 => ⟨S_, .i32⟩
  | 123 => ⟨S4096x8, .i32⟩
  | 124 => ⟨S4096x8, .i32⟩
  | 125 => ⟨S4096x8x1, .i32⟩
  | 126 => ⟨S1x1x640, .i32⟩
  | 127 => ⟨S4096x8x640, .i32⟩
  | _ => ⟨S4096x768x1x1, .f32⟩

abbrev hbmTy0_4 (i : Nat) : BufTy := match i % 128 with
  | 0 => ⟨S4096x8x640, .i32⟩
  | 1 => ⟨S4096x8x640, .i1⟩
  | 2 => ⟨S4096x8x640, .f32⟩
  | 3 => ⟨S4096x8x1, .f32⟩
  | 4 => ⟨S4096x8x640, .f32⟩
  | 5 => ⟨S4096x8x640, .f32⟩
  | 6 => ⟨S4096x8x1, .f32⟩
  | 7 => ⟨S_, .f32⟩
  | 8 => ⟨S4096x8x1, .f32⟩
  | 9 => ⟨S4096x8x1, .i1⟩
  | 10 => ⟨S4096x8x1, .i1⟩
  | 11 => ⟨S_, .f32⟩
  | 12 => ⟨S4096x8x640, .f32⟩
  | 13 => ⟨S4096x8x640, .i1⟩
  | 14 => ⟨S4096x8x640, .i1⟩
  | 15 => ⟨S4096x8x640, .i1⟩
  | 16 => ⟨S4096x8x640, .i1⟩
  | _ => ⟨S4096x768x1x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x768x1x1, .f32⟩

abbrev bufTy : (tb : Table) → Fin (tcTables nBuf tb) → BufTy
  | .hbm, ⟨i, _⟩ => hbmTy i
  | _, _ => ⟨S4096x768x1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_cst_3 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_c : Ref sig .tc := ⟨.hbm, 19, rfl⟩
abbrev main_call1_call0_cst : Ref sig .tc := ⟨.hbm, 20, rfl⟩
abbrev main_call1_call0_v0 : Ref sig .tc := ⟨.hbm, 21, rfl⟩
abbrev main_call1_call0_v1 : Ref sig .tc := ⟨.hbm, 22, rfl⟩
abbrev main_call1_call0_cst_0 : Ref sig .tc := ⟨.hbm, 23, rfl⟩
abbrev main_call1_call0_v2 : Ref sig .tc := ⟨.hbm, 24, rfl⟩
abbrev main_call1_call0_v3 : Ref sig .tc := ⟨.hbm, 25, rfl⟩
abbrev main_call1_call0_v4 : Ref sig .tc := ⟨.hbm, 26, rfl⟩
abbrev main_call1_call0_v5 : Ref sig .tc := ⟨.hbm, 27, rfl⟩
abbrev main_call1_call0_v6 : Ref sig .tc := ⟨.hbm, 28, rfl⟩
abbrev main_call1_call0_v7 : Ref sig .tc := ⟨.hbm, 29, rfl⟩
abbrev main_call1_call0_cst_1 : Ref sig .tc := ⟨.hbm, 30, rfl⟩
abbrev main_call1_call0_v8 : Ref sig .tc := ⟨.hbm, 31, rfl⟩
abbrev main_call1_call0_cst_2 : Ref sig .tc := ⟨.hbm, 32, rfl⟩
abbrev main_call1_call0_v9 : Ref sig .tc := ⟨.hbm, 33, rfl⟩
abbrev main_call1_call0_v10 : Ref sig .tc := ⟨.hbm, 34, rfl⟩
abbrev main_call1_call0_cst_3 : Ref sig .tc := ⟨.hbm, 35, rfl⟩
abbrev main_call1_call0_v11 : Ref sig .tc := ⟨.hbm, 36, rfl⟩
abbrev main_call1_call0_cst_4 : Ref sig .tc := ⟨.hbm, 37, rfl⟩
abbrev main_call1_call0_call0_v0 : Ref sig .tc := ⟨.hbm, 38, rfl⟩
abbrev main_call1_v0 : Ref sig .tc := ⟨.hbm, 39, rfl⟩
abbrev main_v7 : Ref sig .tc := ⟨.hbm, 40, rfl⟩
abbrev main_cst_4 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_cst_5 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_cst_6 : Ref sig .tc := ⟨.hbm, 52, rfl⟩
abbrev main_v17 : Ref sig .tc := ⟨.hbm, 53, rfl⟩
abbrev main_cst_7 : Ref sig .tc := ⟨.hbm, 54, rfl⟩
abbrev main_v18 : Ref sig .tc := ⟨.hbm, 55, rfl⟩
abbrev main_c_8 : Ref sig .tc := ⟨.hbm, 56, rfl⟩
abbrev main_c_9 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_c_10 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_11 : Ref sig .tc := ⟨.hbm, 66, rfl⟩
abbrev main_cst_12 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_c : Ref sig .tc := ⟨.hbm, 78, rfl⟩
abbrev main_call2_v10 : Ref sig .tc := ⟨.hbm, 79, rfl⟩
abbrev main_call2_v11 : Ref sig .tc := ⟨.hbm, 80, rfl⟩
abbrev main_call2_c_0 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_c_1 : Ref sig .tc := ⟨.hbm, 85, rfl⟩
abbrev main_call2_v15 : Ref sig .tc := ⟨.hbm, 86, rfl⟩
abbrev main_call2_v16 : Ref sig .tc := ⟨.hbm, 87, rfl⟩
abbrev main_call2_v17 : Ref sig .tc := ⟨.hbm, 88, rfl⟩
abbrev main_call2_v18 : Ref sig .tc := ⟨.hbm, 89, rfl⟩
abbrev main_call2_call0_v0 : Ref sig .tc := ⟨.hbm, 90, rfl⟩
abbrev main_call2_call0_c : Ref sig .tc := ⟨.hbm, 91, rfl⟩
abbrev main_call2_call0_v1 : Ref sig .tc := ⟨.hbm, 92, rfl⟩
abbrev main_call2_call0_v2 : Ref sig .tc := ⟨.hbm, 93, rfl⟩
abbrev main_call2_call0_v3 : Ref sig .tc := ⟨.hbm, 94, rfl⟩
abbrev main_call2_call0_v4 : Ref sig .tc := ⟨.hbm, 95, rfl⟩
abbrev main_call2_call0_v5 : Ref sig .tc := ⟨.hbm, 96, rfl⟩
abbrev main_call2_call0_v6 : Ref sig .tc := ⟨.hbm, 97, rfl⟩
abbrev main_call2_call0_c_0 : Ref sig .tc := ⟨.hbm, 98, rfl⟩
abbrev main_call2_call0_v7 : Ref sig .tc := ⟨.hbm, 99, rfl⟩
abbrev main_call2_call0_v8 : Ref sig .tc := ⟨.hbm, 100, rfl⟩
abbrev main_call2_call0_c_1 : Ref sig .tc := ⟨.hbm, 101, rfl⟩
abbrev main_call2_call0_v9 : Ref sig .tc := ⟨.hbm, 102, rfl⟩
abbrev main_call2_call0_v10 : Ref sig .tc := ⟨.hbm, 103, rfl⟩
abbrev main_call2_call0_v11 : Ref sig .tc := ⟨.hbm, 104, rfl⟩
abbrev main_call2_call0_v12 : Ref sig .tc := ⟨.hbm, 105, rfl⟩
abbrev main_call2_call0_v13 : Ref sig .tc := ⟨.hbm, 106, rfl⟩
abbrev main_call2_call0_c_2 : Ref sig .tc := ⟨.hbm, 107, rfl⟩
abbrev main_call2_call0_v14 : Ref sig .tc := ⟨.hbm, 108, rfl⟩
abbrev main_call2_call0_v15 : Ref sig .tc := ⟨.hbm, 109, rfl⟩
abbrev main_call2_call0_c_3 : Ref sig .tc := ⟨.hbm, 110, rfl⟩
abbrev main_call2_call0_v16 : Ref sig .tc := ⟨.hbm, 111, rfl⟩
abbrev main_call2_call0_v17 : Ref sig .tc := ⟨.hbm, 112, rfl⟩
abbrev main_call2_call0_v18 : Ref sig .tc := ⟨.hbm, 113, rfl⟩
abbrev main_call2_call0_v19 : Ref sig .tc := ⟨.hbm, 114, rfl⟩
abbrev main_call2_call0_v20 : Ref sig .tc := ⟨.hbm, 115, rfl⟩
abbrev main_call2_call0_c_4 : Ref sig .tc := ⟨.hbm, 116, rfl⟩
abbrev main_call2_call0_v21 : Ref sig .tc := ⟨.hbm, 117, rfl⟩
abbrev main_call2_call0_v22 : Ref sig .tc := ⟨.hbm, 118, rfl⟩
abbrev main_call2_call0_c_5 : Ref sig .tc := ⟨.hbm, 119, rfl⟩
abbrev main_call2_call0_v23 : Ref sig .tc := ⟨.hbm, 120, rfl⟩
abbrev main_call2_call0_v24 : Ref sig .tc := ⟨.hbm, 121, rfl⟩
abbrev main_call2_call0_v25 : Ref sig .tc := ⟨.hbm, 122, rfl⟩
abbrev main_call2_call0_v26 : Ref sig .tc := ⟨.hbm, 123, rfl⟩
abbrev main_call2_call0_v27 : Ref sig .tc := ⟨.hbm, 124, rfl⟩
abbrev main_call2_call0_c_6 : Ref sig .tc := ⟨.hbm, 125, rfl⟩
abbrev main_call2_call0_v28 : Ref sig .tc := ⟨.hbm, 126, rfl⟩
abbrev main_call2_call0_v29 : Ref sig .tc := ⟨.hbm, 127, rfl⟩
abbrev main_call2_call0_c_7 : Ref sig .tc := ⟨.hbm, 128, rfl⟩
abbrev main_call2_call0_v30 : Ref sig .tc := ⟨.hbm, 129, rfl⟩
abbrev main_call2_call0_v31 : Ref sig .tc := ⟨.hbm, 130, rfl⟩
abbrev main_call2_call0_v32 : Ref sig .tc := ⟨.hbm, 131, rfl⟩
abbrev main_call2_call0_v33 : Ref sig .tc := ⟨.hbm, 132, rfl⟩
abbrev main_call2_call0_v34 : Ref sig .tc := ⟨.hbm, 133, rfl⟩
abbrev main_call2_call0_v35 : Ref sig .tc := ⟨.hbm, 134, rfl⟩
abbrev main_call2_call0_v36 : Ref sig .tc := ⟨.hbm, 135, rfl⟩
abbrev main_call2_call0_v37 : Ref sig .tc := ⟨.hbm, 136, rfl⟩
abbrev main_call2_call0_c_8 : Ref sig .tc := ⟨.hbm, 137, rfl⟩
abbrev main_call2_call0_v38 : Ref sig .tc := ⟨.hbm, 138, rfl⟩
abbrev main_call2_call0_v39 : Ref sig .tc := ⟨.hbm, 139, rfl⟩
abbrev main_call2_call0_v40 : Ref sig .tc := ⟨.hbm, 140, rfl⟩
abbrev main_call2_call0_c_9 : Ref sig .tc := ⟨.hbm, 141, rfl⟩
abbrev main_call2_call0_v41 : Ref sig .tc := ⟨.hbm, 142, rfl⟩
abbrev main_call2_call0_v42 : Ref sig .tc := ⟨.hbm, 143, rfl⟩
abbrev main_call2_call0_c_10 : Ref sig .tc := ⟨.hbm, 144, rfl⟩
abbrev main_call2_call0_v43 : Ref sig .tc := ⟨.hbm, 145, rfl⟩
abbrev main_call2_call0_v44 : Ref sig .tc := ⟨.hbm, 146, rfl⟩
abbrev main_call2_call0_v45 : Ref sig .tc := ⟨.hbm, 147, rfl⟩
abbrev main_call2_call0_v46 : Ref sig .tc := ⟨.hbm, 148, rfl⟩
abbrev main_call2_call0_v47 : Ref sig .tc := ⟨.hbm, 149, rfl⟩
abbrev main_call2_call0_c_11 : Ref sig .tc := ⟨.hbm, 150, rfl⟩
abbrev main_call2_call0_v48 : Ref sig .tc := ⟨.hbm, 151, rfl⟩
abbrev main_call2_call0_v49 : Ref sig .tc := ⟨.hbm, 152, rfl⟩
abbrev main_call2_call0_c_12 : Ref sig .tc := ⟨.hbm, 153, rfl⟩
abbrev main_call2_call0_v50 : Ref sig .tc := ⟨.hbm, 154, rfl⟩
abbrev main_call2_call0_v51 : Ref sig .tc := ⟨.hbm, 155, rfl⟩
abbrev main_call2_call0_v52 : Ref sig .tc := ⟨.hbm, 156, rfl⟩
abbrev main_call2_call0_v53 : Ref sig .tc := ⟨.hbm, 157, rfl⟩
abbrev main_call2_call0_v54 : Ref sig .tc := ⟨.hbm, 158, rfl⟩
abbrev main_call2_call0_c_13 : Ref sig .tc := ⟨.hbm, 159, rfl⟩
abbrev main_call2_call0_v55 : Ref sig .tc := ⟨.hbm, 160, rfl⟩
abbrev main_call2_call0_v56 : Ref sig .tc := ⟨.hbm, 161, rfl⟩
abbrev main_call2_call0_c_14 : Ref sig .tc := ⟨.hbm, 162, rfl⟩
abbrev main_call2_call0_v57 : Ref sig .tc := ⟨.hbm, 163, rfl⟩
abbrev main_call2_call0_v58 : Ref sig .tc := ⟨.hbm, 164, rfl⟩
abbrev main_call2_call0_v59 : Ref sig .tc := ⟨.hbm, 165, rfl⟩
abbrev main_call2_call0_v60 : Ref sig .tc := ⟨.hbm, 166, rfl⟩
abbrev main_call2_call0_v61 : Ref sig .tc := ⟨.hbm, 167, rfl⟩
abbrev main_call2_call0_c_15 : Ref sig .tc := ⟨.hbm, 168, rfl⟩
abbrev main_call2_call0_v62 : Ref sig .tc := ⟨.hbm, 169, rfl⟩
abbrev main_call2_call0_v63 : Ref sig .tc := ⟨.hbm, 170, rfl⟩
abbrev main_call2_call0_c_16 : Ref sig .tc := ⟨.hbm, 171, rfl⟩
abbrev main_call2_call0_v64 : Ref sig .tc := ⟨.hbm, 172, rfl⟩
abbrev main_call2_call0_v65 : Ref sig .tc := ⟨.hbm, 173, rfl⟩
abbrev main_call2_call0_v66 : Ref sig .tc := ⟨.hbm, 174, rfl⟩
abbrev main_call2_call0_v67 : Ref sig .tc := ⟨.hbm, 175, rfl⟩
abbrev main_call2_call0_v68 : Ref sig .tc := ⟨.hbm, 176, rfl⟩
abbrev main_call2_call0_v69 : Ref sig .tc := ⟨.hbm, 177, rfl⟩
abbrev main_call2_call0_v70 : Ref sig .tc := ⟨.hbm, 178, rfl⟩
abbrev main_call2_call0_v71 : Ref sig .tc := ⟨.hbm, 179, rfl⟩
abbrev main_call2_call0_c_17 : Ref sig .tc := ⟨.hbm, 180, rfl⟩
abbrev main_call2_call0_v72 : Ref sig .tc := ⟨.hbm, 181, rfl⟩
abbrev main_call2_call0_v73 : Ref sig .tc := ⟨.hbm, 182, rfl⟩
abbrev main_call2_call0_v74 : Ref sig .tc := ⟨.hbm, 183, rfl⟩
abbrev main_call2_call0_c_18 : Ref sig .tc := ⟨.hbm, 184, rfl⟩
abbrev main_call2_call0_v75 : Ref sig .tc := ⟨.hbm, 185, rfl⟩
abbrev main_call2_call0_v76 : Ref sig .tc := ⟨.hbm, 186, rfl⟩
abbrev main_call2_call0_c_19 : Ref sig .tc := ⟨.hbm, 187, rfl⟩
abbrev main_call2_call0_v77 : Ref sig .tc := ⟨.hbm, 188, rfl⟩
abbrev main_call2_call0_v78 : Ref sig .tc := ⟨.hbm, 189, rfl⟩
abbrev main_call2_call0_v79 : Ref sig .tc := ⟨.hbm, 190, rfl⟩
abbrev main_call2_call0_v80 : Ref sig .tc := ⟨.hbm, 191, rfl⟩
abbrev main_call2_call0_v81 : Ref sig .tc := ⟨.hbm, 192, rfl⟩
abbrev main_call2_call0_c_20 : Ref sig .tc := ⟨.hbm, 193, rfl⟩
abbrev main_call2_call0_v82 : Ref sig .tc := ⟨.hbm, 194, rfl⟩
abbrev main_call2_call0_v83 : Ref sig .tc := ⟨.hbm, 195, rfl⟩
abbrev main_call2_call0_c_21 : Ref sig .tc := ⟨.hbm, 196, rfl⟩
abbrev main_call2_call0_v84 : Ref sig .tc := ⟨.hbm, 197, rfl⟩
abbrev main_call2_call0_v85 : Ref sig .tc := ⟨.hbm, 198, rfl⟩
abbrev main_call2_call0_v86 : Ref sig .tc := ⟨.hbm, 199, rfl⟩
abbrev main_call2_call0_v87 : Ref sig .tc := ⟨.hbm, 200, rfl⟩
abbrev main_call2_call0_v88 : Ref sig .tc := ⟨.hbm, 201, rfl⟩
abbrev main_call2_call0_c_22 : Ref sig .tc := ⟨.hbm, 202, rfl⟩
abbrev main_call2_call0_v89 : Ref sig .tc := ⟨.hbm, 203, rfl⟩
abbrev main_call2_call0_v90 : Ref sig .tc := ⟨.hbm, 204, rfl⟩
abbrev main_call2_call0_c_23 : Ref sig .tc := ⟨.hbm, 205, rfl⟩
abbrev main_call2_call0_v91 : Ref sig .tc := ⟨.hbm, 206, rfl⟩
abbrev main_call2_call0_v92 : Ref sig .tc := ⟨.hbm, 207, rfl⟩
abbrev main_call2_call0_v93 : Ref sig .tc := ⟨.hbm, 208, rfl⟩
abbrev main_call2_call0_v94 : Ref sig .tc := ⟨.hbm, 209, rfl⟩
abbrev main_call2_call0_v95 : Ref sig .tc := ⟨.hbm, 210, rfl⟩
abbrev main_call2_call0_c_24 : Ref sig .tc := ⟨.hbm, 211, rfl⟩
abbrev main_call2_call0_v96 : Ref sig .tc := ⟨.hbm, 212, rfl⟩
abbrev main_call2_call0_v97 : Ref sig .tc := ⟨.hbm, 213, rfl⟩
abbrev main_call2_call0_c_25 : Ref sig .tc := ⟨.hbm, 214, rfl⟩
abbrev main_call2_call0_v98 : Ref sig .tc := ⟨.hbm, 215, rfl⟩
abbrev main_call2_call0_v99 : Ref sig .tc := ⟨.hbm, 216, rfl⟩
abbrev main_call2_call0_v100 : Ref sig .tc := ⟨.hbm, 217, rfl⟩
abbrev main_call2_call0_v101 : Ref sig .tc := ⟨.hbm, 218, rfl⟩
abbrev main_call2_call0_v102 : Ref sig .tc := ⟨.hbm, 219, rfl⟩
abbrev main_call2_call0_v103 : Ref sig .tc := ⟨.hbm, 220, rfl⟩
abbrev main_call2_call0_v104 : Ref sig .tc := ⟨.hbm, 221, rfl⟩
abbrev main_call2_call0_v105 : Ref sig .tc := ⟨.hbm, 222, rfl⟩
abbrev main_call2_call0_c_26 : Ref sig .tc := ⟨.hbm, 223, rfl⟩
abbrev main_call2_call0_v106 : Ref sig .tc := ⟨.hbm, 224, rfl⟩
abbrev main_call2_call0_v107 : Ref sig .tc := ⟨.hbm, 225, rfl⟩
abbrev main_call2_call0_v108 : Ref sig .tc := ⟨.hbm, 226, rfl⟩
abbrev main_call2_call0_c_27 : Ref sig .tc := ⟨.hbm, 227, rfl⟩
abbrev main_call2_call0_v109 : Ref sig .tc := ⟨.hbm, 228, rfl⟩
abbrev main_call2_call0_v110 : Ref sig .tc := ⟨.hbm, 229, rfl⟩
abbrev main_call2_call0_c_28 : Ref sig .tc := ⟨.hbm, 230, rfl⟩
abbrev main_call2_call0_v111 : Ref sig .tc := ⟨.hbm, 231, rfl⟩
abbrev main_call2_call0_v112 : Ref sig .tc := ⟨.hbm, 232, rfl⟩
abbrev main_call2_call0_v113 : Ref sig .tc := ⟨.hbm, 233, rfl⟩
abbrev main_call2_call0_v114 : Ref sig .tc := ⟨.hbm, 234, rfl⟩
abbrev main_call2_call0_v115 : Ref sig .tc := ⟨.hbm, 235, rfl⟩
abbrev main_call2_call0_c_29 : Ref sig .tc := ⟨.hbm, 236, rfl⟩
abbrev main_call2_call0_v116 : Ref sig .tc := ⟨.hbm, 237, rfl⟩
abbrev main_call2_call0_v117 : Ref sig .tc := ⟨.hbm, 238, rfl⟩
abbrev main_call2_call0_c_30 : Ref sig .tc := ⟨.hbm, 239, rfl⟩
abbrev main_call2_call0_v118 : Ref sig .tc := ⟨.hbm, 240, rfl⟩
abbrev main_call2_call0_v119 : Ref sig .tc := ⟨.hbm, 241, rfl⟩
abbrev main_call2_call0_v120 : Ref sig .tc := ⟨.hbm, 242, rfl⟩
abbrev main_call2_call0_v121 : Ref sig .tc := ⟨.hbm, 243, rfl⟩
abbrev main_call2_call0_v122 : Ref sig .tc := ⟨.hbm, 244, rfl⟩
abbrev main_call2_call0_c_31 : Ref sig .tc := ⟨.hbm, 245, rfl⟩
abbrev main_call2_call0_v123 : Ref sig .tc := ⟨.hbm, 246, rfl⟩
abbrev main_call2_call0_v124 : Ref sig .tc := ⟨.hbm, 247, rfl⟩
abbrev main_call2_call0_c_32 : Ref sig .tc := ⟨.hbm, 248, rfl⟩
abbrev main_call2_call0_v125 : Ref sig .tc := ⟨.hbm, 249, rfl⟩
abbrev main_call2_call0_v126 : Ref sig .tc := ⟨.hbm, 250, rfl⟩
abbrev main_call2_call0_v127 : Ref sig .tc := ⟨.hbm, 251, rfl⟩
abbrev main_call2_call0_v128 : Ref sig .tc := ⟨.hbm, 252, rfl⟩
abbrev main_call2_call0_v129 : Ref sig .tc := ⟨.hbm, 253, rfl⟩
abbrev main_call2_call0_c_33 : Ref sig .tc := ⟨.hbm, 254, rfl⟩
abbrev main_call2_call0_v130 : Ref sig .tc := ⟨.hbm, 255, rfl⟩
abbrev main_call2_call0_v131 : Ref sig .tc := ⟨.hbm, 256, rfl⟩
abbrev main_call2_call0_c_34 : Ref sig .tc := ⟨.hbm, 257, rfl⟩
abbrev main_call2_call0_v132 : Ref sig .tc := ⟨.hbm, 258, rfl⟩
abbrev main_call2_call0_v133 : Ref sig .tc := ⟨.hbm, 259, rfl⟩
abbrev main_call2_call0_v134 : Ref sig .tc := ⟨.hbm, 260, rfl⟩
abbrev main_call2_call0_v135 : Ref sig .tc := ⟨.hbm, 261, rfl⟩
abbrev main_call2_call0_v136 : Ref sig .tc := ⟨.hbm, 262, rfl⟩
abbrev main_call2_call0_v137 : Ref sig .tc := ⟨.hbm, 263, rfl⟩
abbrev main_call2_call0_v138 : Ref sig .tc := ⟨.hbm, 264, rfl⟩
abbrev main_call2_call0_v139 : Ref sig .tc := ⟨.hbm, 265, rfl⟩
abbrev main_call2_call0_c_35 : Ref sig .tc := ⟨.hbm, 266, rfl⟩
abbrev main_call2_call0_v140 : Ref sig .tc := ⟨.hbm, 267, rfl⟩
abbrev main_call2_call0_v141 : Ref sig .tc := ⟨.hbm, 268, rfl⟩
abbrev main_call2_call0_v142 : Ref sig .tc := ⟨.hbm, 269, rfl⟩
abbrev main_call2_call0_c_36 : Ref sig .tc := ⟨.hbm, 270, rfl⟩
abbrev main_call2_call0_v143 : Ref sig .tc := ⟨.hbm, 271, rfl⟩
abbrev main_call2_call0_v144 : Ref sig .tc := ⟨.hbm, 272, rfl⟩
abbrev main_call2_call0_c_37 : Ref sig .tc := ⟨.hbm, 273, rfl⟩
abbrev main_call2_call0_v145 : Ref sig .tc := ⟨.hbm, 274, rfl⟩
abbrev main_call2_call0_v146 : Ref sig .tc := ⟨.hbm, 275, rfl⟩
abbrev main_call2_call0_v147 : Ref sig .tc := ⟨.hbm, 276, rfl⟩
abbrev main_call2_call0_v148 : Ref sig .tc := ⟨.hbm, 277, rfl⟩
abbrev main_call2_call0_v149 : Ref sig .tc := ⟨.hbm, 278, rfl⟩
abbrev main_call2_call0_c_38 : Ref sig .tc := ⟨.hbm, 279, rfl⟩
abbrev main_call2_call0_v150 : Ref sig .tc := ⟨.hbm, 280, rfl⟩
abbrev main_call2_call0_v151 : Ref sig .tc := ⟨.hbm, 281, rfl⟩
abbrev main_call2_call0_c_39 : Ref sig .tc := ⟨.hbm, 282, rfl⟩
abbrev main_call2_call0_v152 : Ref sig .tc := ⟨.hbm, 283, rfl⟩
abbrev main_call2_call0_v153 : Ref sig .tc := ⟨.hbm, 284, rfl⟩
abbrev main_call2_call0_v154 : Ref sig .tc := ⟨.hbm, 285, rfl⟩
abbrev main_call2_call0_v155 : Ref sig .tc := ⟨.hbm, 286, rfl⟩
abbrev main_call2_call0_v156 : Ref sig .tc := ⟨.hbm, 287, rfl⟩
abbrev main_call2_call0_c_40 : Ref sig .tc := ⟨.hbm, 288, rfl⟩
abbrev main_call2_call0_v157 : Ref sig .tc := ⟨.hbm, 289, rfl⟩
abbrev main_call2_call0_v158 : Ref sig .tc := ⟨.hbm, 290, rfl⟩
abbrev main_call2_call0_c_41 : Ref sig .tc := ⟨.hbm, 291, rfl⟩
abbrev main_call2_call0_v159 : Ref sig .tc := ⟨.hbm, 292, rfl⟩
abbrev main_call2_call0_v160 : Ref sig .tc := ⟨.hbm, 293, rfl⟩
abbrev main_call2_call0_v161 : Ref sig .tc := ⟨.hbm, 294, rfl⟩
abbrev main_call2_call0_v162 : Ref sig .tc := ⟨.hbm, 295, rfl⟩
abbrev main_call2_call0_v163 : Ref sig .tc := ⟨.hbm, 296, rfl⟩
abbrev main_call2_call0_c_42 : Ref sig .tc := ⟨.hbm, 297, rfl⟩
abbrev main_call2_call0_v164 : Ref sig .tc := ⟨.hbm, 298, rfl⟩
abbrev main_call2_call0_v165 : Ref sig .tc := ⟨.hbm, 299, rfl⟩
abbrev main_call2_call0_c_43 : Ref sig .tc := ⟨.hbm, 300, rfl⟩
abbrev main_call2_call0_v166 : Ref sig .tc := ⟨.hbm, 301, rfl⟩
abbrev main_call2_call0_v167 : Ref sig .tc := ⟨.hbm, 302, rfl⟩
abbrev main_call2_call0_v168 : Ref sig .tc := ⟨.hbm, 303, rfl⟩
abbrev main_call2_call0_v169 : Ref sig .tc := ⟨.hbm, 304, rfl⟩
abbrev main_call2_call0_v170 : Ref sig .tc := ⟨.hbm, 305, rfl⟩
abbrev main_call2_v19_0 : Ref sig .tc := ⟨.hbm, 306, rfl⟩
abbrev main_call2_call0_v172 : Ref sig .tc := ⟨.hbm, 307, rfl⟩
abbrev main_call2_call0_v173 : Ref sig .tc := ⟨.hbm, 308, rfl⟩
abbrev main_call2_call0_c_44 : Ref sig .tc := ⟨.hbm, 309, rfl⟩
abbrev main_call2_call0_v174 : Ref sig .tc := ⟨.hbm, 310, rfl⟩
abbrev main_call2_v19_1 : Ref sig .tc := ⟨.hbm, 311, rfl⟩
abbrev main_call2_v20 : Ref sig .tc := ⟨.hbm, 312, rfl⟩
abbrev main_call2_c_2 : Ref sig .tc := ⟨.hbm, 313, rfl⟩
abbrev main_call2_v21 : Ref sig .tc := ⟨.hbm, 314, rfl⟩
abbrev main_call2_v22 : Ref sig .tc := ⟨.hbm, 315, rfl⟩
abbrev main_call2_c_3 : Ref sig .tc := ⟨.hbm, 316, rfl⟩
abbrev main_call2_v23 : Ref sig .tc := ⟨.hbm, 317, rfl⟩
abbrev main_call2_v24 : Ref sig .tc := ⟨.hbm, 318, rfl⟩
abbrev main_call2_v25 : Ref sig .tc := ⟨.hbm, 319, rfl⟩
abbrev main_call2_cst : Ref sig .tc := ⟨.hbm, 320, rfl⟩
abbrev main_call2_v26 : Ref sig .tc := ⟨.hbm, 321, rfl⟩
abbrev main_call2_v27 : Ref sig .tc := ⟨.hbm, 322, rfl⟩
abbrev main_call2_v28 : Ref sig .tc := ⟨.hbm, 323, rfl⟩
abbrev main_call2_v29 : Ref sig .tc := ⟨.hbm, 324, rfl⟩
abbrev main_call2_v30 : Ref sig .tc := ⟨.hbm, 325, rfl⟩
abbrev main_call2_v31 : Ref sig .tc := ⟨.hbm, 326, rfl⟩
abbrev main_call2_v32 : Ref sig .tc := ⟨.hbm, 327, rfl⟩
abbrev main_call2_v33 : Ref sig .tc := ⟨.hbm, 328, rfl⟩
abbrev main_v26 : Ref sig .tc := ⟨.hbm, 329, rfl⟩
abbrev main_cst_13 : Ref sig .tc := ⟨.hbm, 330, rfl⟩
abbrev main_v27 : Ref sig .tc := ⟨.hbm, 331, rfl⟩
abbrev main_v28 : Ref sig .tc := ⟨.hbm, 332, rfl⟩
abbrev main_v29 : Ref sig .tc := ⟨.hbm, 333, rfl⟩
abbrev main_cst_14 : Ref sig .tc := ⟨.hbm, 334, rfl⟩
abbrev main_v30 : Ref sig .tc := ⟨.hbm, 335, rfl⟩
abbrev main_cst_15 : Ref sig .tc := ⟨.hbm, 336, rfl⟩
abbrev main_v31 : Ref sig .tc := ⟨.hbm, 337, rfl⟩
abbrev main_v32 : Ref sig .tc := ⟨.hbm, 338, rfl⟩
abbrev main_v33 : Ref sig .tc := ⟨.hbm, 339, rfl⟩
abbrev main_v34 : Ref sig .tc := ⟨.hbm, 340, rfl⟩
abbrev main_v35 : Ref sig .tc := ⟨.hbm, 341, rfl⟩
abbrev main_v36 : Ref sig .tc := ⟨.hbm, 342, rfl⟩
abbrev main_cst_16 : Ref sig .tc := ⟨.hbm, 343, rfl⟩
abbrev main_v37 : Ref sig .tc := ⟨.hbm, 344, rfl⟩
abbrev main_v38 : Ref sig .tc := ⟨.hbm, 345, rfl⟩
abbrev main_v39 : Ref sig .tc := ⟨.hbm, 346, rfl⟩
abbrev main_v40 : Ref sig .tc := ⟨.hbm, 347, rfl⟩
abbrev main_call3_v0 : Ref sig .tc := ⟨.hbm, 348, rfl⟩
abbrev main_call3_cst : Ref sig .tc := ⟨.hbm, 349, rfl⟩
abbrev main_call3_c : Ref sig .tc := ⟨.hbm, 350, rfl⟩
abbrev main_call3_v1_0 : Ref sig .tc := ⟨.hbm, 351, rfl⟩
abbrev main_v41 : Ref sig .tc := ⟨.hbm, 352, rfl⟩
abbrev main_v42 : Ref sig .tc := ⟨.hbm, 353, rfl⟩
abbrev main_c_17 : Ref sig .tc := ⟨.hbm, 354, rfl⟩
abbrev main_v43 : Ref sig .tc := ⟨.hbm, 355, rfl⟩
abbrev main_v44 : Ref sig .tc := ⟨.hbm, 356, rfl⟩
abbrev main_c_18 : Ref sig .tc := ⟨.hbm, 357, rfl⟩
abbrev main_v45 : Ref sig .tc := ⟨.hbm, 358, rfl⟩
abbrev main_v46 : Ref sig .tc := ⟨.hbm, 359, rfl⟩
abbrev main_v47 : Ref sig .tc := ⟨.hbm, 360, rfl⟩
abbrev main_c_19 : Ref sig .tc := ⟨.hbm, 361, rfl⟩
abbrev main_v48 : Ref sig .tc := ⟨.hbm, 362, rfl⟩
abbrev main_v49 : Ref sig .tc := ⟨.hbm, 363, rfl⟩
abbrev main_c_20 : Ref sig .tc := ⟨.hbm, 364, rfl⟩
abbrev main_v50 : Ref sig .tc := ⟨.hbm, 365, rfl⟩
abbrev main_v51 : Ref sig .tc := ⟨.hbm, 366, rfl⟩
abbrev main_v52 : Ref sig .tc := ⟨.hbm, 367, rfl⟩
abbrev main_v53 : Ref sig .tc := ⟨.hbm, 368, rfl⟩
abbrev main_v54 : Ref sig .tc := ⟨.hbm, 369, rfl⟩
abbrev main_v55 : Ref sig .tc := ⟨.hbm, 370, rfl⟩
abbrev main_v56 : Ref sig .tc := ⟨.hbm, 371, rfl⟩
abbrev main_call4_v0 : Ref sig .tc := ⟨.hbm, 372, rfl⟩
abbrev main_call4_v1 : Ref sig .tc := ⟨.hbm, 373, rfl⟩
abbrev main_call4_v2 : Ref sig .tc := ⟨.hbm, 374, rfl⟩
abbrev main_call4_v3 : Ref sig .tc := ⟨.hbm, 375, rfl⟩
abbrev main_call4_v4 : Ref sig .tc := ⟨.hbm, 376, rfl⟩
abbrev main_v57 : Ref sig .tc := ⟨.hbm, 377, rfl⟩
abbrev main_v58 : Ref sig .tc := ⟨.hbm, 378, rfl⟩
abbrev main_call5_v0 : Ref sig .tc := ⟨.hbm, 379, rfl⟩
abbrev main_call5_v1_0 : Ref sig .tc := ⟨.hbm, 380, rfl⟩
abbrev main_v59 : Ref sig .tc := ⟨.hbm, 381, rfl⟩
abbrev main_call6_c : Ref sig .tc := ⟨.hbm, 382, rfl⟩
abbrev main_call6_v0 : Ref sig .tc := ⟨.hbm, 383, rfl⟩
abbrev main_call6_v1 : Ref sig .tc := ⟨.hbm, 384, rfl⟩
abbrev main_call6_c_0 : Ref sig .tc := ⟨.hbm, 385, rfl⟩
abbrev main_call6_v2 : Ref sig .tc := ⟨.hbm, 386, rfl⟩
abbrev main_call6_v3 : Ref sig .tc := ⟨.hbm, 387, rfl⟩
abbrev main_call6_v4 : Ref sig .tc := ⟨.hbm, 388, rfl⟩
abbrev main_call6_v5 : Ref sig .tc := ⟨.hbm, 389, rfl⟩
abbrev main_call6_c_1 : Ref sig .tc := ⟨.hbm, 390, rfl⟩
abbrev main_call6_c_2 : Ref sig .tc := ⟨.hbm, 391, rfl⟩
abbrev main_call6_v6 : Ref sig .tc := ⟨.hbm, 392, rfl⟩
abbrev main_call6_v7 : Ref sig .tc := ⟨.hbm, 393, rfl⟩
abbrev main_call6_v8 : Ref sig .tc := ⟨.hbm, 394, rfl⟩
abbrev main_call6_v9 : Ref sig .tc := ⟨.hbm, 395, rfl⟩
abbrev main_call6_v10 : Ref sig .tc := ⟨.hbm, 396, rfl⟩
abbrev main_call6_v11 : Ref sig .tc := ⟨.hbm, 397, rfl⟩
abbrev main_call6_c_3 : Ref sig .tc := ⟨.hbm, 398, rfl⟩
abbrev main_call6_v12 : Ref sig .tc := ⟨.hbm, 399, rfl⟩
abbrev main_call6_v13 : Ref sig .tc := ⟨.hbm, 400, rfl⟩
abbrev main_call6_v14 : Ref sig .tc := ⟨.hbm, 401, rfl⟩
abbrev main_call6_cst : Ref sig .tc := ⟨.hbm, 402, rfl⟩
abbrev main_call6_v15 : Ref sig .tc := ⟨.hbm, 403, rfl⟩
abbrev main_v60 : Ref sig .tc := ⟨.hbm, 404, rfl⟩
abbrev main_v61 : Ref sig .tc := ⟨.hbm, 405, rfl⟩
abbrev main_call7_call0_c : Ref sig .tc := ⟨.hbm, 406, rfl⟩
abbrev main_call7_call0_v0 : Ref sig .tc := ⟨.hbm, 407, rfl⟩
abbrev main_v62 : Ref sig .tc := ⟨.hbm, 408, rfl⟩
abbrev main_c_21 : Ref sig .tc := ⟨.hbm, 409, rfl⟩
abbrev main_v63 : Ref sig .tc := ⟨.hbm, 410, rfl⟩
abbrev main_v64 : Ref sig .tc := ⟨.hbm, 411, rfl⟩
abbrev main_c_22 : Ref sig .tc := ⟨.hbm, 412, rfl⟩
abbrev main_v65 : Ref sig .tc := ⟨.hbm, 413, rfl⟩
abbrev main_v66 : Ref sig .tc := ⟨.hbm, 414, rfl⟩
abbrev main_c_23 : Ref sig .tc := ⟨.hbm, 415, rfl⟩
abbrev main_v67 : Ref sig .tc := ⟨.hbm, 416, rfl⟩
abbrev main_v68 : Ref sig .tc := ⟨.hbm, 417, rfl⟩
abbrev main_v69 : Ref sig .tc := ⟨.hbm, 418, rfl⟩
abbrev main_c_24 : Ref sig .tc := ⟨.hbm, 419, rfl⟩
abbrev main_v70 : Ref sig .tc := ⟨.hbm, 420, rfl⟩
abbrev main_v71 : Ref sig .tc := ⟨.hbm, 421, rfl⟩
abbrev main_v72 : Ref sig .tc := ⟨.hbm, 422, rfl⟩
abbrev main_v73 : Ref sig .tc := ⟨.hbm, 423, rfl⟩
abbrev main_v74 : Ref sig .tc := ⟨.hbm, 424, rfl⟩
abbrev main_call8_v0 : Ref sig .tc := ⟨.hbm, 425, rfl⟩
abbrev main_call8_v1_0 : Ref sig .tc := ⟨.hbm, 426, rfl⟩
abbrev main_v75 : Ref sig .tc := ⟨.hbm, 427, rfl⟩
abbrev main_call9_c : Ref sig .tc := ⟨.hbm, 428, rfl⟩
abbrev main_call9_v0 : Ref sig .tc := ⟨.hbm, 429, rfl⟩
abbrev main_call9_v1 : Ref sig .tc := ⟨.hbm, 430, rfl⟩
abbrev main_call9_c_0 : Ref sig .tc := ⟨.hbm, 431, rfl⟩
abbrev main_call9_v2 : Ref sig .tc := ⟨.hbm, 432, rfl⟩
abbrev main_call9_v3 : Ref sig .tc := ⟨.hbm, 433, rfl⟩
abbrev main_call9_v4 : Ref sig .tc := ⟨.hbm, 434, rfl⟩
abbrev main_call9_v5 : Ref sig .tc := ⟨.hbm, 435, rfl⟩
abbrev main_call9_c_1 : Ref sig .tc := ⟨.hbm, 436, rfl⟩
abbrev main_call9_c_2 : Ref sig .tc := ⟨.hbm, 437, rfl⟩
abbrev main_call9_v6 : Ref sig .tc := ⟨.hbm, 438, rfl⟩
abbrev main_call9_v7 : Ref sig .tc := ⟨.hbm, 439, rfl⟩
abbrev main_call9_v8 : Ref sig .tc := ⟨.hbm, 440, rfl⟩
abbrev main_call9_v9 : Ref sig .tc := ⟨.hbm, 441, rfl⟩
abbrev main_call9_v10 : Ref sig .tc := ⟨.hbm, 442, rfl⟩
abbrev main_call9_v11 : Ref sig .tc := ⟨.hbm, 443, rfl⟩
abbrev main_call9_c_3 : Ref sig .tc := ⟨.hbm, 444, rfl⟩
abbrev main_call9_v12 : Ref sig .tc := ⟨.hbm, 445, rfl⟩
abbrev main_call9_v13 : Ref sig .tc := ⟨.hbm, 446, rfl⟩
abbrev main_call9_v14 : Ref sig .tc := ⟨.hbm, 447, rfl⟩
abbrev main_call9_c_4 : Ref sig .tc := ⟨.hbm, 448, rfl⟩
abbrev main_call9_v15 : Ref sig .tc := ⟨.hbm, 449, rfl⟩
abbrev main_v76 : Ref sig .tc := ⟨.hbm, 450, rfl⟩
abbrev main_v77 : Ref sig .tc := ⟨.hbm, 451, rfl⟩
abbrev main_cst_25 : Ref sig .tc := ⟨.hbm, 452, rfl⟩
abbrev main_v78 : Ref sig .tc := ⟨.hbm, 453, rfl⟩
abbrev main_cst_26 : Ref sig .tc := ⟨.hbm, 454, rfl⟩
abbrev main_v79 : Ref sig .tc := ⟨.hbm, 455, rfl⟩
abbrev main_v80 : Ref sig .tc := ⟨.hbm, 456, rfl⟩
abbrev main_cst_27 : Ref sig .tc := ⟨.hbm, 457, rfl⟩
abbrev main_v81 : Ref sig .tc := ⟨.hbm, 458, rfl⟩
abbrev main_cst_28 : Ref sig .tc := ⟨.hbm, 459, rfl⟩
abbrev main_v82 : Ref sig .tc := ⟨.hbm, 460, rfl⟩
abbrev main_v83 : Ref sig .tc := ⟨.hbm, 461, rfl⟩
abbrev main_v84 : Ref sig .tc := ⟨.hbm, 462, rfl⟩
abbrev main_cst_29 : Ref sig .tc := ⟨.hbm, 463, rfl⟩
abbrev main_v85 : Ref sig .tc := ⟨.hbm, 464, rfl⟩
abbrev main_cst_30 : Ref sig .tc := ⟨.hbm, 465, rfl⟩
abbrev main_v86 : Ref sig .tc := ⟨.hbm, 466, rfl⟩
abbrev main_v87 : Ref sig .tc := ⟨.hbm, 467, rfl⟩
abbrev main_v88 : Ref sig .tc := ⟨.hbm, 468, rfl⟩
abbrev main_v89 : Ref sig .tc := ⟨.hbm, 469, rfl⟩
abbrev main_cst_31 : Ref sig .tc := ⟨.hbm, 470, rfl⟩
abbrev main_v90 : Ref sig .tc := ⟨.hbm, 471, rfl⟩
abbrev main_v91 : Ref sig .tc := ⟨.hbm, 472, rfl⟩
abbrev main_cst_32 : Ref sig .tc := ⟨.hbm, 473, rfl⟩
abbrev main_v92 : Ref sig .tc := ⟨.hbm, 474, rfl⟩
abbrev main_v93 : Ref sig .tc := ⟨.hbm, 475, rfl⟩
abbrev main_v94 : Ref sig .tc := ⟨.hbm, 476, rfl⟩
abbrev main_v95 : Ref sig .tc := ⟨.hbm, 477, rfl⟩
abbrev main_c_33 : Ref sig .tc := ⟨.hbm, 478, rfl⟩
abbrev main_c_34 : Ref sig .tc := ⟨.hbm, 479, rfl⟩
abbrev main_call10_v0 : Ref sig .tc := ⟨.hbm, 480, rfl⟩
abbrev main_call10_v1 : Ref sig .tc := ⟨.hbm, 481, rfl⟩
abbrev main_call10_v2 : Ref sig .tc := ⟨.hbm, 482, rfl⟩
abbrev main_call10_v3 : Ref sig .tc := ⟨.hbm, 483, rfl⟩
abbrev main_call10_v4 : Ref sig .tc := ⟨.hbm, 484, rfl⟩
abbrev main_v96 : Ref sig .tc := ⟨.hbm, 485, rfl⟩
abbrev main_call11_c : Ref sig .tc := ⟨.hbm, 486, rfl⟩
abbrev main_call11_v0 : Ref sig .tc := ⟨.hbm, 487, rfl⟩
abbrev main_call11_v1 : Ref sig .tc := ⟨.hbm, 488, rfl⟩
abbrev main_call11_c_0 : Ref sig .tc := ⟨.hbm, 489, rfl⟩
abbrev main_call11_v2 : Ref sig .tc := ⟨.hbm, 490, rfl⟩
abbrev main_call11_v3 : Ref sig .tc := ⟨.hbm, 491, rfl⟩
abbrev main_call11_v4 : Ref sig .tc := ⟨.hbm, 492, rfl⟩
abbrev main_call11_v5 : Ref sig .tc := ⟨.hbm, 493, rfl⟩
abbrev main_call11_c_1 : Ref sig .tc := ⟨.hbm, 494, rfl⟩
abbrev main_call11_c_2 : Ref sig .tc := ⟨.hbm, 495, rfl⟩
abbrev main_call11_v6 : Ref sig .tc := ⟨.hbm, 496, rfl⟩
abbrev main_call11_v7 : Ref sig .tc := ⟨.hbm, 497, rfl⟩
abbrev main_call11_v8 : Ref sig .tc := ⟨.hbm, 498, rfl⟩
abbrev main_call11_v9 : Ref sig .tc := ⟨.hbm, 499, rfl⟩
abbrev main_call11_v10 : Ref sig .tc := ⟨.hbm, 500, rfl⟩
abbrev main_call11_v11 : Ref sig .tc := ⟨.hbm, 501, rfl⟩
abbrev main_call11_c_3 : Ref sig .tc := ⟨.hbm, 502, rfl⟩
abbrev main_call11_v12 : Ref sig .tc := ⟨.hbm, 503, rfl⟩
abbrev main_call11_v13 : Ref sig .tc := ⟨.hbm, 504, rfl⟩
abbrev main_call11_v14 : Ref sig .tc := ⟨.hbm, 505, rfl⟩
abbrev main_call11_c_4 : Ref sig .tc := ⟨.hbm, 506, rfl⟩
abbrev main_call11_v15 : Ref sig .tc := ⟨.hbm, 507, rfl⟩
abbrev main_v97 : Ref sig .tc := ⟨.hbm, 508, rfl⟩
abbrev main_call12_v0 : Ref sig .tc := ⟨.hbm, 509, rfl⟩
abbrev main_call12_v1 : Ref sig .tc := ⟨.hbm, 510, rfl⟩
abbrev main_call12_v2 : Ref sig .tc := ⟨.hbm, 511, rfl⟩
abbrev main_call12_v3 : Ref sig .tc := ⟨.hbm, 512, rfl⟩
abbrev main_call12_v4 : Ref sig .tc := ⟨.hbm, 513, rfl⟩
abbrev main_v98 : Ref sig .tc := ⟨.hbm, 514, rfl⟩
abbrev main_v99 : Ref sig .tc := ⟨.hbm, 515, rfl⟩
abbrev main_v100 : Ref sig .tc := ⟨.hbm, 516, rfl⟩
abbrev main_v101 : Ref sig .tc := ⟨.hbm, 517, rfl⟩
abbrev main_v102 : Ref sig .tc := ⟨.hbm, 518, rfl⟩
abbrev main_cst_35 : Ref sig .tc := ⟨.hbm, 519, rfl⟩
abbrev main_v103 : Ref sig .tc := ⟨.hbm, 520, rfl⟩
abbrev main_v104 : Ref sig .tc := ⟨.hbm, 521, rfl⟩
abbrev main_v105 : Ref sig .tc := ⟨.hbm, 522, rfl⟩
abbrev main_cst_36 : Ref sig .tc := ⟨.hbm, 523, rfl⟩
abbrev main_v106 : Ref sig .tc := ⟨.hbm, 524, rfl⟩
abbrev main_v107 : Ref sig .tc := ⟨.hbm, 525, rfl⟩
abbrev main_v108 : Ref sig .tc := ⟨.hbm, 526, rfl⟩
abbrev main_v109 : Ref sig .tc := ⟨.hbm, 527, rfl⟩
abbrev main_v110 : Ref sig .tc := ⟨.hbm, 528, rfl⟩

abbrev nD : Nat := 1
abbrev τ : Topo := Topo.v7x

variable {F : FTy → Type} [FloatOps F]
-- ==== Proof.RefOps0.lean ====
/- The reference's operations, window 0 of its program, as lists, and the window as the run of those lists. -/
module

public import proofs.«01_k».proof.Proof.Gen.ReferenceIdeal
public import Idealize.ShloMosaic.Lib.Pipeline.Kit
public import Idealize.ShloMosaic.Lib.Pipeline.Regions

@[expose] public section

set_option maxRecDepth 3912

noncomputable section

namespace Cert.ReferenceIdeal.Run

open Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- 11 host operations of @main, window 0 (statements 1 … 60), in order. -/
abbrev main_part0_ops0 : List (HloOp τ sig (Elt F)) :=
  [ StableHlo.nullary main_cst (constant S_ .f32 0x00000000#32),
    StableHlo.binary main_arg0 main_cst main_v0 ((fun x v => Host.reduceAdd x v reducesTo_S4096x768x1x1_S4096x768_d2_3 h_S_) : (⟨S4096x768x1x1, .f32⟩ : BufTy).Contents (Elt F) → (⟨S_, .f32⟩ : BufTy).Contents (Elt F) → (⟨S4096x768, .f32⟩ : BufTy).Contents (Elt F)),
    StableHlo.nullary main_cst_0 (constant S_ .f32 0x3F800000#32),
    StableHlo.unary main_cst_0 main_v1 (broadcastInDim S4096x768 ![] bcast_S_S4096x768 : (⟨S_, .f32⟩ : BufTy).Contents (Elt F) → (⟨S4096x768, .f32⟩ : BufTy).Contents (Elt F)),
    StableHlo.binary main_v0 main_v1 main_v2 (Host.divf : (⟨S4096x768, .f32⟩ : BufTy).Contents (Elt F) → (⟨S4096x768, .f32⟩ : BufTy).Contents (Elt F) → (⟨S4096x768, .f32⟩ : BufTy).Contents (Elt F)),
    StableHlo.binary main_v2 main_arg1 main_v3 ((fun l r => Host.dotGeneral dot_S4096x768_S768x8_S4096x8_1_0_0_1_n_n none l r) : (⟨S4096x768, .f32⟩ : BufTy).Contents (Elt F) → (⟨S768x8, .f32⟩ : BufTy).Contents (Elt F) → (⟨S4096x8, .f32⟩ : BufTy).Contents (Elt F)),
    StableHlo.nullary main_cst_1 (constant S_ .f32 0x3FC00000#32),
    StableHlo.unary main_cst_1 main_v4 (broadcastInDim S4096x8 ![] bcast_S_S4096x8 : (⟨S_, .f32⟩ : BufTy).Contents (Elt F) → (⟨S4096x8, .f32⟩ : BufTy).Contents (Elt F)),
    StableHlo.binary main_v3 main_v4 main_v5 (Host.divf : (⟨S4096x8, .f32⟩ : BufTy).Contents (Elt F) → (⟨S4096x8, .f32⟩ : BufTy).Contents (Elt F) → (⟨S4096x8, .f32⟩ : BufTy).Contents (Elt F)),
    StableHlo.nullary main_cst_2 (constant S_ .f32 0xC1200000#32),
    StableHlo.nullary main_cst_3 (constant S_ .f32 0x41200000#32) ]
/-- Each of these operations touches only buffers the core holds. -/
theorem main_part0_ops0_sub : (main_part0_ops0 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.nullary_bufs_sub ..⟩
/-- 6 host operations of @clip (main_call0), window 0 (statements 1 … 60), in order. -/
abbrev main_part0_ops1 : List (HloOp τ sig (Elt F)) :=
  [ StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S4096x8, .f32⟩) (broadcastInDim S4096x8 ![] bcast_S_S4096x8),
    StableHlo.TRef.binary (.of main_call0_v1 : StableHlo.TRef sig ⟨S4096x8, .f32⟩) (.of main_v5 : StableHlo.TRef sig ⟨S4096x8, .f32⟩) (.of main_call0_v2 : StableHlo.TRef sig ⟨S4096x8, .f32⟩) maximumf,
    StableHlo.TRef.unary (.of main_cst_3 : StableHlo.TRef sig ⟨S_, .f32⟩) (.of main_call0_v3 : StableHlo.TRef sig ⟨S_, .f32⟩) id,
    StableHlo.TRef.unary (.of main_call0_v3 : StableHlo.TRef sig ⟨S_, .f32⟩) (.of main_call0_v4 : StableHlo.TRef sig ⟨S4096x8, .f32⟩) (broadcastInDim S4096x8 ![] bcast_S_S4096x8),
    StableHlo.TRef.binary (.of main_call0_v4 : StableHlo.TRef sig ⟨S4096x8, .f32⟩) (.of main_call0_v2 : StableHlo.TRef sig ⟨S4096x8, .f32⟩) (.of main_v6 : StableHlo.TRef sig ⟨S4096x8, .f32⟩) minimumf ]
/-- Each of these operations touches only buffers the core holds. -/
theorem main_part0_ops1_sub : (main_part0_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 1 host operation of @main, window 0 (statements 1 … 60), in order. -/
abbrev main_part0_ops2 : List (HloOp τ sig (Elt F)) :=
  [ StableHlo.nullary main_c (constantI S_ 32 0#32) ]
/-- Each of these operations touches only buffers the core holds. -/
theorem main_part0_ops2_sub : (main_part0_ops2 : List (HloOp τ sig (Elt F))).Forall fun op => op.bufs ⊆ StableHlo.tcRefs τ sig :=
  StableHlo.nullary_bufs_sub ..
/-- 21 host operations of @_std (main_call1), window 0 (statements 1 … 60), in order. -/
abbrev main_part0_ops3 : List (HloOp τ sig (Elt F)) :=
  [ StableHlo.TRef.nullary (.of main_call1_call0_cst : StableHlo.TRef sig ⟨S_, .f32⟩) (constant S_ .f32 0x00000000#32),
    StableHlo.TRef.binary (.of main_v6 : StableHlo.TRef sig ⟨S4096x8, .f32⟩) (.of main_call1_call0_cst : StableHlo.TRef sig ⟨S_, .f32⟩) (.of main_call1_call0_v0 : StableHlo.TRef sig ⟨S_, .f32⟩) (fun x v => Host.reduceAdd x v reducesTo_S4096x8_S_d0_1 h_S_),
    StableHlo.TRef.unary (.of main_call1_call0_v0 : StableHlo.TRef sig ⟨S_, .f32⟩) (.of main_call1_call0_v1 : StableHlo.TRef sig ⟨S1x1, .f32⟩) (broadcastInDim S1x1 ![] bcast_S_S1x1),
    StableHlo.TRef.nullary (.of main_call1_call0_cst_0 : StableHlo.TRef sig ⟨S_, .f32⟩) (constant S_ .f32 0x47000000#32),
    StableHlo.TRef.unary (.of main_call1_call0_cst_0 : StableHlo.TRef sig ⟨S_, .f32⟩) (.of main_call1_call0_v2 : StableHlo.TRef sig ⟨S1x1, .f32⟩) (broadcastInDim S1x1 ![] bcast_S_S1x1),
    StableHlo.TRef.binary (.of main_call1_call0_v1 : StableHlo.TRef sig ⟨S1x1, .f32⟩) (.of main_call1_call0_v2 : StableHlo.TRef sig ⟨S1x1, .f32⟩) (.of main_call1_call0_v3 : StableHlo.TRef sig ⟨S1x1, .f32⟩) Host.divf,
    StableHlo.TRef.unary (.of main_call1_call0_v3 : StableHlo.TRef sig ⟨S1x1, .f32⟩) (.of main_call1_call0_v4 : StableHlo.TRef sig ⟨S4096x8, .f32⟩) (broadcastInDim S4096x8 ![0, 1] bcast_S1x1_S4096x8_0_1),
    StableHlo.TRef.binary (.of main_v6 : StableHlo.TRef sig ⟨S4096x8, .f32⟩) (.of main_call1_call0_v4 : StableHlo.TRef sig ⟨S4096x8, .f32⟩) (.of main_call1_call0_v5 : StableHlo.TRef sig ⟨S4096x8, .f32⟩) subf,
    StableHlo.TRef.binary (.of main_call1_call0_v5 : StableHlo.TRef sig ⟨S4096x8, .f32⟩) (.of main_call1_call0_v5 : StableHlo.TRef sig ⟨S4096x8, .f32⟩) (.of main_call1_call0_v6 : StableHlo.TRef sig ⟨S4096x8, .f32⟩) mulf,
    StableHlo.TRef.unary (.of main_c : StableHlo.TRef sig ⟨S_, .i32⟩) (.of main_call1_call0_v7 : StableHlo.TRef sig ⟨S_, .f32⟩) (sitofp .f32),
    StableHlo.TRef.nullary (.of main_call1_call0_cst_1 : StableHlo.TRef sig ⟨S_, .f32⟩) (constant S_ .f32 0x47000000#32),
    StableHlo.TRef.binary (.of main_call1_call0_cst_1 : StableHlo.TRef sig ⟨S_, .f32⟩) (.of main_call1_call0_v7 : StableHlo.TRef sig ⟨S_, .f32⟩) (.of main_call1_call0_v8 : StableHlo.TRef sig ⟨S_, .f32⟩) subf,
    StableHlo.TRef.nullary (.of main_call1_call0_cst_2 : StableHlo.TRef sig ⟨S_, .f32⟩) (constant S_ .f32 0x00000000#32),
    StableHlo.TRef.binary (.of main_call1_call0_v6 : StableHlo.TRef sig ⟨S4096x8, .f32⟩) (.of main_call1_call0_cst_2 : StableHlo.TRef sig ⟨S_, .f32⟩) (.of main_call1_call0_v9 : StableHlo.TRef sig ⟨S_, .f32⟩) (fun x v => Host.reduceAdd x v reducesTo_S4096x8_S_d0_1 h_S_),
    StableHlo.TRef.binary (.of main_call1_call0_v9 : StableHlo.TRef sig ⟨S_, .f32⟩) (.of main_call1_call0_v8 : StableHlo.TRef sig ⟨S_, .f32⟩) (.of main_call1_call0_v10 : StableHlo.TRef sig ⟨S_, .f32⟩) Host.divf,
    StableHlo.TRef.nullary (.of main_call1_call0_cst_3 : StableHlo.TRef sig ⟨S_, .f32⟩) (constant S_ .f32 0x00000000#32),
    StableHlo.TRef.binary (.of main_call1_call0_v8 : StableHlo.TRef sig ⟨S_, .f32⟩) (.of main_call1_call0_cst_3 : StableHlo.TRef sig ⟨S_, .f32⟩) (.of main_call1_call0_v11 : StableHlo.TRef sig ⟨S_, .i1⟩) (cmpf .ogt),
    StableHlo.TRef.nullary (.of main_call1_call0_cst_4 : StableHlo.TRef sig ⟨S_, .f32⟩) (constant S_ .f32 0x7FC00000#32),
    StableHlo.TRef.unary (.of main_call1_call0_cst_4 : StableHlo.TRef sig ⟨S_, .f32⟩) (.of main_call1_call0_call0_v0 : StableHlo.TRef sig ⟨S_, .f32⟩) id,
    StableHlo.TRef.ternary (.of main_call1_call0_v11 : StableHlo.TRef sig ⟨S_, .i1⟩) (.of main_call1_call0_v10 : StableHlo.TRef sig ⟨S_, .f32⟩) (.of main_call1_call0_call0_v0 : StableHlo.TRef sig ⟨S_, .f32⟩) (.of main_call1_v0 : StableHlo.TRef sig ⟨S_, .f32⟩) select,
    StableHlo.TRef.unary main_call1_call0.call0.v1 (.of main_v7 : StableHlo.TRef sig ⟨S_, .f32⟩) Host.sqrt ]
/-- Each of these operations touches only buffers the core holds. -/
theorem main_part0_ops3_sub : (main_part0_ops3 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub ..⟩
/-- 27 host operations of @main, window 0 (statements 1 … 60), in order. -/
abbrev main_part0_ops4 : List (HloOp τ sig (Elt F)) :=
  [ StableHlo.nullary main_cst_4 (constant S_ .f32 0xFF800000#32),
    StableHlo.binary main_v6 main_cst_4 main_v8 ((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)),
    StableHlo.unary main_v8 main_v9 (broadcastInDim S4096x1 ![0] bcast_S4096_S4096x1_0 : (⟨S4096, .f32⟩ : BufTy).Contents (Elt F) → (⟨S4096x1, .f32⟩ : BufTy).Contents (Elt F)),
    StableHlo.unary main_v9 main_v10 (broadcastInDim S4096x8 ![0, 1] bcast_S4096x1_S4096x8_0_1 : (⟨S4096x1, .f32⟩ : BufTy).Contents (Elt F) → (⟨S4096x8, .f32⟩ : BufTy).Contents (Elt F)),
    StableHlo.binary main_v6 main_v10 main_v11 (subf : (⟨S4096x8, .f32⟩ : BufTy).Contents (Elt F) → (⟨S4096x8, .f32⟩ : BufTy).Contents (Elt F) → (⟨S4096x8, .f32⟩ : BufTy).Contents (Elt F)),
    StableHlo.unary main_v11 main_v12 (Host.exp : (⟨S4096x8, .f32⟩ : BufTy).Contents (Elt F) → (⟨S4096x8, .f32⟩ : BufTy).Contents (Elt F)),
    StableHlo.nullary main_cst_5 (constant S_ .f32 0x00000000#32),
    StableHlo.binary main_v12 main_cst_5 main_v13 ((fun x v => Host.reduceAdd x v reducesTo_S4096x8_S4096_d1 h_S_) : (⟨S4096x8, .f32⟩ : BufTy).Contents (Elt F) → (⟨S_, .f32⟩ : BufTy).Contents (Elt F) → (⟨S4096, .f32⟩ : BufTy).Contents (Elt F)),
    StableHlo.unary main_v13 main_v14 (Host.log : (⟨S4096, .f32⟩ : BufTy).Contents (Elt F) → (⟨S4096, .f32⟩ : BufTy).Contents (Elt F)),
    StableHlo.binary main_v14 main_v8 main_v15 (addf : (⟨S4096, .f32⟩ : BufTy).Contents (Elt F) → (⟨S4096, .f32⟩ : BufTy).Contents (Elt F) → (⟨S4096, .f32⟩ : BufTy).Contents (Elt F)),
    StableHlo.binary main_v15 main_v15 main_v16 (mulf : (⟨S4096, .f32⟩ : BufTy).Contents (Elt F) → (⟨S4096, .f32⟩ : BufTy).Contents (Elt F) → (⟨S4096, .f32⟩ : BufTy).Contents (Elt F)),
    StableHlo.nullary main_cst_6 (constant S_ .f32 0x00000000#32),
    StableHlo.binary main_v16 main_cst_6 main_v17 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_7 (constant S_ .f32 0x45800000#32),
    StableHlo.binary main_v17 main_cst_7 main_v18 (Host.divf : (⟨S_, .f32⟩ : BufTy).Contents (Elt F) → (⟨S_, .f32⟩ : BufTy).Contents (Elt F) → (⟨S_, .f32⟩ : BufTy).Contents (Elt F)),
    StableHlo.nullary main_c_8 (constantI S_ 32 42#32),
    StableHlo.nullary main_c_9 (constantI S_ 32 32#32),
    StableHlo.binary main_c_8 main_c_9 main_v19 (Host.shrui : (⟨S_, .i32⟩ : BufTy).Contents (Elt F) → (⟨S_, .i32⟩ : BufTy).Contents (Elt F) → (⟨S_, .i32⟩ : BufTy).Contents (Elt F)),
    StableHlo.unary main_v19 main_v20 (id : (⟨S_, .i32⟩ : BufTy).Contents (Elt F) → (⟨S_, .i32⟩ : BufTy).Contents (Elt F)),
    StableHlo.unary main_v20 main_v21 (broadcastInDim S1 ![] bcast_S_S1 : (⟨S_, .i32⟩ : BufTy).Contents (Elt F) → (⟨S1, .i32⟩ : BufTy).Contents (Elt F)),
    StableHlo.nullary main_c_10 (constantI S_ 32 4294967295#32),
    StableHlo.binary main_c_8 main_c_10 main_v22 (andi : (⟨S_, .i32⟩ : BufTy).Contents (Elt F) → (⟨S_, .i32⟩ : BufTy).Contents (Elt F) → (⟨S_, .i32⟩ : BufTy).Contents (Elt F)),
    StableHlo.unary main_v22 main_v23 (id : (⟨S_, .i32⟩ : BufTy).Contents (Elt F) → (⟨S_, .i32⟩ : BufTy).Contents (Elt F)),
    StableHlo.unary main_v23 main_v24 (broadcastInDim S1 ![] bcast_S_S1 : (⟨S_, .i32⟩ : BufTy).Contents (Elt F) → (⟨S1, .i32⟩ : BufTy).Contents (Elt F)),
    StableHlo.binary main_v21 main_v24 main_v25 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_11 (constant S_ .f32 0x00000000#32),
    StableHlo.nullary main_cst_12 (constant S_ .f32 0x3F800000#32) ]
/-- Each of these operations touches only buffers the core holds. -/
theorem main_part0_ops4_sub : (main_part0_ops4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.nullary_bufs_sub .., StableHlo.binary_bufs_sub .., StableHlo.unary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.nullary_bufs_sub ..⟩
set_option maxHeartbeats 40000000 in  -- a long stretch: its list (or the term over it) exceeds the default budget
/-- 262 host operations of @_uniform (main_call2), window 0 (statements 1 … 60), in order. -/
abbrev main_part0_ops5 : List (HloOp τ sig (Elt F)) :=
  ( StableHlo.TRef.unary (.of main_cst_11 : StableHlo.TRef sig ⟨S_, .f32⟩) (.of main_call2_v0 : StableHlo.TRef sig ⟨S_, .f32⟩) id
  :: StableHlo.TRef.unary (.of main_cst_12 : StableHlo.TRef sig ⟨S_, .f32⟩) (.of main_call2_v1 : StableHlo.TRef sig ⟨S_, .f32⟩) id
  :: StableHlo.TRef.unary (.of main_call2_v0 : StableHlo.TRef sig ⟨S_, .f32⟩) (.of main_call2_v2 : StableHlo.TRef sig ⟨S1x1, .f32⟩) (broadcastInDim S1x1 ![] bcast_S_S1x1)
  :: StableHlo.TRef.unary (.of main_call2_v1 : StableHlo.TRef sig ⟨S_, .f32⟩) (.of main_call2_v3 : StableHlo.TRef sig ⟨S1x1, .f32⟩) (broadcastInDim S1x1 ![] bcast_S_S1x1)
  :: StableHlo.TRef.unary (.of main_v25 : StableHlo.TRef sig ⟨S2, .i32⟩) (.of main_call2_v4 : StableHlo.TRef sig ⟨S1, .i32⟩) (extractStridedSlice S1 ![0] · slices_S2_S1_0)
  :: StableHlo.TRef.reshape (.of main_call2_v4 : StableHlo.TRef sig ⟨S1, .i32⟩) (.of main_call2_v5 : StableHlo.TRef sig ⟨S_, .i32⟩) (rfl : (.i32 : EltTy) = .i32) shapeCasts_S1_S_
  :: StableHlo.TRef.unary (.of main_v25 : StableHlo.TRef sig ⟨S2, .i32⟩) (.of main_call2_v6 : StableHlo.TRef sig ⟨S1, .i32⟩) (extractStridedSlice S1 ![1] · slices_S2_S1_1)
  :: StableHlo.TRef.reshape (.of main_call2_v6 : StableHlo.TRef sig ⟨S1, .i32⟩) (.of main_call2_v7 : StableHlo.TRef sig ⟨S_, .i32⟩) (rfl : (.i32 : EltTy) = .i32) shapeCasts_S1_S_
  :: StableHlo.TRef.nullary (.of main_call2_v8 : StableHlo.TRef sig ⟨S4096x8, .i64⟩) (iotaInDim S4096x8 64 0)
  :: StableHlo.TRef.nullary (.of main_call2_v9 : StableHlo.TRef sig ⟨S4096x8, .i64⟩) (iotaInDim S4096x8 64 1)
  :: StableHlo.TRef.nullary (.of main_call2_c : StableHlo.TRef sig ⟨S_, .i64⟩) (constantI S_ 64 8#64)
  :: StableHlo.TRef.unary (.of main_call2_c : StableHlo.TRef sig ⟨S_, .i64⟩) (.of main_call2_v10 : StableHlo.TRef sig ⟨S4096x8, .i64⟩) (broadcastInDim S4096x8 ![] bcast_S_S4096x8)
  :: StableHlo.TRef.binary (.of main_call2_v10 : StableHlo.TRef sig ⟨S4096x8, .i64⟩) (.of main_call2_v8 : StableHlo.TRef sig ⟨S4096x8, .i64⟩) (.of main_call2_v11 : StableHlo.TRef sig ⟨S4096x8, .i64⟩) muli
  :: StableHlo.TRef.nullary (.of main_call2_c_0 : StableHlo.TRef sig ⟨S_, .i64⟩) (constantI S_ 64 1#64)
  :: StableHlo.TRef.unary (.of main_call2_c_0 : StableHlo.TRef sig ⟨S_, .i64⟩) (.of main_call2_v12 : StableHlo.TRef sig ⟨S4096x8, .i64⟩) (broadcastInDim S4096x8 ![] bcast_S_S4096x8)
  :: StableHlo.TRef.binary (.of main_call2_v12 : StableHlo.TRef sig ⟨S4096x8, .i64⟩) (.of main_call2_v9 : StableHlo.TRef sig ⟨S4096x8, .i64⟩) (.of main_call2_v13 : StableHlo.TRef sig ⟨S4096x8, .i64⟩) muli
  :: StableHlo.TRef.binary (.of main_call2_v11 : StableHlo.TRef sig ⟨S4096x8, .i64⟩) (.of main_call2_v13 : StableHlo.TRef sig ⟨S4096x8, .i64⟩) (.of main_call2_v14 : StableHlo.TRef sig ⟨S4096x8, .i64⟩) addi
  :: StableHlo.TRef.nullary (.of main_call2_c_1 : StableHlo.TRef sig ⟨S_, .i64⟩) (constantI S_ 64 32#64)
  :: StableHlo.TRef.unary (.of main_call2_c_1 : StableHlo.TRef sig ⟨S_, .i64⟩) (.of main_call2_v15 : StableHlo.TRef sig ⟨S4096x8, .i64⟩) (broadcastInDim S4096x8 ![] bcast_S_S4096x8)
  :: StableHlo.TRef.binary (.of main_call2_v14 : StableHlo.TRef sig ⟨S4096x8, .i64⟩) (.of main_call2_v15 : StableHlo.TRef sig ⟨S4096x8, .i64⟩) (.of main_call2_v16 : StableHlo.TRef sig ⟨S4096x8, .i64⟩) Host.shrui
  :: StableHlo.TRef.unary (.of main_call2_v14 : StableHlo.TRef sig ⟨S4096x8, .i64⟩) (.of main_call2_v17 : StableHlo.TRef sig ⟨S4096x8, .i32⟩) (trunci 32 · natLt_32_64)
  :: StableHlo.TRef.unary (.of main_call2_v16 : StableHlo.TRef sig ⟨S4096x8, .i64⟩) (.of main_call2_v18 : StableHlo.TRef sig ⟨S4096x8, .i32⟩) (trunci 32 · natLt_32_64)
  :: StableHlo.TRef.binary (.of main_call2_v5 : StableHlo.TRef sig ⟨S_, .i32⟩) (.of main_call2_v7 : StableHlo.TRef sig ⟨S_, .i32⟩) (.of main_call2_call0_v0 : StableHlo.TRef sig ⟨S_, .i32⟩) xori
  :: StableHlo.TRef.nullary (.of main_call2_call0_c : StableHlo.TRef sig ⟨S_, .i32⟩) (constantI S_ 32 466688986#32)
  :: StableHlo.TRef.binary (.of main_call2_call0_v0 : StableHlo.TRef sig ⟨S_, .i32⟩) (.of main_call2_call0_c : StableHlo.TRef sig ⟨S_, .i32⟩) (.of main_call2_call0_v1 : StableHlo.TRef sig ⟨S_, .i32⟩) xori
  :: StableHlo.TRef.unary (.of main_call2_v5 : StableHlo.TRef sig ⟨S_, .i32⟩) (.of main_call2_call0_v2 : StableHlo.TRef sig ⟨S4096x8, .i32⟩) (broadcastInDim S4096x8 ![] bcast_S_S4096x8)
  :: StableHlo.TRef.binary (.of main_call2_v18 : StableHlo.TRef sig ⟨S4096x8, .i32⟩) (.of main_call2_call0_v2 : StableHlo.TRef sig ⟨S4096x8, .i32⟩) (.of main_call2_call0_v3 : StableHlo.TRef sig ⟨S4096x8, .i32⟩) addi
  :: StableHlo.TRef.unary (.of main_call2_v7 : StableHlo.TRef sig ⟨S_, .i32⟩) (.of main_call2_call0_v4 : StableHlo.TRef sig ⟨S4096x8, .i32⟩) (broadcastInDim S4096x8 ![] bcast_S_S4096x8)
  :: StableHlo.TRef.binary (.of main_call2_v17 : StableHlo.TRef sig ⟨S4096x8, .i32⟩) (.of main_call2_call0_v4 : StableHlo.TRef sig ⟨S4096x8, .i32⟩) (.of main_call2_call0_v5 : StableHlo.TRef sig ⟨S4096x8, .i32⟩) addi
  :: StableHlo.TRef.binary (.of main_call2_call0_v3 : StableHlo.TRef sig ⟨S4096x8, .i32⟩) (.of main_call2_call0_v5 : StableHlo.TRef sig ⟨S4096x8, .i32⟩) (.of main_call2_call0_v6 : StableHlo.TRef sig ⟨S4096x8, .i32⟩) addi
  :: StableHlo.TRef.nullary (.of main_call2_call0_c_0 : StableHlo.TRef sig ⟨S_, .i32⟩) (constantI S_ 32 13#32)
  :: StableHlo.TRef.unary (.of main_call2_call0_c_0 : StableHlo.TRef sig ⟨S_, .i32⟩) (.of main_call2_call0_v7 : StableHlo.TRef sig ⟨S4096x8, .i32⟩) (broadcastInDim S4096x8 ![] bcast_S_S4096x8)
  :: StableHlo.TRef.binary (.of main_call2_call0_v5 : StableHlo.TRef sig ⟨S4096x8, .i32⟩) (.of main_call2_call0_v7 : StableHlo.TRef sig ⟨S4096x8, .i32⟩) (.of main_call2_call0_v8 : StableHlo.TRef sig ⟨S4096x8, .i32⟩) Host.shli
  :: StableHlo.TRef.nullary (.of main_call2_call0_c_1 : StableHlo.TRef sig ⟨S_, .i32⟩) (constantI S_ 32 19#32)
  :: StableHlo.TRef.unary (.of main_call2_call0_c_1 : StableHlo.TRef sig ⟨S_, .i32⟩) (.of main_call2_call0_v9 : StableHlo.TRef sig ⟨S4096x8, .i32⟩) (broadcastInDim S4096x8 ![] bcast_S_S4096x8)
  :: StableHlo.TRef.binary (.of main_call2_call0_v5 : StableHlo.TRef sig ⟨S4096x8, .i32⟩) (.of main_call2_call0_v9 : StableHlo.TRef sig ⟨S4096x8, .i32⟩) (.of main_call2_call0_v10 : StableHlo.TRef sig ⟨S4096x8, .i32⟩) Host.shrui
  :: StableHlo.TRef.binary (.of main_call2_call0_v8 : StableHlo.TRef sig ⟨S4096x8, .i32⟩) (.of main_call2_call0_v10 : StableHlo.TRef sig ⟨S4096x8, .i32⟩) (.of main_call2_call0_v11 : StableHlo.TRef sig ⟨S4096x8, .i32⟩) ori
  :: StableHlo.TRef.binary (.of main_call2_call0_v6 : StableHlo.TRef sig ⟨S4096x8, .i32⟩) (.of main_call2_call0_v11 : StableHlo.TRef sig ⟨S4096x8, .i32⟩) (.of main_call2_call0_v12 : StableHlo.TRef sig ⟨S4096x8, .i32⟩) xori
  :: StableHlo.TRef.binary (.of main_call2_call0_v6 : StableHlo.TRef sig ⟨S4096x8, .i32⟩) (.of main_call2_call0_v12 : StableHlo.TRef sig ⟨S4096x8, .i32⟩) (.of main_call2_call0_v13 : StableHlo.TRef sig ⟨S4096x8, .i32⟩) addi
  :: StableHlo.TRef.nullary (.of main_call2_call0_c_2 : StableHlo.TRef sig ⟨S_, .i32⟩) (constantI S_ 32 15#32)
  :: StableHlo.TRef.unary (.of main_call2_call0_c_2 : StableHlo.TRef sig ⟨S_, .i32⟩) (.of main_call2_call0_v14 : StableHlo.TRef sig ⟨S4096x8, .i32⟩) (broadcastInDim S4096x8 ![] bcast_S_S4096x8)
  :: StableHlo.TRef.binary (.of main_call2_call0_v12 : StableHlo.TRef sig ⟨S4096x8, .i32⟩) (.of main_call2_call0_v14 : StableHlo.TRef sig ⟨S4096x8, .i32⟩) (.of main_call2_call0_v15 : StableHlo.TRef sig ⟨S4096x8, .i32⟩) Host.shli
  :: StableHlo.TRef.nullary (.of main_call2_call0_c_3 : StableHlo.TRef sig ⟨S_, .i32⟩) (constantI S_ 32 17#32)
  :: StableHlo.TRef.unary (.of main_call2_call0_c_3 : StableHlo.TRef sig ⟨S_, .i32⟩) (.of main_call2_call0_v16 : StableHlo.TRef sig ⟨S4096x8, .i32⟩) (broadcastInDim S4096x8 ![] bcast_S_S4096x8)
  :: StableHlo.TRef.binary (.of main_call2_call0_v12 : StableHlo.TRef sig ⟨S4096x8, .i32⟩) (.of main_call2_call0_v16 : StableHlo.TRef sig ⟨S4096x8, .i32⟩) (.of main_call2_call0_v17 : StableHlo.TRef sig ⟨S4096x8, .i32⟩) Host.shrui
  :: StableHlo.TRef.binary (.of main_call2_call0_v15 : StableHlo.TRef sig ⟨S4096x8, .i32⟩) (.of main_call2_call0_v17 : StableHlo.TRef sig ⟨S4096x8, .i32⟩) (.of main_call2_call0_v18 : StableHlo.TRef sig ⟨S4096x8, .i32⟩) ori
  :: StableHlo.TRef.binary (.of main_call2_call0_v13 : StableHlo.TRef sig ⟨S4096x8, .i32⟩) (.of main_call2_call0_v18 : StableHlo.TRef sig ⟨S4096x8, .i32⟩) (.of main_call2_call0_v19 : StableHlo.TRef sig ⟨S4096x8, .i32⟩) xori
  :: StableHlo.TRef.binary (.of main_call2_call0_v13 : StableHlo.TRef sig ⟨S4096x8, .i32⟩) (.of main_call2_call0_v19 : StableHlo.TRef sig ⟨S4096x8, .i32⟩) (.of main_call2_call0_v20 : StableHlo.TRef sig ⟨S4096x8, .i32⟩) addi
  :: StableHlo.TRef.nullary (.of main_call2_call0_c_4 : StableHlo.TRef sig ⟨S_, .i32⟩) (constantI S_ 32 26#32)
  :: StableHlo.TRef.unary (.of main_call2_call0_c_4 : StableHlo.TRef sig ⟨S_, .i32⟩) (.of main_call2_call0_v21 : StableHlo.TRef sig ⟨S4096x8, .i32⟩) (broadcastInDim S4096x8 ![] bcast_S_S4096x8)
  :: StableHlo.TRef.binary (.of main_call2_call0_v19 : StableHlo.TRef sig ⟨S4096x8, .i32⟩) (.of main_call2_call0_v21 : StableHlo.TRef sig ⟨S4096x8, .i32⟩) (.of main_call2_call0_v22 : StableHlo.TRef sig ⟨S4096x8, .i32⟩) Host.shli
  :: StableHlo.TRef.nullary (.of main_call2_call0_c_5 : StableHlo.TRef sig ⟨S_, .i32⟩) (constantI S_ 32 6#32)
  :: StableHlo.TRef.unary (.of main_call2_call0_c_5 : StableHlo.TRef sig ⟨S_, .i32⟩) (.of main_call2_call0_v23 : StableHlo.TRef sig ⟨S4096x8, .i32⟩) (broadcastInDim S4096x8 ![] bcast_S_S4096x8)
  :: StableHlo.TRef.binary (.of main_call2_call0_v19 : StableHlo.TRef sig ⟨S4096x8, .i32⟩) (.of main_call2_call0_v23 : StableHlo.TRef sig ⟨S4096x8, .i32⟩) (.of main_call2_call0_v24 : StableHlo.TRef sig ⟨S4096x8, .i32⟩) Host.shrui
  :: StableHlo.TRef.binary (.of main_call2_call0_v22 : StableHlo.TRef sig ⟨S4096x8, .i32⟩) (.of main_call2_call0_v24 : StableHlo.TRef sig ⟨S4096x8, .i32⟩) (.of main_call2_call0_v25 : StableHlo.TRef sig ⟨S4096x8, .i32⟩) ori
  :: StableHlo.TRef.binary (.of main_call2_call0_v20 : StableHlo.TRef sig ⟨S4096x8, .i32⟩) (.of main_call2_call0_v25 : StableHlo.TRef sig ⟨S4096x8, .i32⟩) (.of main_call2_call0_v26 : StableHlo.TRef sig ⟨S4096x8, .i32⟩) xori
  :: StableHlo.TRef.binary (.of main_call2_call0_v20 : StableHlo.TRef sig ⟨S4096x8, .i32⟩) (.of main_call2_call0_v26 : StableHlo.TRef sig ⟨S4096x8, .i32⟩) (.of main_call2_call0_v27 : StableHlo.TRef sig ⟨S4096x8, .i32⟩) addi
  :: StableHlo.TRef.nullary (.of main_call2_call0_c_6 : StableHlo.TRef sig ⟨S_, .i32⟩) (constantI S_ 32 6#32)
  :: StableHlo.TRef.unary (.of main_call2_call0_c_6 : StableHlo.TRef sig ⟨S_, .i32⟩) (.of main_call2_call0_v28 : StableHlo.TRef sig ⟨S4096x8, .i32⟩) (broadcastInDim S4096x8 ![] bcast_S_S4096x8)
  :: StableHlo.TRef.binary (.of main_call2_call0_v26 : StableHlo.TRef sig ⟨S4096x8, .i32⟩) (.of main_call2_call0_v28 : StableHlo.TRef sig ⟨S4096x8, .i32⟩) (.of main_call2_call0_v29 : StableHlo.TRef sig ⟨S4096x8, .i32⟩) Host.shli
  :: StableHlo.TRef.nullary (.of main_call2_call0_c_7 : StableHlo.TRef sig ⟨S_, .i32⟩) (constantI S_ 32 26#32)
  :: StableHlo.TRef.unary (.of main_call2_call0_c_7 : StableHlo.TRef sig ⟨S_, .i32⟩) (.of main_call2_call0_v30 : StableHlo.TRef sig ⟨S4096x8, .i32⟩) (broadcastInDim S4096x8 ![] bcast_S_S4096x8)
  :: StableHlo.TRef.binary (.of main_call2_call0_v26 : StableHlo.TRef sig ⟨S4096x8, .i32⟩) (.of main_call2_call0_v30 : StableHlo.TRef sig ⟨S4096x8, .i32⟩) (.of main_call2_call0_v31 : StableHlo.TRef sig ⟨S4096x8, .i32⟩) Host.shrui
  :: StableHlo.TRef.binary (.of main_call2_call0_v29 : StableHlo.TRef sig ⟨S4096x8, .i32⟩) (.of main_call2_call0_v31 : StableHlo.TRef sig ⟨S4096x8, .i32⟩) (.of main_call2_call0_v32 : StableHlo.TRef sig ⟨S4096x8, .i32⟩) ori
  :: StableHlo.TRef.binary (.of main_call2_call0_v27 : StableHlo.TRef sig ⟨S4096x8, .i32⟩) (.of main_call2_call0_v32 : StableHlo.TRef sig ⟨S4096x8, .i32⟩) (.of main_call2_call0_v33 : StableHlo.TRef sig ⟨S4096x8, .i32⟩) xori
  :: StableHlo.TRef.unary (.of main_call2_v7 : StableHlo.TRef sig ⟨S_, .i32⟩) (.of main_call2_call0_v34 : StableHlo.TRef sig ⟨S4096x8, .i32⟩) (broadcastInDim S4096x8 ![] bcast_S_S4096x8)
  :: StableHlo.TRef.binary (.of main_call2_call0_v27 : StableHlo.TRef sig ⟨S4096x8, .i32⟩) (.of main_call2_call0_v34 : StableHlo.TRef sig ⟨S4096x8, .i32⟩) (.of main_call2_call0_v35 : StableHlo.TRef sig ⟨S4096x8, .i32⟩) addi
  :: StableHlo.TRef.unary (.of main_call2_call0_v1 : StableHlo.TRef sig ⟨S_, .i32⟩) (.of main_call2_call0_v36 : StableHlo.TRef sig ⟨S4096x8, .i32⟩) (broadcastInDim S4096x8 ![] bcast_S_S4096x8)
  :: StableHlo.TRef.binary (.of main_call2_call0_v33 : StableHlo.TRef sig ⟨S4096x8, .i32⟩) (.of main_call2_call0_v36 : StableHlo.TRef sig ⟨S4096x8, .i32⟩) (.of main_call2_call0_v37 : StableHlo.TRef sig ⟨S4096x8, .i32⟩) addi
  :: StableHlo.TRef.nullary (.of main_call2_call0_c_8 : StableHlo.TRef sig ⟨S_, .i32⟩) (constantI S_ 32 1#32)
  :: StableHlo.TRef.unary (.of main_call2_call0_c_8 : StableHlo.TRef sig ⟨S_, .i32⟩) (.of main_call2_call0_v38 : StableHlo.TRef sig ⟨S4096x8, .i32⟩) (broadcastInDim S4096x8 ![] bcast_S_S4096x8)
  :: StableHlo.TRef.binary (.of main_call2_call0_v37 : StableHlo.TRef sig ⟨S4096x8, .i32⟩) (.of main_call2_call0_v38 : StableHlo.TRef sig ⟨S4096x8, .i32⟩) (.of main_call2_call0_v39 : StableHlo.TRef sig ⟨S4096x8, .i32⟩) addi
  :: StableHlo.TRef.binary (.of main_call2_call0_v35 : StableHlo.TRef sig ⟨S4096x8, .i32⟩) (.of main_call2_call0_v39 : StableHlo.TRef sig ⟨S4096x8, .i32⟩) (.of main_call2_call0_v40 : StableHlo.TRef sig ⟨S4096x8, .i32⟩) addi
  :: StableHlo.TRef.nullary (.of main_call2_call0_c_9 : StableHlo.TRef sig ⟨S_, .i32⟩) (constantI S_ 32 17#32)
  :: StableHlo.TRef.unary (.of main_call2_call0_c_9 : StableHlo.TRef sig ⟨S_, .i32⟩) (.of main_call2_call0_v41 : StableHlo.TRef sig ⟨S4096x8, .i32⟩) (broadcastInDim S4096x8 ![] bcast_S_S4096x8)
  :: StableHlo.TRef.binary (.of main_call2_call0_v39 : StableHlo.TRef sig ⟨S4096x8, .i32⟩) (.of main_call2_call0_v41 : StableHlo.TRef sig ⟨S4096x8, .i32⟩) (.of main_call2_call0_v42 : StableHlo.TRef sig ⟨S4096x8, .i32⟩) Host.shli
  :: StableHlo.TRef.nullary (.of main_call2_call0_c_10 : StableHlo.TRef sig ⟨S_, .i32⟩) (constantI S_ 32 15#32)
  :: StableHlo.TRef.unary (.of main_call2_call0_c_10 : StableHlo.TRef sig ⟨S_, .i32⟩) (.of main_call2_call0_v43 : StableHlo.TRef sig ⟨S4096x8, .i32⟩) (broadcastInDim S4096x8 ![] bcast_S_S4096x8)
  :: StableHlo.TRef.binary (.of main_call2_call0_v39 : StableHlo.TRef sig ⟨S4096x8, .i32⟩) (.of main_call2_call0_v43 : StableHlo.TRef sig ⟨S4096x8, .i32⟩) (.of main_call2_call0_v44 : StableHlo.TRef sig ⟨S4096x8, .i32⟩) Host.shrui
  :: StableHlo.TRef.binary (.of main_call2_call0_v42 : StableHlo.TRef sig ⟨S4096x8, .i32⟩) (.of main_call2_call0_v44 : StableHlo.TRef sig ⟨S4096x8, .i32⟩) (.of main_call2_call0_v45 : StableHlo.TRef sig ⟨S4096x8, .i32⟩) ori
  :: StableHlo.TRef.binary (.of main_call2_call0_v40 : StableHlo.TRef sig ⟨S4096x8, .i32⟩) (.of main_call2_call0_v45 : StableHlo.TRef sig ⟨S4096x8, .i32⟩) (.of main_call2_call0_v46 : StableHlo.TRef sig ⟨S4096x8, .i32⟩) xori
  :: StableHlo.TRef.binary (.of main_call2_call0_v40 : StableHlo.TRef sig ⟨S4096x8, .i32⟩) (.of main_call2_call0_v46 : StableHlo.TRef sig ⟨S4096x8, .i32⟩) (.of main_call2_call0_v47 : StableHlo.TRef sig ⟨S4096x8, .i32⟩) addi
  :: StableHlo.TRef.nullary (.of main_call2_call0_c_11 : StableHlo.TRef sig ⟨S_, .i32⟩) (constantI S_ 32 29#32)
  :: StableHlo.TRef.unary (.of main_call2_call0_c_11 : StableHlo.TRef sig ⟨S_, .i32⟩) (.of main_call2_call0_v48 : StableHlo.TRef sig ⟨S4096x8, .i32⟩) (broadcastInDim S4096x8 ![] bcast_S_S4096x8)
  :: StableHlo.TRef.binary (.of main_call2_call0_v46 : StableHlo.TRef sig ⟨S4096x8, .i32⟩) (.of main_call2_call0_v48 : StableHlo.TRef sig ⟨S4096x8, .i32⟩) (.of main_call2_call0_v49 : StableHlo.TRef sig ⟨S4096x8, .i32⟩) Host.shli
  :: StableHlo.TRef.nullary (.of main_call2_call0_c_12 : StableHlo.TRef sig ⟨S_, .i32⟩) (constantI S_ 32 3#32)
  :: StableHlo.TRef.unary (.of main_call2_call0_c_12 : StableHlo.TRef sig ⟨S_, .i32⟩) (.of main_call2_call0_v50 : StableHlo.TRef sig ⟨S4096x8, .i32⟩) (broadcastInDim S4096x8 ![] bcast_S_S4096x8)
  :: StableHlo.TRef.binary (.of main_call2_call0_v46 : StableHlo.TRef sig ⟨S4096x8, .i32⟩) (.of main_call2_call0_v50 : StableHlo.TRef sig ⟨S4096x8, .i32⟩) (.of main_call2_call0_v51 : StableHlo.TRef sig ⟨S4096x8, .i32⟩) Host.shrui
  :: StableHlo.TRef.binary (.of main_call2_call0_v49 : StableHlo.TRef sig ⟨S4096x8, .i32⟩) (.of main_call2_call0_v51 : StableHlo.TRef sig ⟨S4096x8, .i32⟩) (.of main_call2_call0_v52 : StableHlo.TRef sig ⟨S4096x8, .i32⟩) ori
  :: StableHlo.TRef.binary (.of main_call2_call0_v47 : StableHlo.TRef sig ⟨S4096x8, .i32⟩) (.of main_call2_call0_v52 : StableHlo.TRef sig ⟨S4096x8, .i32⟩) (.of main_call2_call0_v53 : StableHlo.TRef sig ⟨S4096x8, .i32⟩) xori
  :: StableHlo.TRef.binary (.of main_call2_call0_v47 : StableHlo.TRef sig ⟨S4096x8, .i32⟩) (.of main_call2_call0_v53 : StableHlo.TRef sig ⟨S4096x8, .i32⟩) (.of main_call2_call0_v54 : StableHlo.TRef sig ⟨S4096x8, .i32⟩) addi
  :: StableHlo.TRef.nullary (.of main_call2_call0_c_13 : StableHlo.TRef sig ⟨S_, .i32⟩) (constantI S_ 32 16#32)
  :: StableHlo.TRef.unary (.of main_call2_call0_c_13 : StableHlo.TRef sig ⟨S_, .i32⟩) (.of main_call2_call0_v55 : StableHlo.TRef sig ⟨S4096x8, .i32⟩) (broadcastInDim S4096x8 ![] bcast_S_S4096x8)
  :: StableHlo.TRef.binary (.of main_call2_call0_v53 : StableHlo.TRef sig ⟨S4096x8, .i32⟩) (.of main_call2_call0_v55 : StableHlo.TRef sig ⟨S4096x8, .i32⟩) (.of main_call2_call0_v56 : StableHlo.TRef sig ⟨S4096x8, .i32⟩) Host.shli
  :: StableHlo.TRef.nullary (.of main_call2_call0_c_14 : StableHlo.TRef sig ⟨S_, .i32⟩) (constantI S_ 32 16#32)
  :: StableHlo.TRef.unary (.of main_call2_call0_c_14 : StableHlo.TRef sig ⟨S_, .i32⟩) (.of main_call2_call0_v57 : StableHlo.TRef sig ⟨S4096x8, .i32⟩) (broadcastInDim S4096x8 ![] bcast_S_S4096x8)
  :: StableHlo.TRef.binary (.of main_call2_call0_v53 : StableHlo.TRef sig ⟨S4096x8, .i32⟩) (.of main_call2_call0_v57 : StableHlo.TRef sig ⟨S4096x8, .i32⟩) (.of main_call2_call0_v58 : StableHlo.TRef sig ⟨S4096x8, .i32⟩) Host.shrui
  :: StableHlo.TRef.binary (.of main_call2_call0_v56 : StableHlo.TRef sig ⟨S4096x8, .i32⟩) (.of main_call2_call0_v58 : StableHlo.TRef sig ⟨S4096x8, .i32⟩) (.of main_call2_call0_v59 : StableHlo.TRef sig ⟨S4096x8, .i32⟩) ori
  :: StableHlo.TRef.binary (.of main_call2_call0_v54 : StableHlo.TRef sig ⟨S4096x8, .i32⟩) (.of main_call2_call0_v59 : StableHlo.TRef sig ⟨S4096x8, .i32⟩) (.of main_call2_call0_v60 : StableHlo.TRef sig ⟨S4096x8, .i32⟩) xori
  :: StableHlo.TRef.binary (.of main_call2_call0_v54 : StableHlo.TRef sig ⟨S4096x8, .i32⟩) (.of main_call2_call0_v60 : StableHlo.TRef sig ⟨S4096x8, .i32⟩) (.of main_call2_call0_v61 : StableHlo.TRef sig ⟨S4096x8, .i32⟩) addi
  :: StableHlo.TRef.nullary (.of main_call2_call0_c_15 : StableHlo.TRef sig ⟨S_, .i32⟩) (constantI S_ 32 24#32)
  :: StableHlo.TRef.unary (.of main_call2_call0_c_15 : StableHlo.TRef sig ⟨S_, .i32⟩) (.of main_call2_call0_v62 : StableHlo.TRef sig ⟨S4096x8, .i32⟩) (broadcastInDim S4096x8 ![] bcast_S_S4096x8)
  :: StableHlo.TRef.binary (.of main_call2_call0_v60 : StableHlo.TRef sig ⟨S4096x8, .i32⟩) (.of main_call2_call0_v62 : StableHlo.TRef sig ⟨S4096x8, .i32⟩) (.of main_call2_call0_v63 : StableHlo.TRef sig ⟨S4096x8, .i32⟩) Host.shli
  :: StableHlo.TRef.nullary (.of main_call2_call0_c_16 : StableHlo.TRef sig ⟨S_, .i32⟩) (constantI S_ 32 8#32)
  :: StableHlo.TRef.unary (.of main_call2_call0_c_16 : StableHlo.TRef sig ⟨S_, .i32⟩) (.of main_call2_call0_v64 : StableHlo.TRef sig ⟨S4096x8, .i32⟩) (broadcastInDim S4096x8 ![] bcast_S_S4096x8)
  :: StableHlo.TRef.binary (.of main_call2_call0_v60 : StableHlo.TRef sig ⟨S4096x8, .i32⟩) (.of main_call2_call0_v64 : StableHlo.TRef sig ⟨S4096x8, .i32⟩) (.of main_call2_call0_v65 : StableHlo.TRef sig ⟨S4096x8, .i32⟩) Host.shrui
  :: StableHlo.TRef.binary (.of main_call2_call0_v63 : StableHlo.TRef sig ⟨S4096x8, .i32⟩) (.of main_call2_call0_v65 : StableHlo.TRef sig ⟨S4096x8, .i32⟩) (.of main_call2_call0_v66 : StableHlo.TRef sig ⟨S4096x8, .i32⟩) ori
  :: StableHlo.TRef.binary (.of main_call2_call0_v61 : StableHlo.TRef sig ⟨S4096x8, .i32⟩) (.of main_call2_call0_v66 : StableHlo.TRef sig ⟨S4096x8, .i32⟩) (.of main_call2_call0_v67 : StableHlo.TRef sig ⟨S4096x8, .i32⟩) xori
  :: StableHlo.TRef.unary (.of main_call2_call0_v1 : StableHlo.TRef sig ⟨S_, .i32⟩) (.of main_call2_call0_v68 : StableHlo.TRef sig ⟨S4096x8, .i32⟩) (broadcastInDim S4096x8 ![] bcast_S_S4096x8)
  :: StableHlo.TRef.binary (.of main_call2_call0_v61 : StableHlo.TRef sig ⟨S4096x8, .i32⟩) (.of main_call2_call0_v68 : StableHlo.TRef sig ⟨S4096x8, .i32⟩) (.of main_call2_call0_v69 : StableHlo.TRef sig ⟨S4096x8, .i32⟩) addi
  :: StableHlo.TRef.unary (.of main_call2_v5 : StableHlo.TRef sig ⟨S_, .i32⟩) (.of main_call2_call0_v70 : StableHlo.TRef sig ⟨S4096x8, .i32⟩) (broadcastInDim S4096x8 ![] bcast_S_S4096x8)
  :: StableHlo.TRef.binary (.of main_call2_call0_v67 : StableHlo.TRef sig ⟨S4096x8, .i32⟩) (.of main_call2_call0_v70 : StableHlo.TRef sig ⟨S4096x8, .i32⟩) (.of main_call2_call0_v71 : StableHlo.TRef sig ⟨S4096x8, .i32⟩) addi
  :: StableHlo.TRef.nullary (.of main_call2_call0_c_17 : StableHlo.TRef sig ⟨S_, .i32⟩) (constantI S_ 32 2#32)
  :: StableHlo.TRef.unary (.of main_call2_call0_c_17 : StableHlo.TRef sig ⟨S_, .i32⟩) (.of main_call2_call0_v72 : StableHlo.TRef sig ⟨S4096x8, .i32⟩) (broadcastInDim S4096x8 ![] bcast_S_S4096x8)
  :: StableHlo.TRef.binary (.of main_call2_call0_v71 : StableHlo.TRef sig ⟨S4096x8, .i32⟩) (.of main_call2_call0_v72 : StableHlo.TRef sig ⟨S4096x8, .i32⟩) (.of main_call2_call0_v73 : StableHlo.TRef sig ⟨S4096x8, .i32⟩) addi
  :: StableHlo.TRef.binary (.of main_call2_call0_v69 : StableHlo.TRef sig ⟨S4096x8, .i32⟩) (.of main_call2_call0_v73 : StableHlo.TRef sig ⟨S4096x8, .i32⟩) (.of main_call2_call0_v74 : StableHlo.TRef sig ⟨S4096x8, .i32⟩) addi
  :: StableHlo.TRef.nullary (.of main_call2_call0_c_18 : StableHlo.TRef sig ⟨S_, .i32⟩) (constantI S_ 32 13#32)
  :: StableHlo.TRef.unary (.of main_call2_call0_c_18 : StableHlo.TRef sig ⟨S_, .i32⟩) (.of main_call2_call0_v75 : StableHlo.TRef sig ⟨S4096x8, .i32⟩) (broadcastInDim S4096x8 ![] bcast_S_S4096x8)
  :: StableHlo.TRef.binary (.of main_call2_call0_v73 : StableHlo.TRef sig ⟨S4096x8, .i32⟩) (.of main_call2_call0_v75 : StableHlo.TRef sig ⟨S4096x8, .i32⟩) (.of main_call2_call0_v76 : StableHlo.TRef sig ⟨S4096x8, .i32⟩) Host.shli
  :: StableHlo.TRef.nullary (.of main_call2_call0_c_19 : StableHlo.TRef sig ⟨S_, .i32⟩) (constantI S_ 32 19#32)
  :: StableHlo.TRef.unary (.of main_call2_call0_c_19 : StableHlo.TRef sig ⟨S_, .i32⟩) (.of main_call2_call0_v77 : StableHlo.TRef sig ⟨S4096x8, .i32⟩) (broadcastInDim S4096x8 ![] bcast_S_S4096x8)
  :: StableHlo.TRef.binary (.of main_call2_call0_v73 : StableHlo.TRef sig ⟨S4096x8, .i32⟩) (.of main_call2_call0_v77 : StableHlo.TRef sig ⟨S4096x8, .i32⟩) (.of main_call2_call0_v78 : StableHlo.TRef sig ⟨S4096x8, .i32⟩) Host.shrui
  :: StableHlo.TRef.binary (.of main_call2_call0_v76 : StableHlo.TRef sig ⟨S4096x8, .i32⟩) (.of main_call2_call0_v78 : StableHlo.TRef sig ⟨S4096x8, .i32⟩) (.of main_call2_call0_v79 : StableHlo.TRef sig ⟨S4096x8, .i32⟩) ori
  :: StableHlo.TRef.binary (.of main_call2_call0_v74 : StableHlo.TRef sig ⟨S4096x8, .i32⟩) (.of main_call2_call0_v79 : StableHlo.TRef sig ⟨S4096x8, .i32⟩) (.of main_call2_call0_v80 : StableHlo.TRef sig ⟨S4096x8, .i32⟩) xori
  :: StableHlo.TRef.binary (.of main_call2_call0_v74 : StableHlo.TRef sig ⟨S4096x8, .i32⟩) (.of main_call2_call0_v80 : StableHlo.TRef sig ⟨S4096x8, .i32⟩) (.of main_call2_call0_v81 : StableHlo.TRef sig ⟨S4096x8, .i32⟩) addi
  :: StableHlo.TRef.nullary (.of main_call2_call0_c_20 : StableHlo.TRef sig ⟨S_, .i32⟩) (constantI S_ 32 15#32)
  :: StableHlo.TRef.unary (.of main_call2_call0_c_20 : StableHlo.TRef sig ⟨S_, .i32⟩) (.of main_call2_call0_v82 : StableHlo.TRef sig ⟨S4096x8, .i32⟩) (broadcastInDim S4096x8 ![] bcast_S_S4096x8)
  :: StableHlo.TRef.binary (.of main_call2_call0_v80 : StableHlo.TRef sig ⟨S4096x8, .i32⟩) (.of main_call2_call0_v82 : StableHlo.TRef sig ⟨S4096x8, .i32⟩) (.of main_call2_call0_v83 : StableHlo.TRef sig ⟨S4096x8, .i32⟩) Host.shli
  :: StableHlo.TRef.nullary (.of main_call2_call0_c_21 : StableHlo.TRef sig ⟨S_, .i32⟩) (constantI S_ 32 17#32)
  :: StableHlo.TRef.unary (.of main_call2_call0_c_21 : StableHlo.TRef sig ⟨S_, .i32⟩) (.of main_call2_call0_v84 : StableHlo.TRef sig ⟨S4096x8, .i32⟩) (broadcastInDim S4096x8 ![] bcast_S_S4096x8)
  :: StableHlo.TRef.binary (.of main_call2_call0_v80 : StableHlo.TRef sig ⟨S4096x8, .i32⟩) (.of main_call2_call0_v84 : StableHlo.TRef sig ⟨S4096x8, .i32⟩) (.of main_call2_call0_v85 : StableHlo.TRef sig ⟨S4096x8, .i32⟩) Host.shrui
  :: StableHlo.TRef.binary (.of main_call2_call0_v83 : StableHlo.TRef sig ⟨S4096x8, .i32⟩) (.of main_call2_call0_v85 : StableHlo.TRef sig ⟨S4096x8, .i32⟩) (.of main_call2_call0_v86 : StableHlo.TRef sig ⟨S4096x8, .i32⟩) ori
  :: StableHlo.TRef.binary (.of main_call2_call0_v81 : StableHlo.TRef sig ⟨S4096x8, .i32⟩) (.of main_call2_call0_v86 : StableHlo.TRef sig ⟨S4096x8, .i32⟩) (.of main_call2_call0_v87 : StableHlo.TRef sig ⟨S4096x8, .i32⟩) xori
  :: StableHlo.TRef.binary (.of main_call2_call0_v81 : StableHlo.TRef sig ⟨S4096x8, .i32⟩) (.of main_call2_call0_v87 : StableHlo.TRef sig ⟨S4096x8, .i32⟩) (.of main_call2_call0_v88 : StableHlo.TRef sig ⟨S4096x8, .i32⟩) addi
  :: StableHlo.TRef.nullary (.of main_call2_call0_c_22 : StableHlo.TRef sig ⟨S_, .i32⟩) (constantI S_ 32 26#32)
  :: StableHlo.TRef.unary (.of main_call2_call0_c_22 : StableHlo.TRef sig ⟨S_, .i32⟩) (.of main_call2_call0_v89 : StableHlo.TRef sig ⟨S4096x8, .i32⟩) (broadcastInDim S4096x8 ![] bcast_S_S4096x8)
  :: StableHlo.TRef.binary (.of main_call2_call0_v87 : StableHlo.TRef sig ⟨S4096x8, .i32⟩) (.of main_call2_call0_v89 : StableHlo.TRef sig ⟨S4096x8, .i32⟩) (.of main_call2_call0_v90 : StableHlo.TRef sig ⟨S4096x8, .i32⟩) Host.shli
  :: StableHlo.TRef.nullary (.of main_call2_call0_c_23 : StableHlo.TRef sig ⟨S_, .i32⟩) (constantI S_ 32 6#32)
  :: StableHlo.TRef.unary (.of main_call2_call0_c_23 : StableHlo.TRef sig ⟨S_, .i32⟩) (.of main_call2_call0_v91 : StableHlo.TRef sig ⟨S4096x8, .i32⟩) (broadcastInDim S4096x8 ![] bcast_S_S4096x8)
  :: StableHlo.TRef.binary (.of main_call2_call0_v87 : StableHlo.TRef sig ⟨S4096x8, .i32⟩) (.of main_call2_call0_v91 : StableHlo.TRef sig ⟨S4096x8, .i32⟩) (.of main_call2_call0_v92 : StableHlo.TRef sig ⟨S4096x8, .i32⟩) Host.shrui
  :: StableHlo.TRef.binary (.of main_call2_call0_v90 : StableHlo.TRef sig ⟨S4096x8, .i32⟩) (.of main_call2_call0_v92 : StableHlo.TRef sig ⟨S4096x8, .i32⟩) (.of main_call2_call0_v93 : StableHlo.TRef sig ⟨S4096x8, .i32⟩) ori
  :: StableHlo.TRef.binary (.of main_call2_call0_v88 : StableHlo.TRef sig ⟨S4096x8, .i32⟩) (.of main_call2_call0_v93 : StableHlo.TRef sig ⟨S4096x8, .i32⟩) (.of main_call2_call0_v94 : StableHlo.TRef sig ⟨S4096x8, .i32⟩) xori
  :: StableHlo.TRef.binary (.of main_call2_call0_v88 : StableHlo.TRef sig ⟨S4096x8, .i32⟩) (.of main_call2_call0_v94 : StableHlo.TRef sig ⟨S4096x8, .i32⟩) (.of main_call2_call0_v95 : StableHlo.TRef sig ⟨S4096x8, .i32⟩) addi
  :: StableHlo.TRef.nullary (.of main_call2_call0_c_24 : StableHlo.TRef sig ⟨S_, .i32⟩) (constantI S_ 32 6#32)
  :: StableHlo.TRef.unary (.of main_call2_call0_c_24 : StableHlo.TRef sig ⟨S_, .i32⟩) (.of main_call2_call0_v96 : StableHlo.TRef sig ⟨S4096x8, .i32⟩) (broadcastInDim S4096x8 ![] bcast_S_S4096x8)
  :: StableHlo.TRef.binary (.of main_call2_call0_v94 : StableHlo.TRef sig ⟨S4096x8, .i32⟩) (.of main_call2_call0_v96 : StableHlo.TRef sig ⟨S4096x8, .i32⟩) (.of main_call2_call0_v97 : StableHlo.TRef sig ⟨S4096x8, .i32⟩) Host.shli
  :: StableHlo.TRef.nullary (.of main_call2_call0_c_25 : StableHlo.TRef sig ⟨S_, .i32⟩) (constantI S_ 32 26#32)
  :: StableHlo.TRef.unary (.of main_call2_call0_c_25 : StableHlo.TRef sig ⟨S_, .i32⟩) (.of main_call2_call0_v98 : StableHlo.TRef sig ⟨S4096x8, .i32⟩) (broadcastInDim S4096x8 ![] bcast_S_S4096x8)
  :: StableHlo.TRef.binary (.of main_call2_call0_v94 : StableHlo.TRef sig ⟨S4096x8, .i32⟩) (.of main_call2_call0_v98 : StableHlo.TRef sig ⟨S4096x8, .i32⟩) (.of main_call2_call0_v99 : StableHlo.TRef sig ⟨S4096x8, .i32⟩) Host.shrui
  :: StableHlo.TRef.binary (.of main_call2_call0_v97 : StableHlo.TRef sig ⟨S4096x8, .i32⟩) (.of main_call2_call0_v99 : StableHlo.TRef sig ⟨S4096x8, .i32⟩) (.of main_call2_call0_v100 : StableHlo.TRef sig ⟨S4096x8, .i32⟩) ori
  :: StableHlo.TRef.binary (.of main_call2_call0_v95 : StableHlo.TRef sig ⟨S4096x8, .i32⟩) (.of main_call2_call0_v100 : StableHlo.TRef sig ⟨S4096x8, .i32⟩) (.of main_call2_call0_v101 : StableHlo.TRef sig ⟨S4096x8, .i32⟩) xori
  :: StableHlo.TRef.unary (.of main_call2_v5 : StableHlo.TRef sig ⟨S_, .i32⟩) (.of main_call2_call0_v102 : StableHlo.TRef sig ⟨S4096x8, .i32⟩) (broadcastInDim S4096x8 ![] bcast_S_S4096x8)
  :: StableHlo.TRef.binary (.of main_call2_call0_v95 : StableHlo.TRef sig ⟨S4096x8, .i32⟩) (.of main_call2_call0_v102 : StableHlo.TRef sig ⟨S4096x8, .i32⟩) (.of main_call2_call0_v103 : StableHlo.TRef sig ⟨S4096x8, .i32⟩) addi
  :: StableHlo.TRef.unary (.of main_call2_v7 : StableHlo.TRef sig ⟨S_, .i32⟩) (.of main_call2_call0_v104 : StableHlo.TRef sig ⟨S4096x8, .i32⟩) (broadcastInDim S4096x8 ![] bcast_S_S4096x8)
  :: StableHlo.TRef.binary (.of main_call2_call0_v101 : StableHlo.TRef sig ⟨S4096x8, .i32⟩) (.of main_call2_call0_v104 : StableHlo.TRef sig ⟨S4096x8, .i32⟩) (.of main_call2_call0_v105 : StableHlo.TRef sig ⟨S4096x8, .i32⟩) addi
  :: StableHlo.TRef.nullary (.of main_call2_call0_c_26 : StableHlo.TRef sig ⟨S_, .i32⟩) (constantI S_ 32 3#32)
  :: StableHlo.TRef.unary (.of main_call2_call0_c_26 : StableHlo.TRef sig ⟨S_, .i32⟩) (.of main_call2_call0_v106 : StableHlo.TRef sig ⟨S4096x8, .i32⟩) (broadcastInDim S4096x8 ![] bcast_S_S4096x8)
  :: StableHlo.TRef.binary (.of main_call2_call0_v105 : StableHlo.TRef sig ⟨S4096x8, .i32⟩) (.of main_call2_call0_v106 : StableHlo.TRef sig ⟨S4096x8, .i32⟩) (.of main_call2_call0_v107 : StableHlo.TRef sig ⟨S4096x8, .i32⟩) addi
  :: StableHlo.TRef.binary (.of main_call2_call0_v103 : StableHlo.TRef sig ⟨S4096x8, .i32⟩) (.of main_call2_call0_v107 : StableHlo.TRef sig ⟨S4096x8, .i32⟩) (.of main_call2_call0_v108 : StableHlo.TRef sig ⟨S4096x8, .i32⟩) addi
  :: StableHlo.TRef.nullary (.of main_call2_call0_c_27 : StableHlo.TRef sig ⟨S_, .i32⟩) (constantI S_ 32 17#32)
  :: StableHlo.TRef.unary (.of main_call2_call0_c_27 : StableHlo.TRef sig ⟨S_, .i32⟩) (.of main_call2_call0_v109 : StableHlo.TRef sig ⟨S4096x8, .i32⟩) (broadcastInDim S4096x8 ![] bcast_S_S4096x8)
  :: StableHlo.TRef.binary (.of main_call2_call0_v107 : StableHlo.TRef sig ⟨S4096x8, .i32⟩) (.of main_call2_call0_v109 : StableHlo.TRef sig ⟨S4096x8, .i32⟩) (.of main_call2_call0_v110 : StableHlo.TRef sig ⟨S4096x8, .i32⟩) Host.shli
  :: StableHlo.TRef.nullary (.of main_call2_call0_c_28 : StableHlo.TRef sig ⟨S_, .i32⟩) (constantI S_ 32 15#32)
  :: StableHlo.TRef.unary (.of main_call2_call0_c_28 : StableHlo.TRef sig ⟨S_, .i32⟩) (.of main_call2_call0_v111 : StableHlo.TRef sig ⟨S4096x8, .i32⟩) (broadcastInDim S4096x8 ![] bcast_S_S4096x8)
  :: StableHlo.TRef.binary (.of main_call2_call0_v107 : StableHlo.TRef sig ⟨S4096x8, .i32⟩) (.of main_call2_call0_v111 : StableHlo.TRef sig ⟨S4096x8, .i32⟩) (.of main_call2_call0_v112 : StableHlo.TRef sig ⟨S4096x8, .i32⟩) Host.shrui
  :: StableHlo.TRef.binary (.of main_call2_call0_v110 : StableHlo.TRef sig ⟨S4096x8, .i32⟩) (.of main_call2_call0_v112 : StableHlo.TRef sig ⟨S4096x8, .i32⟩) (.of main_call2_call0_v113 : StableHlo.TRef sig ⟨S4096x8, .i32⟩) ori
  :: StableHlo.TRef.binary (.of main_call2_call0_v108 : StableHlo.TRef sig ⟨S4096x8, .i32⟩) (.of main_call2_call0_v113 : StableHlo.TRef sig ⟨S4096x8, .i32⟩) (.of main_call2_call0_v114 : StableHlo.TRef sig ⟨S4096x8, .i32⟩) xori
  :: StableHlo.TRef.binary (.of main_call2_call0_v108 : StableHlo.TRef sig ⟨S4096x8, .i32⟩) (.of main_call2_call0_v114 : StableHlo.TRef sig ⟨S4096x8, .i32⟩) (.of main_call2_call0_v115 : StableHlo.TRef sig ⟨S4096x8, .i32⟩) addi
  :: StableHlo.TRef.nullary (.of main_call2_call0_c_29 : StableHlo.TRef sig ⟨S_, .i32⟩) (constantI S_ 32 29#32)
  :: StableHlo.TRef.unary (.of main_call2_call0_c_29 : StableHlo.TRef sig ⟨S_, .i32⟩) (.of main_call2_call0_v116 : StableHlo.TRef sig ⟨S4096x8, .i32⟩) (broadcastInDim S4096x8 ![] bcast_S_S4096x8)
  :: StableHlo.TRef.binary (.of main_call2_call0_v114 : StableHlo.TRef sig ⟨S4096x8, .i32⟩) (.of main_call2_call0_v116 : StableHlo.TRef sig ⟨S4096x8, .i32⟩) (.of main_call2_call0_v117 : StableHlo.TRef sig ⟨S4096x8, .i32⟩) Host.shli
  :: StableHlo.TRef.nullary (.of main_call2_call0_c_30 : StableHlo.TRef sig ⟨S_, .i32⟩) (constantI S_ 32 3#32)
  :: StableHlo.TRef.unary (.of main_call2_call0_c_30 : StableHlo.TRef sig ⟨S_, .i32⟩) (.of main_call2_call0_v118 : StableHlo.TRef sig ⟨S4096x8, .i32⟩) (broadcastInDim S4096x8 ![] bcast_S_S4096x8)
  :: StableHlo.TRef.binary (.of main_call2_call0_v114 : StableHlo.TRef sig ⟨S4096x8, .i32⟩) (.of main_call2_call0_v118 : StableHlo.TRef sig ⟨S4096x8, .i32⟩) (.of main_call2_call0_v119 : StableHlo.TRef sig ⟨S4096x8, .i32⟩) Host.shrui
  :: StableHlo.TRef.binary (.of main_call2_call0_v117 : StableHlo.TRef sig ⟨S4096x8, .i32⟩) (.of main_call2_call0_v119 : StableHlo.TRef sig ⟨S4096x8, .i32⟩) (.of main_call2_call0_v120 : StableHlo.TRef sig ⟨S4096x8, .i32⟩) ori
  :: StableHlo.TRef.binary (.of main_call2_call0_v115 : StableHlo.TRef sig ⟨S4096x8, .i32⟩) (.of main_call2_call0_v120 : StableHlo.TRef sig ⟨S4096x8, .i32⟩) (.of main_call2_call0_v121 : StableHlo.TRef sig ⟨S4096x8, .i32⟩) xori
  :: StableHlo.TRef.binary (.of main_call2_call0_v115 : StableHlo.TRef sig ⟨S4096x8, .i32⟩) (.of main_call2_call0_v121 : StableHlo.TRef sig ⟨S4096x8, .i32⟩) (.of main_call2_call0_v122 : StableHlo.TRef sig ⟨S4096x8, .i32⟩) addi
  :: StableHlo.TRef.nullary (.of main_call2_call0_c_31 : StableHlo.TRef sig ⟨S_, .i32⟩) (constantI S_ 32 16#32)
  :: StableHlo.TRef.unary (.of main_call2_call0_c_31 : StableHlo.TRef sig ⟨S_, .i32⟩) (.of main_call2_call0_v123 : StableHlo.TRef sig ⟨S4096x8, .i32⟩) (broadcastInDim S4096x8 ![] bcast_S_S4096x8)
  :: StableHlo.TRef.binary (.of main_call2_call0_v121 : StableHlo.TRef sig ⟨S4096x8, .i32⟩) (.of main_call2_call0_v123 : StableHlo.TRef sig ⟨S4096x8, .i32⟩) (.of main_call2_call0_v124 : StableHlo.TRef sig ⟨S4096x8, .i32⟩) Host.shli
  :: StableHlo.TRef.nullary (.of main_call2_call0_c_32 : StableHlo.TRef sig ⟨S_, .i32⟩) (constantI S_ 32 16#32)
  :: StableHlo.TRef.unary (.of main_call2_call0_c_32 : StableHlo.TRef sig ⟨S_, .i32⟩) (.of main_call2_call0_v125 : StableHlo.TRef sig ⟨S4096x8, .i32⟩) (broadcastInDim S4096x8 ![] bcast_S_S4096x8)
  :: StableHlo.TRef.binary (.of main_call2_call0_v121 : StableHlo.TRef sig ⟨S4096x8, .i32⟩) (.of main_call2_call0_v125 : StableHlo.TRef sig ⟨S4096x8, .i32⟩) (.of main_call2_call0_v126 : StableHlo.TRef sig ⟨S4096x8, .i32⟩) Host.shrui
  :: StableHlo.TRef.binary (.of main_call2_call0_v124 : StableHlo.TRef sig ⟨S4096x8, .i32⟩) (.of main_call2_call0_v126 : StableHlo.TRef sig ⟨S4096x8, .i32⟩) (.of main_call2_call0_v127 : StableHlo.TRef sig ⟨S4096x8, .i32⟩) ori
  :: StableHlo.TRef.binary (.of main_call2_call0_v122 : StableHlo.TRef sig ⟨S4096x8, .i32⟩) (.of main_call2_call0_v127 : StableHlo.TRef sig ⟨S4096x8, .i32⟩) (.of main_call2_call0_v128 : StableHlo.TRef sig ⟨S4096x8, .i32⟩) xori
  :: StableHlo.TRef.binary (.of main_call2_call0_v122 : StableHlo.TRef sig ⟨S4096x8, .i32⟩) (.of main_call2_call0_v128 : StableHlo.TRef sig ⟨S4096x8, .i32⟩) (.of main_call2_call0_v129 : StableHlo.TRef sig ⟨S4096x8, .i32⟩) addi
  :: StableHlo.TRef.nullary (.of main_call2_call0_c_33 : StableHlo.TRef sig ⟨S_, .i32⟩) (constantI S_ 32 24#32)
  :: StableHlo.TRef.unary (.of main_call2_call0_c_33 : StableHlo.TRef sig ⟨S_, .i32⟩) (.of main_call2_call0_v130 : StableHlo.TRef sig ⟨S4096x8, .i32⟩) (broadcastInDim S4096x8 ![] bcast_S_S4096x8)
  :: StableHlo.TRef.binary (.of main_call2_call0_v128 : StableHlo.TRef sig ⟨S4096x8, .i32⟩) (.of main_call2_call0_v130 : StableHlo.TRef sig ⟨S4096x8, .i32⟩) (.of main_call2_call0_v131 : StableHlo.TRef sig ⟨S4096x8, .i32⟩) Host.shli
  :: StableHlo.TRef.nullary (.of main_call2_call0_c_34 : StableHlo.TRef sig ⟨S_, .i32⟩) (constantI S_ 32 8#32)
  :: StableHlo.TRef.unary (.of main_call2_call0_c_34 : StableHlo.TRef sig ⟨S_, .i32⟩) (.of main_call2_call0_v132 : StableHlo.TRef sig ⟨S4096x8, .i32⟩) (broadcastInDim S4096x8 ![] bcast_S_S4096x8)
  :: StableHlo.TRef.binary (.of main_call2_call0_v128 : StableHlo.TRef sig ⟨S4096x8, .i32⟩) (.of main_call2_call0_v132 : StableHlo.TRef sig ⟨S4096x8, .i32⟩) (.of main_call2_call0_v133 : StableHlo.TRef sig ⟨S4096x8, .i32⟩) Host.shrui
  :: StableHlo.TRef.binary (.of main_call2_call0_v131 : StableHlo.TRef sig ⟨S4096x8, .i32⟩) (.of main_call2_call0_v133 : StableHlo.TRef sig ⟨S4096x8, .i32⟩) (.of main_call2_call0_v134 : StableHlo.TRef sig ⟨S4096x8, .i32⟩) ori
  :: StableHlo.TRef.binary (.of main_call2_call0_v129 : StableHlo.TRef sig ⟨S4096x8, .i32⟩) (.of main_call2_call0_v134 : StableHlo.TRef sig ⟨S4096x8, .i32⟩) (.of main_call2_call0_v135 : StableHlo.TRef sig ⟨S4096x8, .i32⟩) xori
  :: StableHlo.TRef.unary (.of main_call2_v7 : StableHlo.TRef sig ⟨S_, .i32⟩) (.of main_call2_call0_v136 : StableHlo.TRef sig ⟨S4096x8, .i32⟩) (broadcastInDim S4096x8 ![] bcast_S_S4096x8)
  :: StableHlo.TRef.binary (.of main_call2_call0_v129 : StableHlo.TRef sig ⟨S4096x8, .i32⟩) (.of main_call2_call0_v136 : StableHlo.TRef sig ⟨S4096x8, .i32⟩) (.of main_call2_call0_v137 : StableHlo.TRef sig ⟨S4096x8, .i32⟩) addi
  :: StableHlo.TRef.unary (.of main_call2_call0_v1 : StableHlo.TRef sig ⟨S_, .i32⟩) (.of main_call2_call0_v138 : StableHlo.TRef sig ⟨S4096x8, .i32⟩) (broadcastInDim S4096x8 ![] bcast_S_S4096x8)
  :: StableHlo.TRef.binary (.of main_call2_call0_v135 : StableHlo.TRef sig ⟨S4096x8, .i32⟩) (.of main_call2_call0_v138 : StableHlo.TRef sig ⟨S4096x8, .i32⟩) (.of main_call2_call0_v139 : StableHlo.TRef sig ⟨S4096x8, .i32⟩) addi
  :: StableHlo.TRef.nullary (.of main_call2_call0_c_35 : StableHlo.TRef sig ⟨S_, .i32⟩) (constantI S_ 32 4#32)
  :: StableHlo.TRef.unary (.of main_call2_call0_c_35 : StableHlo.TRef sig ⟨S_, .i32⟩) (.of main_call2_call0_v140 : StableHlo.TRef sig ⟨S4096x8, .i32⟩) (broadcastInDim S4096x8 ![] bcast_S_S4096x8)
  :: StableHlo.TRef.binary (.of main_call2_call0_v139 : StableHlo.TRef sig ⟨S4096x8, .i32⟩) (.of main_call2_call0_v140 : StableHlo.TRef sig ⟨S4096x8, .i32⟩) (.of main_call2_call0_v141 : StableHlo.TRef sig ⟨S4096x8, .i32⟩) addi
  :: StableHlo.TRef.binary (.of main_call2_call0_v137 : StableHlo.TRef sig ⟨S4096x8, .i32⟩) (.of main_call2_call0_v141 : StableHlo.TRef sig ⟨S4096x8, .i32⟩) (.of main_call2_call0_v142 : StableHlo.TRef sig ⟨S4096x8, .i32⟩) addi
  :: StableHlo.TRef.nullary (.of main_call2_call0_c_36 : StableHlo.TRef sig ⟨S_, .i32⟩) (constantI S_ 32 13#32)
  :: StableHlo.TRef.unary (.of main_call2_call0_c_36 : StableHlo.TRef sig ⟨S_, .i32⟩) (.of main_call2_call0_v143 : StableHlo.TRef sig ⟨S4096x8, .i32⟩) (broadcastInDim S4096x8 ![] bcast_S_S4096x8)
  :: StableHlo.TRef.binary (.of main_call2_call0_v141 : StableHlo.TRef sig ⟨S4096x8, .i32⟩) (.of main_call2_call0_v143 : StableHlo.TRef sig ⟨S4096x8, .i32⟩) (.of main_call2_call0_v144 : StableHlo.TRef sig ⟨S4096x8, .i32⟩) Host.shli
  :: StableHlo.TRef.nullary (.of main_call2_call0_c_37 : StableHlo.TRef sig ⟨S_, .i32⟩) (constantI S_ 32 19#32)
  :: StableHlo.TRef.unary (.of main_call2_call0_c_37 : StableHlo.TRef sig ⟨S_, .i32⟩) (.of main_call2_call0_v145 : StableHlo.TRef sig ⟨S4096x8, .i32⟩) (broadcastInDim S4096x8 ![] bcast_S_S4096x8)
  :: StableHlo.TRef.binary (.of main_call2_call0_v141 : StableHlo.TRef sig ⟨S4096x8, .i32⟩) (.of main_call2_call0_v145 : StableHlo.TRef sig ⟨S4096x8, .i32⟩) (.of main_call2_call0_v146 : StableHlo.TRef sig ⟨S4096x8, .i32⟩) Host.shrui
  :: StableHlo.TRef.binary (.of main_call2_call0_v144 : StableHlo.TRef sig ⟨S4096x8, .i32⟩) (.of main_call2_call0_v146 : StableHlo.TRef sig ⟨S4096x8, .i32⟩) (.of main_call2_call0_v147 : StableHlo.TRef sig ⟨S4096x8, .i32⟩) ori
  :: StableHlo.TRef.binary (.of main_call2_call0_v142 : StableHlo.TRef sig ⟨S4096x8, .i32⟩) (.of main_call2_call0_v147 : StableHlo.TRef sig ⟨S4096x8, .i32⟩) (.of main_call2_call0_v148 : StableHlo.TRef sig ⟨S4096x8, .i32⟩) xori
  :: StableHlo.TRef.binary (.of main_call2_call0_v142 : StableHlo.TRef sig ⟨S4096x8, .i32⟩) (.of main_call2_call0_v148 : StableHlo.TRef sig ⟨S4096x8, .i32⟩) (.of main_call2_call0_v149 : StableHlo.TRef sig ⟨S4096x8, .i32⟩) addi
  :: StableHlo.TRef.nullary (.of main_call2_call0_c_38 : StableHlo.TRef sig ⟨S_, .i32⟩) (constantI S_ 32 15#32)
  :: StableHlo.TRef.unary (.of main_call2_call0_c_38 : StableHlo.TRef sig ⟨S_, .i32⟩) (.of main_call2_call0_v150 : StableHlo.TRef sig ⟨S4096x8, .i32⟩) (broadcastInDim S4096x8 ![] bcast_S_S4096x8)
  :: StableHlo.TRef.binary (.of main_call2_call0_v148 : StableHlo.TRef sig ⟨S4096x8, .i32⟩) (.of main_call2_call0_v150 : StableHlo.TRef sig ⟨S4096x8, .i32⟩) (.of main_call2_call0_v151 : StableHlo.TRef sig ⟨S4096x8, .i32⟩) Host.shli
  :: StableHlo.TRef.nullary (.of main_call2_call0_c_39 : StableHlo.TRef sig ⟨S_, .i32⟩) (constantI S_ 32 17#32)
  :: StableHlo.TRef.unary (.of main_call2_call0_c_39 : StableHlo.TRef sig ⟨S_, .i32⟩) (.of main_call2_call0_v152 : StableHlo.TRef sig ⟨S4096x8, .i32⟩) (broadcastInDim S4096x8 ![] bcast_S_S4096x8)
  :: StableHlo.TRef.binary (.of main_call2_call0_v148 : StableHlo.TRef sig ⟨S4096x8, .i32⟩) (.of main_call2_call0_v152 : StableHlo.TRef sig ⟨S4096x8, .i32⟩) (.of main_call2_call0_v153 : StableHlo.TRef sig ⟨S4096x8, .i32⟩) Host.shrui
  :: StableHlo.TRef.binary (.of main_call2_call0_v151 : StableHlo.TRef sig ⟨S4096x8, .i32⟩) (.of main_call2_call0_v153 : StableHlo.TRef sig ⟨S4096x8, .i32⟩) (.of main_call2_call0_v154 : StableHlo.TRef sig ⟨S4096x8, .i32⟩) ori
  :: StableHlo.TRef.binary (.of main_call2_call0_v149 : StableHlo.TRef sig ⟨S4096x8, .i32⟩) (.of main_call2_call0_v154 : StableHlo.TRef sig ⟨S4096x8, .i32⟩) (.of main_call2_call0_v155 : StableHlo.TRef sig ⟨S4096x8, .i32⟩) xori
  :: StableHlo.TRef.binary (.of main_call2_call0_v149 : StableHlo.TRef sig ⟨S4096x8, .i32⟩) (.of main_call2_call0_v155 : StableHlo.TRef sig ⟨S4096x8, .i32⟩) (.of main_call2_call0_v156 : StableHlo.TRef sig ⟨S4096x8, .i32⟩) addi
  :: StableHlo.TRef.nullary (.of main_call2_call0_c_40 : StableHlo.TRef sig ⟨S_, .i32⟩) (constantI S_ 32 26#32)
  :: StableHlo.TRef.unary (.of main_call2_call0_c_40 : StableHlo.TRef sig ⟨S_, .i32⟩) (.of main_call2_call0_v157 : StableHlo.TRef sig ⟨S4096x8, .i32⟩) (broadcastInDim S4096x8 ![] bcast_S_S4096x8)
  :: StableHlo.TRef.binary (.of main_call2_call0_v155 : StableHlo.TRef sig ⟨S4096x8, .i32⟩) (.of main_call2_call0_v157 : StableHlo.TRef sig ⟨S4096x8, .i32⟩) (.of main_call2_call0_v158 : StableHlo.TRef sig ⟨S4096x8, .i32⟩) Host.shli
  :: StableHlo.TRef.nullary (.of main_call2_call0_c_41 : StableHlo.TRef sig ⟨S_, .i32⟩) (constantI S_ 32 6#32)
  :: StableHlo.TRef.unary (.of main_call2_call0_c_41 : StableHlo.TRef sig ⟨S_, .i32⟩) (.of main_call2_call0_v159 : StableHlo.TRef sig ⟨S4096x8, .i32⟩) (broadcastInDim S4096x8 ![] bcast_S_S4096x8)
  :: StableHlo.TRef.binary (.of main_call2_call0_v155 : StableHlo.TRef sig ⟨S4096x8, .i32⟩) (.of main_call2_call0_v159 : StableHlo.TRef sig ⟨S4096x8, .i32⟩) (.of main_call2_call0_v160 : StableHlo.TRef sig ⟨S4096x8, .i32⟩) Host.shrui
  :: StableHlo.TRef.binary (.of main_call2_call0_v158 : StableHlo.TRef sig ⟨S4096x8, .i32⟩) (.of main_call2_call0_v160 : StableHlo.TRef sig ⟨S4096x8, .i32⟩) (.of main_call2_call0_v161 : StableHlo.TRef sig ⟨S4096x8, .i32⟩) ori
  :: StableHlo.TRef.binary (.of main_call2_call0_v156 : StableHlo.TRef sig ⟨S4096x8, .i32⟩) (.of main_call2_call0_v161 : StableHlo.TRef sig ⟨S4096x8, .i32⟩) (.of main_call2_call0_v162 : StableHlo.TRef sig ⟨S4096x8, .i32⟩) xori
  :: StableHlo.TRef.binary (.of main_call2_call0_v156 : StableHlo.TRef sig ⟨S4096x8, .i32⟩) (.of main_call2_call0_v162 : StableHlo.TRef sig ⟨S4096x8, .i32⟩) (.of main_call2_call0_v163 : StableHlo.TRef sig ⟨S4096x8, .i32⟩) addi
  :: StableHlo.TRef.nullary (.of main_call2_call0_c_42 : StableHlo.TRef sig ⟨S_, .i32⟩) (constantI S_ 32 6#32)
  :: StableHlo.TRef.unary (.of main_call2_call0_c_42 : StableHlo.TRef sig ⟨S_, .i32⟩) (.of main_call2_call0_v164 : StableHlo.TRef sig ⟨S4096x8, .i32⟩) (broadcastInDim S4096x8 ![] bcast_S_S4096x8)
  :: StableHlo.TRef.binary (.of main_call2_call0_v162 : StableHlo.TRef sig ⟨S4096x8, .i32⟩) (.of main_call2_call0_v164 : StableHlo.TRef sig ⟨S4096x8, .i32⟩) (.of main_call2_call0_v165 : StableHlo.TRef sig ⟨S4096x8, .i32⟩) Host.shli
  :: StableHlo.TRef.nullary (.of main_call2_call0_c_43 : StableHlo.TRef sig ⟨S_, .i32⟩) (constantI S_ 32 26#32)
  :: StableHlo.TRef.unary (.of main_call2_call0_c_43 : StableHlo.TRef sig ⟨S_, .i32⟩) (.of main_call2_call0_v166 : StableHlo.TRef sig ⟨S4096x8, .i32⟩) (broadcastInDim S4096x8 ![] bcast_S_S4096x8)
  :: StableHlo.TRef.binary (.of main_call2_call0_v162 : StableHlo.TRef sig ⟨S4096x8, .i32⟩) (.of main_call2_call0_v166 : StableHlo.TRef sig ⟨S4096x8, .i32⟩) (.of main_call2_call0_v167 : StableHlo.TRef sig ⟨S4096x8, .i32⟩) Host.shrui
  :: StableHlo.TRef.binary (.of main_call2_call0_v165 : StableHlo.TRef sig ⟨S4096x8, .i32⟩) (.of main_call2_call0_v167 : StableHlo.TRef sig ⟨S4096x8, .i32⟩) (.of main_call2_call0_v168 : StableHlo.TRef sig ⟨S4096x8, .i32⟩) ori
  :: StableHlo.TRef.binary (.of main_call2_call0_v163 : StableHlo.TRef sig ⟨S4096x8, .i32⟩) (.of main_call2_call0_v168 : StableHlo.TRef sig ⟨S4096x8, .i32⟩) (.of main_call2_call0_v169 : StableHlo.TRef sig ⟨S4096x8, .i32⟩) xori
  :: StableHlo.TRef.unary (.of main_call2_call0_v1 : StableHlo.TRef sig ⟨S_, .i32⟩) (.of main_call2_call0_v170 : StableHlo.TRef sig ⟨S4096x8, .i32⟩) (broadcastInDim S4096x8 ![] bcast_S_S4096x8)
  :: StableHlo.TRef.binary (.of main_call2_call0_v163 : StableHlo.TRef sig ⟨S4096x8, .i32⟩) (.of main_call2_call0_v170 : StableHlo.TRef sig ⟨S4096x8, .i32⟩) (.of main_call2_v19_0 : StableHlo.TRef sig ⟨S4096x8, .i32⟩) addi
  :: StableHlo.TRef.unary (.of main_call2_v5 : StableHlo.TRef sig ⟨S_, .i32⟩) (.of main_call2_call0_v172 : StableHlo.TRef sig ⟨S4096x8, .i32⟩) (broadcastInDim S4096x8 ![] bcast_S_S4096x8)
  :: StableHlo.TRef.binary (.of main_call2_call0_v169 : StableHlo.TRef sig ⟨S4096x8, .i32⟩) (.of main_call2_call0_v172 : StableHlo.TRef sig ⟨S4096x8, .i32⟩) (.of main_call2_call0_v173 : StableHlo.TRef sig ⟨S4096x8, .i32⟩) addi
  :: StableHlo.TRef.nullary (.of main_call2_call0_c_44 : StableHlo.TRef sig ⟨S_, .i32⟩) (constantI S_ 32 5#32)
  :: StableHlo.TRef.unary (.of main_call2_call0_c_44 : StableHlo.TRef sig ⟨S_, .i32⟩) (.of main_call2_call0_v174 : StableHlo.TRef sig ⟨S4096x8, .i32⟩) (broadcastInDim S4096x8 ![] bcast_S_S4096x8)
  :: StableHlo.TRef.binary (.of main_call2_call0_v173 : StableHlo.TRef sig ⟨S4096x8, .i32⟩) (.of main_call2_call0_v174 : StableHlo.TRef sig ⟨S4096x8, .i32⟩) (.of main_call2_v19_1 : StableHlo.TRef sig ⟨S4096x8, .i32⟩) addi
  :: StableHlo.TRef.binary main_call2_call0.v171 main_call2_call0.v175 (.of main_call2_v20 : StableHlo.TRef sig ⟨S4096x8, .i32⟩) xori
  :: StableHlo.TRef.nullary (.of main_call2_c_2 : StableHlo.TRef sig ⟨S_, .i32⟩) (constantI S_ 32 9#32)
  :: StableHlo.TRef.unary (.of main_call2_c_2 : StableHlo.TRef sig ⟨S_, .i32⟩) (.of main_call2_v21 : StableHlo.TRef sig ⟨S4096x8, .i32⟩) (broadcastInDim S4096x8 ![] bcast_S_S4096x8)
  :: StableHlo.TRef.binary (.of main_call2_v20 : StableHlo.TRef sig ⟨S4096x8, .i32⟩) (.of main_call2_v21 : StableHlo.TRef sig ⟨S4096x8, .i32⟩) (.of main_call2_v22 : StableHlo.TRef sig ⟨S4096x8, .i32⟩) Host.shrui
  :: StableHlo.TRef.nullary (.of main_call2_c_3 : StableHlo.TRef sig ⟨S_, .i32⟩) (constantI S_ 32 1065353216#32)
  :: StableHlo.TRef.unary (.of main_call2_c_3 : StableHlo.TRef sig ⟨S_, .i32⟩) (.of main_call2_v23 : StableHlo.TRef sig ⟨S4096x8, .i32⟩) (broadcastInDim S4096x8 ![] bcast_S_S4096x8)
  :: StableHlo.TRef.binary (.of main_call2_v22 : StableHlo.TRef sig ⟨S4096x8, .i32⟩) (.of main_call2_v23 : StableHlo.TRef sig ⟨S4096x8, .i32⟩) (.of main_call2_v24 : StableHlo.TRef sig ⟨S4096x8, .i32⟩) ori
  :: StableHlo.TRef.unary (.of main_call2_v24 : StableHlo.TRef sig ⟨S4096x8, .i32⟩) (.of main_call2_v25 : StableHlo.TRef sig ⟨S4096x8, .f32⟩) (bitcastToFloat .f32)
  :: StableHlo.TRef.nullary (.of main_call2_cst : StableHlo.TRef sig ⟨S_, .f32⟩) (constant S_ .f32 0x3F800000#32)
  :: StableHlo.TRef.unary (.of main_call2_cst : StableHlo.TRef sig ⟨S_, .f32⟩) (.of main_call2_v26 : StableHlo.TRef sig ⟨S4096x8, .f32⟩) (broadcastInDim S4096x8 ![] bcast_S_S4096x8)
  :: StableHlo.TRef.binary (.of main_call2_v25 : StableHlo.TRef sig ⟨S4096x8, .f32⟩) (.of main_call2_v26 : StableHlo.TRef sig ⟨S4096x8, .f32⟩) (.of main_call2_v27 : StableHlo.TRef sig ⟨S4096x8, .f32⟩) subf
  :: StableHlo.TRef.binary (.of main_call2_v3 : StableHlo.TRef sig ⟨S1x1, .f32⟩) (.of main_call2_v2 : StableHlo.TRef sig ⟨S1x1, .f32⟩) (.of main_call2_v28 : StableHlo.TRef sig ⟨S1x1, .f32⟩) subf
  :: StableHlo.TRef.unary (.of main_call2_v28 : StableHlo.TRef sig ⟨S1x1, .f32⟩) (.of main_call2_v29 : StableHlo.TRef sig ⟨S4096x8, .f32⟩) (broadcastInDim S4096x8 ![0, 1] bcast_S1x1_S4096x8_0_1)
  :: StableHlo.TRef.binary (.of main_call2_v27 : StableHlo.TRef sig ⟨S4096x8, .f32⟩) (.of main_call2_v29 : StableHlo.TRef sig ⟨S4096x8, .f32⟩) (.of main_call2_v30 : StableHlo.TRef sig ⟨S4096x8, .f32⟩) mulf
  :: StableHlo.TRef.unary (.of main_call2_v2 : StableHlo.TRef sig ⟨S1x1, .f32⟩) (.of main_call2_v31 : StableHlo.TRef sig ⟨S4096x8, .f32⟩) (broadcastInDim S4096x8 ![0, 1] bcast_S1x1_S4096x8_0_1)
  :: StableHlo.TRef.binary (.of main_call2_v30 : StableHlo.TRef sig ⟨S4096x8, .f32⟩) (.of main_call2_v31 : StableHlo.TRef sig ⟨S4096x8, .f32⟩) (.of main_call2_v32 : StableHlo.TRef sig ⟨S4096x8, .f32⟩) addf
  :: StableHlo.TRef.unary (.of main_call2_v2 : StableHlo.TRef sig ⟨S1x1, .f32⟩) (.of main_call2_v33 : StableHlo.TRef sig ⟨S4096x8, .f32⟩) (broadcastInDim S4096x8 ![0, 1] bcast_S1x1_S4096x8_0_1)
  :: StableHlo.TRef.binary (.of main_call2_v33 : StableHlo.TRef sig ⟨S4096x8, .f32⟩) (.of main_call2_v32 : StableHlo.TRef sig ⟨S4096x8, .f32⟩) (.of main_v26 : StableHlo.TRef sig ⟨S4096x8, .f32⟩) maximumf
  :: [] )
set_option maxHeartbeats 40000000 in  -- a long stretch: its list (or the term over it) exceeds the default budget
/-- Each of these operations touches only buffers the core holds. -/
theorem main_part0_ops5_sub : (main_part0_ops5 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.reshape_bufs_sub .., StableHlo.nullary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub ..⟩
/-- 18 host operations of @main, window 0 (statements 1 … 60), in order. -/
abbrev main_part0_ops6 : List (HloOp τ sig (Elt F)) :=
  [ StableHlo.nullary main_cst_13 (constant S_ .f32 0x3CA3D70A#32),
    StableHlo.unary main_cst_13 main_v27 (broadcastInDim S4096x8 ![] bcast_S_S4096x8 : (⟨S_, .f32⟩ : BufTy).Contents (Elt F) → (⟨S4096x8, .f32⟩ : BufTy).Contents (Elt F)),
    StableHlo.binary main_v26 main_v27 main_v28 (mulf : (⟨S4096x8, .f32⟩ : BufTy).Contents (Elt F) → (⟨S4096x8, .f32⟩ : BufTy).Contents (Elt F) → (⟨S4096x8, .f32⟩ : BufTy).Contents (Elt F)),
    StableHlo.binary main_v6 main_v28 main_v29 (addf : (⟨S4096x8, .f32⟩ : BufTy).Contents (Elt F) → (⟨S4096x8, .f32⟩ : BufTy).Contents (Elt F) → (⟨S4096x8, .f32⟩ : BufTy).Contents (Elt F)),
    StableHlo.nullary main_cst_14 (constant S_ .f32 0xFF800000#32),
    StableHlo.binary main_v29 main_cst_14 main_v30 ((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)),
    StableHlo.nullary main_cst_15 (constant S_ .f32 0xFF800000#32),
    StableHlo.unary main_cst_15 main_v31 (broadcastInDim S4096 ![] bcast_S_S4096 : (⟨S_, .f32⟩ : BufTy).Contents (Elt F) → (⟨S4096, .f32⟩ : BufTy).Contents (Elt F)),
    StableHlo.binary main_v31 main_v30 main_v32 (maximumf : (⟨S4096, .f32⟩ : BufTy).Contents (Elt F) → (⟨S4096, .f32⟩ : BufTy).Contents (Elt F) → (⟨S4096, .f32⟩ : BufTy).Contents (Elt F)),
    StableHlo.unary main_v32 main_v33 (broadcastInDim S4096x1 ![0] bcast_S4096_S4096x1_0 : (⟨S4096, .f32⟩ : BufTy).Contents (Elt F) → (⟨S4096x1, .f32⟩ : BufTy).Contents (Elt F)),
    StableHlo.unary main_v33 main_v34 (broadcastInDim S4096x8 ![0, 1] bcast_S4096x1_S4096x8_0_1 : (⟨S4096x1, .f32⟩ : BufTy).Contents (Elt F) → (⟨S4096x8, .f32⟩ : BufTy).Contents (Elt F)),
    StableHlo.binary main_v29 main_v34 main_v35 (subf : (⟨S4096x8, .f32⟩ : BufTy).Contents (Elt F) → (⟨S4096x8, .f32⟩ : BufTy).Contents (Elt F) → (⟨S4096x8, .f32⟩ : BufTy).Contents (Elt F)),
    StableHlo.unary main_v35 main_v36 (Host.exp : (⟨S4096x8, .f32⟩ : BufTy).Contents (Elt F) → (⟨S4096x8, .f32⟩ : BufTy).Contents (Elt F)),
    StableHlo.nullary main_cst_16 (constant S_ .f32 0x00000000#32),
    StableHlo.binary main_v36 main_cst_16 main_v37 ((fun x v => Host.reduceAdd x v reducesTo_S4096x8_S4096_d1 h_S_) : (⟨S4096x8, .f32⟩ : BufTy).Contents (Elt F) → (⟨S_, .f32⟩ : BufTy).Contents (Elt F) → (⟨S4096, .f32⟩ : BufTy).Contents (Elt F)),
    StableHlo.unary main_v37 main_v38 (broadcastInDim S4096x1 ![0] bcast_S4096_S4096x1_0 : (⟨S4096, .f32⟩ : BufTy).Contents (Elt F) → (⟨S4096x1, .f32⟩ : BufTy).Contents (Elt F)),
    StableHlo.unary main_v38 main_v39 (broadcastInDim S4096x8 ![0, 1] bcast_S4096x1_S4096x8_0_1 : (⟨S4096x1, .f32⟩ : BufTy).Contents (Elt F) → (⟨S4096x8, .f32⟩ : BufTy).Contents (Elt F)),
    StableHlo.binary main_v36 main_v39 main_v40 (Host.divf : (⟨S4096x8, .f32⟩ : BufTy).Contents (Elt F) → (⟨S4096x8, .f32⟩ : BufTy).Contents (Elt F) → (⟨S4096x8, .f32⟩ : BufTy).Contents (Elt F)) ]
/-- Each of these operations touches only buffers the core holds. -/
theorem main_part0_ops6_sub : (main_part0_ops6 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    StableHlo.seq main_part0_ops5 ]
  (StableHlo.seq main_part0_ops6) : Prog (TpuEff nD τ sig (Elt F) (Pipeline.Sig Λ₀ (Fin 0) fun p => (pcfgs (F := F) p).Adm) .tc) PUnit) := by
  rewrite [StableHlo.chainK_seq_cons, Pipeline.chainK_cons, StableHlo.chainK_seq_cons, Pipeline.chainK_cons, StableHlo.chainK_seq_cons, Pipeline.chainK_cons]
  chain_rfl

end Cert.ReferenceIdeal.Run

end
-- ==== Proof.RefOps1.lean ====
/- The reference's operations, window 1 of its program, as lists, and the window as the run of those lists. -/
module

public import proofs.«01_k».proof.Proof.Gen.ReferenceIdeal
public import Idealize.ShloMosaic.Lib.Pipeline.Kit
public import Idealize.ShloMosaic.Lib.Pipeline.Regions

@[expose] public section

set_option maxRecDepth 3912

noncomputable section

namespace Cert.ReferenceIdeal.Run

open Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- 5 host operations of @argmax (main_call3), window 1 (statements 61 … 120), in order. -/
abbrev main_part1_ops0 : List (HloOp τ sig (Elt F)) :=
  [ StableHlo.TRef.nullary (.of main_call3_v0 : StableHlo.TRef sig ⟨S4096x8, .i32⟩) (iotaInDim S4096x8 32 1),
    StableHlo.TRef.nullary (.of main_call3_cst : StableHlo.TRef sig ⟨S_, .f32⟩) (constant S_ .f32 0xFF800000#32),
    StableHlo.TRef.nullary (.of main_call3_c : StableHlo.TRef sig ⟨S_, .i32⟩) (constantI S_ 32 0#32),
    StableHlo.TRef.quaternary (.of main_v40 : StableHlo.TRef sig ⟨S4096x8, .f32⟩) (.of main_call3_v0 : StableHlo.TRef sig ⟨S4096x8, .i32⟩) (.of main_call3_cst : StableHlo.TRef sig ⟨S_, .f32⟩) (.of main_call3_c : StableHlo.TRef sig ⟨S_, .i32⟩) (.of main_call3_v1_0 : StableHlo.TRef sig ⟨S4096, .f32⟩) (fun x y u v j => (Host.argReduce reducer_argmax_f32_i32 x y u v reducesTo_S4096x8_S4096_d1 h_S_ j).1),
    StableHlo.TRef.quaternary (.of main_v40 : StableHlo.TRef sig ⟨S4096x8, .f32⟩) (.of main_call3_v0 : StableHlo.TRef sig ⟨S4096x8, .i32⟩) (.of main_call3_cst : StableHlo.TRef sig ⟨S_, .f32⟩) (.of main_call3_c : StableHlo.TRef sig ⟨S_, .i32⟩) (.of main_v41 : StableHlo.TRef sig ⟨S4096, .i32⟩) (fun x y u v j => (Host.argReduce reducer_argmax_f32_i32 x y u v reducesTo_S4096x8_S4096_d1 h_S_ j).2) ]
/-- Each of these operations touches only buffers the core holds. -/
theorem main_part1_ops0_sub : (main_part1_ops0 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 19 host operations of @main, window 1 (statements 61 … 120), in order. -/
abbrev main_part1_ops1 : List (HloOp τ sig (Elt F)) :=
  [ StableHlo.nullary main_v42 (iotaInDim S4096 32 0),
    StableHlo.nullary main_c_17 (constantI S_ 32 0#32),
    StableHlo.unary main_c_17 main_v43 (broadcastInDim S4096 ![] bcast_S_S4096 : (⟨S_, .i32⟩ : BufTy).Contents (Elt F) → (⟨S4096, .i32⟩ : BufTy).Contents (Elt F)),
    StableHlo.binary main_v42 main_v43 main_v44 (cmpi .slt : (⟨S4096, .i32⟩ : BufTy).Contents (Elt F) → (⟨S4096, .i32⟩ : BufTy).Contents (Elt F) → (⟨S4096, .i1⟩ : BufTy).Contents (Elt F)),
    StableHlo.nullary main_c_18 (constantI S_ 32 4096#32),
    StableHlo.unary main_c_18 main_v45 (broadcastInDim S4096 ![] bcast_S_S4096 : (⟨S_, .i32⟩ : BufTy).Contents (Elt F) → (⟨S4096, .i32⟩ : BufTy).Contents (Elt F)),
    StableHlo.binary main_v42 main_v45 main_v46 (addi : (⟨S4096, .i32⟩ : BufTy).Contents (Elt F) → (⟨S4096, .i32⟩ : BufTy).Contents (Elt F) → (⟨S4096, .i32⟩ : BufTy).Contents (Elt F)),
    StableHlo.ternary main_v44 main_v46 main_v42 main_v47 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_19 (constantI S_ 32 0#32),
    StableHlo.unary main_c_19 main_v48 (broadcastInDim S4096 ![] bcast_S_S4096 : (⟨S_, .i32⟩ : BufTy).Contents (Elt F) → (⟨S4096, .i32⟩ : BufTy).Contents (Elt F)),
    StableHlo.binary main_v41 main_v48 main_v49 (cmpi .slt : (⟨S4096, .i32⟩ : BufTy).Contents (Elt F) → (⟨S4096, .i32⟩ : BufTy).Contents (Elt F) → (⟨S4096, .i1⟩ : BufTy).Contents (Elt F)),
    StableHlo.nullary main_c_20 (constantI S_ 32 8#32),
    StableHlo.unary main_c_20 main_v50 (broadcastInDim S4096 ![] bcast_S_S4096 : (⟨S_, .i32⟩ : BufTy).Contents (Elt F) → (⟨S4096, .i32⟩ : BufTy).Contents (Elt F)),
    StableHlo.binary main_v41 main_v50 main_v51 (addi : (⟨S4096, .i32⟩ : BufTy).Contents (Elt F) → (⟨S4096, .i32⟩ : BufTy).Contents (Elt F) → (⟨S4096, .i32⟩ : BufTy).Contents (Elt F)),
    StableHlo.ternary main_v49 main_v51 main_v41 main_v52 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v47 main_v53 (broadcastInDim S4096x1 ![0] bcast_S4096_S4096x1_0 : (⟨S4096, .i32⟩ : BufTy).Contents (Elt F) → (⟨S4096x1, .i32⟩ : BufTy).Contents (Elt F)),
    StableHlo.unary main_v52 main_v54 (broadcastInDim S4096x1 ![0] bcast_S4096_S4096x1_0 : (⟨S4096, .i32⟩ : BufTy).Contents (Elt F) → (⟨S4096x1, .i32⟩ : BufTy).Contents (Elt F)),
    StableHlo.binary main_v53 main_v54 main_v55 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.binary main_v40 main_v55 main_v56 ((fun x i => Host.gather gather_S4096x8_S4096x2_S4096_n_01_n_n_01_1_11 x i) : (⟨S4096x8, .f32⟩ : BufTy).Contents (Elt F) → (⟨S4096x2, .i32⟩ : BufTy).Contents (Elt F) → (⟨S4096, .f32⟩ : BufTy).Contents (Elt F)) ]
/-- Each of these operations touches only buffers the core holds. -/
theorem main_part1_ops1_sub : (main_part1_ops1 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub ..⟩
/-- 6 host operations of @_one_hot (main_call4), window 1 (statements 61 … 120), in order. -/
abbrev main_part1_ops2 : List (HloOp τ sig (Elt F)) :=
  [ StableHlo.TRef.unary (.of main_v41 : StableHlo.TRef sig ⟨S4096, .i32⟩) (.of main_call4_v0 : StableHlo.TRef sig ⟨S4096x1, .i32⟩) (broadcastInDim S4096x1 ![0] bcast_S4096_S4096x1_0),
    StableHlo.TRef.nullary (.of main_call4_v1 : StableHlo.TRef sig ⟨S1x8, .i32⟩) (iotaInDim S1x8 32 1),
    StableHlo.TRef.unary (.of main_call4_v0 : StableHlo.TRef sig ⟨S4096x1, .i32⟩) (.of main_call4_v2 : StableHlo.TRef sig ⟨S4096x8, .i32⟩) (broadcastInDim S4096x8 ![0, 1] bcast_S4096x1_S4096x8_0_1),
    StableHlo.TRef.unary (.of main_call4_v1 : StableHlo.TRef sig ⟨S1x8, .i32⟩) (.of main_call4_v3 : StableHlo.TRef sig ⟨S4096x8, .i32⟩) (broadcastInDim S4096x8 ![0, 1] bcast_S1x8_S4096x8_0_1),
    StableHlo.TRef.binary (.of main_call4_v2 : StableHlo.TRef sig ⟨S4096x8, .i32⟩) (.of main_call4_v3 : StableHlo.TRef sig ⟨S4096x8, .i32⟩) (.of main_call4_v4 : StableHlo.TRef sig ⟨S4096x8, .i1⟩) (cmpi .eq),
    StableHlo.TRef.unary (.of main_call4_v4 : StableHlo.TRef sig ⟨S4096x8, .i1⟩) (.of main_v57 : StableHlo.TRef sig ⟨S4096x8, .f32⟩) (uitofp .f32) ]
/-- Each of these operations touches only buffers the core holds. -/
theorem main_part1_ops2_sub : (main_part1_ops2 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..⟩
/-- 1 host operation of @main, window 1 (statements 61 … 120), in order. -/
abbrev main_part1_ops3 : List (HloOp τ sig (Elt F)) :=
  [ StableHlo.unary main_v56 main_v58 (Host.negf : (⟨S4096, .f32⟩ : BufTy).Contents (Elt F) → (⟨S4096, .f32⟩ : BufTy).Contents (Elt F)) ]
/-- Each of these operations touches only buffers the core holds. -/
theorem main_part1_ops3_sub : (main_part1_ops3 : List (HloOp τ sig (Elt F))).Forall fun op => op.bufs ⊆ StableHlo.tcRefs τ sig :=
  StableHlo.unary_bufs_sub ..
/-- 3 host operations of @argsort (main_call5), window 1 (statements 61 … 120), in order. -/
abbrev main_part1_ops4 : List (HloOp τ sig (Elt F)) :=
  [ StableHlo.TRef.nullary (.of main_call5_v0 : StableHlo.TRef sig ⟨S4096, .i32⟩) (iotaInDim S4096 32 0),
    StableHlo.TRef.binary (.of main_v58 : StableHlo.TRef sig ⟨S4096, .f32⟩) (.of main_call5_v0 : StableHlo.TRef sig ⟨S4096, .i32⟩) (.of main_call5_v1_0 : StableHlo.TRef sig ⟨S4096, .f32⟩) (fun x y => (Host.sort2 S4096 0 comparator_f32_i32_d0 x y).1),
    StableHlo.TRef.binary (.of main_v58 : StableHlo.TRef sig ⟨S4096, .f32⟩) (.of main_call5_v0 : StableHlo.TRef sig ⟨S4096, .i32⟩) (.of main_v59 : StableHlo.TRef sig ⟨S4096, .i32⟩) (fun x y => (Host.sort2 S4096 0 comparator_f32_i32_d0 x y).2) ]
/-- Each of these operations touches only buffers the core holds. -/
theorem main_part1_ops4_sub : (main_part1_ops4 : List (HloOp τ sig (Elt F))).Forall fun op => op.bufs ⊆ StableHlo.tcRefs τ sig :=
  ⟨StableHlo.nullary_bufs_sub .., StableHlo.binary_bufs_sub .., StableHlo.binary_bufs_sub ..⟩
/-- 23 host operations of @_take (main_call6), window 1 (statements 61 … 120), in order. -/
abbrev main_part1_ops5 : List (HloOp τ sig (Elt F)) :=
  [ StableHlo.TRef.nullary (.of main_call6_c : StableHlo.TRef sig ⟨S_, .i32⟩) (constantI S_ 32 0#32),
    StableHlo.TRef.unary (.of main_call6_c : StableHlo.TRef sig ⟨S_, .i32⟩) (.of main_call6_v0 : StableHlo.TRef sig ⟨S4096, .i32⟩) (broadcastInDim S4096 ![] bcast_S_S4096),
    StableHlo.TRef.binary (.of main_v59 : StableHlo.TRef sig ⟨S4096, .i32⟩) (.of main_call6_v0 : StableHlo.TRef sig ⟨S4096, .i32⟩) (.of main_call6_v1 : StableHlo.TRef sig ⟨S4096, .i1⟩) (cmpi .slt),
    StableHlo.TRef.nullary (.of main_call6_c_0 : StableHlo.TRef sig ⟨S_, .i32⟩) (constantI S_ 32 4096#32),
    StableHlo.TRef.unary (.of main_call6_c_0 : StableHlo.TRef sig ⟨S_, .i32⟩) (.of main_call6_v2 : StableHlo.TRef sig ⟨S4096, .i32⟩) (broadcastInDim S4096 ![] bcast_S_S4096),
    StableHlo.TRef.binary (.of main_v59 : StableHlo.TRef sig ⟨S4096, .i32⟩) (.of main_call6_v2 : StableHlo.TRef sig ⟨S4096, .i32⟩) (.of main_call6_v3 : StableHlo.TRef sig ⟨S4096, .i32⟩) addi,
    StableHlo.TRef.ternary (.of main_call6_v1 : StableHlo.TRef sig ⟨S4096, .i1⟩) (.of main_call6_v3 : StableHlo.TRef sig ⟨S4096, .i32⟩) (.of main_v59 : StableHlo.TRef sig ⟨S4096, .i32⟩) (.of main_call6_v4 : StableHlo.TRef sig ⟨S4096, .i32⟩) select,
    StableHlo.TRef.unary main_call6_call0.v0 (.of main_call6_v5 : StableHlo.TRef sig ⟨S4096x1, .i32⟩) (broadcastInDim S4096x1 ![0] bcast_S4096_S4096x1_0),
    StableHlo.TRef.nullary (.of main_call6_c_1 : StableHlo.TRef sig ⟨S1, .i32⟩) (constantI S1 32 4095#32),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v6 : StableHlo.TRef sig ⟨S4096x1, .i32⟩) (broadcastInDim S4096x1 ![] bcast_S_S4096x1),
    StableHlo.TRef.binary (.of main_call6_v5 : StableHlo.TRef sig ⟨S4096x1, .i32⟩) (.of main_call6_v6 : StableHlo.TRef sig ⟨S4096x1, .i32⟩) (.of main_call6_v7 : StableHlo.TRef sig ⟨S4096x1, .i1⟩) (cmpi .sge),
    StableHlo.TRef.unary (.of main_call6_c_1 : StableHlo.TRef sig ⟨S1, .i32⟩) (.of main_call6_v8 : StableHlo.TRef sig ⟨S1x1, .i32⟩) (broadcastInDim S1x1 ![1] bcast_S1_S1x1_1),
    StableHlo.TRef.unary (.of main_call6_v8 : StableHlo.TRef sig ⟨S1x1, .i32⟩) (.of main_call6_v9 : StableHlo.TRef sig ⟨S4096x1, .i32⟩) (broadcastInDim S4096x1 ![0, 1] bcast_S1x1_S4096x1_0_1),
    StableHlo.TRef.binary (.of main_call6_v5 : StableHlo.TRef sig ⟨S4096x1, .i32⟩) (.of main_call6_v9 : StableHlo.TRef sig ⟨S4096x1, .i32⟩) (.of main_call6_v10 : StableHlo.TRef sig ⟨S4096x1, .i1⟩) (cmpi .sle),
    StableHlo.TRef.binary (.of main_call6_v7 : StableHlo.TRef sig ⟨S4096x1, .i1⟩) (.of main_call6_v10 : StableHlo.TRef sig ⟨S4096x1, .i1⟩) (.of main_call6_v11 : StableHlo.TRef sig ⟨S4096x1, .i1⟩) andi,
    StableHlo.TRef.nullary (.of main_call6_c_3 : StableHlo.TRef sig ⟨S_, .i1⟩) (constantI S_ 1 1#1),
    StableHlo.TRef.binary (.of main_call6_v11 : StableHlo.TRef sig ⟨S4096x1, .i1⟩) (.of main_call6_c_3 : StableHlo.TRef sig ⟨S_, .i1⟩) (.of main_call6_v12 : StableHlo.TRef sig ⟨S4096, .i1⟩) (fun x v => Host.reduce IntOp.andi x v reducesTo_S4096x1_S4096_d1 h_S_),
    StableHlo.TRef.binary (.of main_v57 : StableHlo.TRef sig ⟨S4096x8, .f32⟩) (.of main_call6_v5 : StableHlo.TRef sig ⟨S4096x1, .i32⟩) (.of main_call6_v13 : StableHlo.TRef sig ⟨S4096x8, .f32⟩) (fun x i => Host.gather gather_S4096x8_S4096x1_S4096x8_1_0_n_n_0_1_18 x i),
    StableHlo.TRef.unary (.of main_call6_v12 : StableHlo.TRef sig ⟨S4096, .i1⟩) (.of main_call6_v14 : StableHlo.TRef sig ⟨S4096x8, .i1⟩) (broadcastInDim S4096x8 ![0] bcast_S4096_S4096x8_0),
    StableHlo.TRef.nullary (.of main_call6_cst : StableHlo.TRef sig ⟨S_, .f32⟩) (constant S_ .f32 0x7FC00000#32),
    StableHlo.TRef.unary (.of main_call6_cst : StableHlo.TRef sig ⟨S_, .f32⟩) (.of main_call6_v15 : StableHlo.TRef sig ⟨S4096x8, .f32⟩) (broadcastInDim S4096x8 ![] bcast_S_S4096x8),
    StableHlo.TRef.ternary (.of main_call6_v14 : StableHlo.TRef sig ⟨S4096x8, .i1⟩) (.of main_call6_v13 : StableHlo.TRef sig ⟨S4096x8, .f32⟩) (.of main_call6_v15 : StableHlo.TRef sig ⟨S4096x8, .f32⟩) (.of main_v60 : StableHlo.TRef sig ⟨S4096x8, .f32⟩) select ]
/-- Each of these operations touches only buffers the core holds. -/
theorem main_part1_ops5_sub : (main_part1_ops5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 1 host operation of @main, window 1 (statements 61 … 120), in order. -/
abbrev main_part1_ops6 : List (HloOp τ sig (Elt F)) :=
  [ StableHlo.unary main_v60 main_v61 (fptosi 32 : (⟨S4096x8, .f32⟩ : BufTy).Contents (Elt F) → (⟨S4096x8, .i32⟩ : BufTy).Contents (Elt F)) ]
/-- Each of these operations touches only buffers the core holds. -/
theorem main_part1_ops6_sub : (main_part1_ops6 : List (HloOp τ sig (Elt F))).Forall fun op => op.bufs ⊆ StableHlo.tcRefs τ sig :=
  StableHlo.unary_bufs_sub ..
/-- 3 host operations of @cumsum (main_call7), window 1 (statements 61 … 120), in order. -/
abbrev main_part1_ops7 : List (HloOp τ sig (Elt F)) :=
  [ StableHlo.TRef.nullary (.of main_call7_call0_c : StableHlo.TRef sig ⟨S_, .i32⟩) (constantI S_ 32 0#32),
    StableHlo.TRef.unary (.of main_call7_call0_c : StableHlo.TRef sig ⟨S_, .i32⟩) (.of main_call7_call0_v0 : StableHlo.TRef sig ⟨S_, .i32⟩) (broadcastInDim S_ ![] bcast_S_S_),
    StableHlo.TRef.binary (.of main_v61 : StableHlo.TRef sig ⟨S4096x8, .i32⟩) (.of main_call7_call0_v0 : StableHlo.TRef sig ⟨S_, .i32⟩) (.of main_v62 : StableHlo.TRef sig ⟨S4096x8, .i32⟩) (fun x v => Host.reduceWindow IntOp.addi ![4096, 1] ![1, 1] ![4095, 0] ![0, 0] x v reduceWindows_S4096x8_S4096x8_w4096s1p4095_0_w1s1p0_0 h_S_) ]
/-- Each of these operations touches only buffers the core holds. -/
theorem main_part1_ops7_sub : (main_part1_ops7 : List (HloOp τ sig (Elt F))).Forall fun op => op.bufs ⊆ StableHlo.tcRefs τ sig :=
  ⟨StableHlo.nullary_bufs_sub .., StableHlo.unary_bufs_sub .., StableHlo.binary_bufs_sub ..⟩
/-- 16 host operations of @main, window 1 (statements 61 … 120), in order. -/
abbrev main_part1_ops8 : List (HloOp τ sig (Elt F)) :=
  [ StableHlo.nullary main_c_21 (constantI S_ 32 1#32),
    StableHlo.unary main_c_21 main_v63 (broadcastInDim S4096x8 ![] bcast_S_S4096x8 : (⟨S_, .i32⟩ : BufTy).Contents (Elt F) → (⟨S4096x8, .i32⟩ : BufTy).Contents (Elt F)),
    StableHlo.binary main_v62 main_v63 main_v64 (subi : (⟨S4096x8, .i32⟩ : BufTy).Contents (Elt F) → (⟨S4096x8, .i32⟩ : BufTy).Contents (Elt F) → (⟨S4096x8, .i32⟩ : BufTy).Contents (Elt F)),
    StableHlo.nullary main_c_22 (constantI S_ 32 0#32),
    StableHlo.unary main_c_22 main_v65 (broadcastInDim S4096x8 ![] bcast_S_S4096x8 : (⟨S_, .i32⟩ : BufTy).Contents (Elt F) → (⟨S4096x8, .i32⟩ : BufTy).Contents (Elt F)),
    StableHlo.binary main_v64 main_v65 main_v66 (cmpi .sge : (⟨S4096x8, .i32⟩ : BufTy).Contents (Elt F) → (⟨S4096x8, .i32⟩ : BufTy).Contents (Elt F) → (⟨S4096x8, .i1⟩ : BufTy).Contents (Elt F)),
    StableHlo.nullary main_c_23 (constantI S_ 32 640#32),
    StableHlo.unary main_c_23 main_v67 (broadcastInDim S4096x8 ![] bcast_S_S4096x8 : (⟨S_, .i32⟩ : BufTy).Contents (Elt F) → (⟨S4096x8, .i32⟩ : BufTy).Contents (Elt F)),
    StableHlo.binary main_v64 main_v67 main_v68 (cmpi .slt : (⟨S4096x8, .i32⟩ : BufTy).Contents (Elt F) → (⟨S4096x8, .i32⟩ : BufTy).Contents (Elt F) → (⟨S4096x8, .i1⟩ : BufTy).Contents (Elt F)),
    StableHlo.binary main_v66 main_v68 main_v69 (andi : (⟨S4096x8, .i1⟩ : BufTy).Contents (Elt F) → (⟨S4096x8, .i1⟩ : BufTy).Contents (Elt F) → (⟨S4096x8, .i1⟩ : BufTy).Contents (Elt F)),
    StableHlo.nullary main_c_24 (constantI S_ 32 0#32),
    StableHlo.unary main_c_24 main_v70 (broadcastInDim S4096x8 ![] bcast_S_S4096x8 : (⟨S_, .i32⟩ : BufTy).Contents (Elt F) → (⟨S4096x8, .i32⟩ : BufTy).Contents (Elt F)),
    StableHlo.binary main_v61 main_v70 main_v71 (cmpi .ne : (⟨S4096x8, .i32⟩ : BufTy).Contents (Elt F) → (⟨S4096x8, .i32⟩ : BufTy).Contents (Elt F) → (⟨S4096x8, .i1⟩ : BufTy).Contents (Elt F)),
    StableHlo.unary main_v71 main_v72 (id : (⟨S4096x8, .i1⟩ : BufTy).Contents (Elt F) → (⟨S4096x8, .i1⟩ : BufTy).Contents (Elt F)),
    StableHlo.binary main_v72 main_v69 main_v73 (andi : (⟨S4096x8, .i1⟩ : BufTy).Contents (Elt F) → (⟨S4096x8, .i1⟩ : BufTy).Contents (Elt F) → (⟨S4096x8, .i1⟩ : BufTy).Contents (Elt F)),
    StableHlo.unary main_v73 main_v74 ((extui 32 · natLt_1_32) : (⟨S4096x8, .i1⟩ : BufTy).Contents (Elt F) → (⟨S4096x8, .i32⟩ : BufTy).Contents (Elt F)) ]
/-- Each of these operations touches only buffers the core holds. -/
theorem main_part1_ops8_sub : (main_part1_ops8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub ..⟩
/-- 3 host operations of @argsort_2 (main_call8), window 1 (statements 61 … 120), in order. -/
abbrev main_part1_ops9 : List (HloOp τ sig (Elt F)) :=
  [ StableHlo.TRef.nullary (.of main_call8_v0 : StableHlo.TRef sig ⟨S4096, .i32⟩) (iotaInDim S4096 32 0),
    StableHlo.TRef.binary (.of main_v59 : StableHlo.TRef sig ⟨S4096, .i32⟩) (.of main_call8_v0 : StableHlo.TRef sig ⟨S4096, .i32⟩) (.of main_call8_v1_0 : StableHlo.TRef sig ⟨S4096, .i32⟩) (fun x y => (Host.sort2 S4096 0 comparator_i32_i32_d0 x y).1),
    StableHlo.TRef.binary (.of main_v59 : StableHlo.TRef sig ⟨S4096, .i32⟩) (.of main_call8_v0 : StableHlo.TRef sig ⟨S4096, .i32⟩) (.of main_v75 : StableHlo.TRef sig ⟨S4096, .i32⟩) (fun x y => (Host.sort2 S4096 0 comparator_i32_i32_d0 x y).2) ]
/-- Each of these operations touches only buffers the core holds. -/
theorem main_part1_ops9_sub : (main_part1_ops9 : List (HloOp τ sig (Elt F))).Forall fun op => op.bufs ⊆ StableHlo.tcRefs τ sig :=
  ⟨StableHlo.nullary_bufs_sub .., StableHlo.binary_bufs_sub .., StableHlo.binary_bufs_sub ..⟩
/-- 23 host operations of @_take_3 (main_call9), window 1 (statements 61 … 120), in order. -/
abbrev main_part1_ops10 : List (HloOp τ sig (Elt F)) :=
  [ StableHlo.TRef.nullary (.of main_call9_c : StableHlo.TRef sig ⟨S_, .i32⟩) (constantI S_ 32 0#32),
    StableHlo.TRef.unary (.of main_call9_c : StableHlo.TRef sig ⟨S_, .i32⟩) (.of main_call9_v0 : StableHlo.TRef sig ⟨S4096, .i32⟩) (broadcastInDim S4096 ![] bcast_S_S4096),
    StableHlo.TRef.binary (.of main_v75 : StableHlo.TRef sig ⟨S4096, .i32⟩) (.of main_call9_v0 : StableHlo.TRef sig ⟨S4096, .i32⟩) (.of main_call9_v1 : StableHlo.TRef sig ⟨S4096, .i1⟩) (cmpi .slt),
    StableHlo.TRef.nullary (.of main_call9_c_0 : StableHlo.TRef sig ⟨S_, .i32⟩) (constantI S_ 32 4096#32),
    StableHlo.TRef.unary (.of main_call9_c_0 : StableHlo.TRef sig ⟨S_, .i32⟩) (.of main_call9_v2 : StableHlo.TRef sig ⟨S4096, .i32⟩) (broadcastInDim S4096 ![] bcast_S_S4096),
    StableHlo.TRef.binary (.of main_v75 : StableHlo.TRef sig ⟨S4096, .i32⟩) (.of main_call9_v2 : StableHlo.TRef sig ⟨S4096, .i32⟩) (.of main_call9_v3 : StableHlo.TRef sig ⟨S4096, .i32⟩) addi,
    StableHlo.TRef.ternary (.of main_call9_v1 : StableHlo.TRef sig ⟨S4096, .i1⟩) (.of main_call9_v3 : StableHlo.TRef sig ⟨S4096, .i32⟩) (.of main_v75 : StableHlo.TRef sig ⟨S4096, .i32⟩) (.of main_call9_v4 : StableHlo.TRef sig ⟨S4096, .i32⟩) select,
    StableHlo.TRef.unary main_call9_call0.v0 (.of main_call9_v5 : StableHlo.TRef sig ⟨S4096x1, .i32⟩) (broadcastInDim S4096x1 ![0] bcast_S4096_S4096x1_0),
    StableHlo.TRef.nullary (.of main_call9_c_1 : StableHlo.TRef sig ⟨S1, .i32⟩) (constantI S1 32 4095#32),
    StableHlo.TRef.nullary (.of main_call9_c_2 : StableHlo.TRef sig ⟨S_, .i32⟩) (constantI S_ 32 0#32),
    StableHlo.TRef.unary (.of main_call9_c_2 : StableHlo.TRef sig ⟨S_, .i32⟩) (.of main_call9_v6 : StableHlo.TRef sig ⟨S4096x1, .i32⟩) (broadcastInDim S4096x1 ![] bcast_S_S4096x1),
    StableHlo.TRef.binary (.of main_call9_v5 : StableHlo.TRef sig ⟨S4096x1, .i32⟩) (.of main_call9_v6 : StableHlo.TRef sig ⟨S4096x1, .i32⟩) (.of main_call9_v7 : StableHlo.TRef sig ⟨S4096x1, .i1⟩) (cmpi .sge),
    StableHlo.TRef.unary (.of main_call9_c_1 : StableHlo.TRef sig ⟨S1, .i32⟩) (.of main_call9_v8 : StableHlo.TRef sig ⟨S1x1, .i32⟩) (broadcastInDim S1x1 ![1] bcast_S1_S1x1_1),
    StableHlo.TRef.unary (.of main_call9_v8 : StableHlo.TRef sig ⟨S1x1, .i32⟩) (.of main_call9_v9 : StableHlo.TRef sig ⟨S4096x1, .i32⟩) (broadcastInDim S4096x1 ![0, 1] bcast_S1x1_S4096x1_0_1),
    StableHlo.TRef.binary (.of main_call9_v5 : StableHlo.TRef sig ⟨S4096x1, .i32⟩) (.of main_call9_v9 : StableHlo.TRef sig ⟨S4096x1, .i32⟩) (.of main_call9_v10 : StableHlo.TRef sig ⟨S4096x1, .i1⟩) (cmpi .sle),
    StableHlo.TRef.binary (.of main_call9_v7 : StableHlo.TRef sig ⟨S4096x1, .i1⟩) (.of main_call9_v10 : StableHlo.TRef sig ⟨S4096x1, .i1⟩) (.of main_call9_v11 : StableHlo.TRef sig ⟨S4096x1, .i1⟩) andi,
    StableHlo.TRef.nullary (.of main_call9_c_3 : StableHlo.TRef sig ⟨S_, .i1⟩) (constantI S_ 1 1#1),
    StableHlo.TRef.binary (.of main_call9_v11 : StableHlo.TRef sig ⟨S4096x1, .i1⟩) (.of main_call9_c_3 : StableHlo.TRef sig ⟨S_, .i1⟩) (.of main_call9_v12 : StableHlo.TRef sig ⟨S4096, .i1⟩) (fun x v => Host.reduce IntOp.andi x v reducesTo_S4096x1_S4096_d1 h_S_),
    StableHlo.TRef.binary (.of main_v74 : StableHlo.TRef sig ⟨S4096x8, .i32⟩) (.of main_call9_v5 : StableHlo.TRef sig ⟨S4096x1, .i32⟩) (.of main_call9_v13 : StableHlo.TRef sig ⟨S4096x8, .i32⟩) (fun x i => Host.gather gather_S4096x8_S4096x1_S4096x8_1_0_n_n_0_1_18 x i),
    StableHlo.TRef.unary (.of main_call9_v12 : StableHlo.TRef sig ⟨S4096, .i1⟩) (.of main_call9_v14 : StableHlo.TRef sig ⟨S4096x8, .i1⟩) (broadcastInDim S4096x8 ![0] bcast_S4096_S4096x8_0),
    StableHlo.TRef.nullary (.of main_call9_c_4 : StableHlo.TRef sig ⟨S_, .i32⟩) (constantI S_ 32 2147483648#32),
    StableHlo.TRef.unary (.of main_call9_c_4 : StableHlo.TRef sig ⟨S_, .i32⟩) (.of main_call9_v15 : StableHlo.TRef sig ⟨S4096x8, .i32⟩) (broadcastInDim S4096x8 ![] bcast_S_S4096x8),
    StableHlo.TRef.ternary (.of main_call9_v14 : StableHlo.TRef sig ⟨S4096x8, .i1⟩) (.of main_call9_v13 : StableHlo.TRef sig ⟨S4096x8, .i32⟩) (.of main_call9_v15 : StableHlo.TRef sig ⟨S4096x8, .i32⟩) (.of main_v76 : StableHlo.TRef sig ⟨S4096x8, .i32⟩) select ]
/-- Each of these operations touches only buffers the core holds. -/
theorem main_part1_ops10_sub : (main_part1_ops10 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 16 host operations of @main, window 1 (statements 61 … 120), in order. -/
abbrev main_part1_ops11 : List (HloOp τ sig (Elt F)) :=
  [ StableHlo.unary main_v76 main_v77 (sitofp .f32 : (⟨S4096x8, .i32⟩ : BufTy).Contents (Elt F) → (⟨S4096x8, .f32⟩ : BufTy).Contents (Elt F)),
    StableHlo.nullary main_cst_25 (constant S_ .f32 0x00000000#32),
    StableHlo.binary main_v77 main_cst_25 main_v78 ((fun x v => Host.reduceAdd x v reducesTo_S4096x8_S8_d0 h_S_) : (⟨S4096x8, .f32⟩ : BufTy).Contents (Elt F) → (⟨S_, .f32⟩ : BufTy).Contents (Elt F) → (⟨S8, .f32⟩ : BufTy).Contents (Elt F)),
    StableHlo.nullary main_cst_26 (constant S_ .f32 0x45800000#32),
    StableHlo.unary main_cst_26 main_v79 (broadcastInDim S8 ![] bcast_S_S8 : (⟨S_, .f32⟩ : BufTy).Contents (Elt F) → (⟨S8, .f32⟩ : BufTy).Contents (Elt F)),
    StableHlo.binary main_v78 main_v79 main_v80 (Host.divf : (⟨S8, .f32⟩ : BufTy).Contents (Elt F) → (⟨S8, .f32⟩ : BufTy).Contents (Elt F) → (⟨S8, .f32⟩ : BufTy).Contents (Elt F)),
    StableHlo.nullary main_cst_27 (constant S_ .f32 0x00000000#32),
    StableHlo.binary main_v40 main_cst_27 main_v81 ((fun x v => Host.reduceAdd x v reducesTo_S4096x8_S8_d0 h_S_) : (⟨S4096x8, .f32⟩ : BufTy).Contents (Elt F) → (⟨S_, .f32⟩ : BufTy).Contents (Elt F) → (⟨S8, .f32⟩ : BufTy).Contents (Elt F)),
    StableHlo.nullary main_cst_28 (constant S_ .f32 0x45800000#32),
    StableHlo.unary main_cst_28 main_v82 (broadcastInDim S8 ![] bcast_S_S8 : (⟨S_, .f32⟩ : BufTy).Contents (Elt F) → (⟨S8, .f32⟩ : BufTy).Contents (Elt F)),
    StableHlo.binary main_v81 main_v82 main_v83 (Host.divf : (⟨S8, .f32⟩ : BufTy).Contents (Elt F) → (⟨S8, .f32⟩ : BufTy).Contents (Elt F) → (⟨S8, .f32⟩ : BufTy).Contents (Elt F)),
    StableHlo.binary main_v80 main_v83 main_v84 (mulf : (⟨S8, .f32⟩ : BufTy).Contents (Elt F) → (⟨S8, .f32⟩ : BufTy).Contents (Elt F) → (⟨S8, .f32⟩ : BufTy).Contents (Elt F)),
    StableHlo.nullary main_cst_29 (constant S_ .f32 0x00000000#32),
    StableHlo.binary main_v84 main_cst_29 main_v85 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    StableHlo.nullary main_cst_30 (constant S_ .f32 0x41000000#32),
    StableHlo.binary main_v85 main_cst_30 main_v86 (mulf : (⟨S_, .f32⟩ : BufTy).Contents (Elt F) → (⟨S_, .f32⟩ : BufTy).Contents (Elt F) → (⟨S_, .f32⟩ : BufTy).Contents (Elt F)) ]
/-- Each of these operations touches only buffers the core holds. -/
theorem main_part1_ops11_sub : (main_part1_ops11 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub ..⟩
/-- Window 1 of `main` (`main_part1`, statements 61 … 120) is the chain of ITS items ending in the last
    (`Pipeline.chainK`: no closing `pure`, the window's last statement being in tail position), each item but the last aligned with the
    window's statements, then `chain_rfl`. -/
theorem main_part1_chain (c : Dev nD) : main_part1 (F := F) c = (Pipeline.chainK
  [ StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    StableHlo.seq main_part1_ops7,
    StableHlo.seq main_part1_ops8,
    StableHlo.seq main_part1_ops9,
    StableHlo.seq main_part1_ops10 ]
  (StableHlo.seq main_part1_ops11) : Prog (TpuEff nD τ sig (Elt F) (Pipeline.Sig Λ₀ (Fin 0) fun p => (pcfgs (F := F) p).Adm) .tc) PUnit) := by
  rewrite [Pipeline.chainK_cons, StableHlo.chainK_seq_cons, Pipeline.chainK_cons, StableHlo.chainK_seq_cons, Pipeline.chainK_cons, Pipeline.chainK_cons, StableHlo.chainK_seq_cons, Pipeline.chainK_cons, StableHlo.chainK_seq_cons, Pipeline.chainK_cons, Pipeline.chainK_cons]
  chain_rfl

end Cert.ReferenceIdeal.Run

end
-- ==== Proof.RefOps2.lean ====
/- The reference's operations, window 2 of its program, as lists, and the window as the run of those lists. -/
module

public import proofs.«01_k».proof.Proof.Gen.ReferenceIdeal
public import Idealize.ShloMosaic.Lib.Pipeline.Kit
public import Idealize.ShloMosaic.Lib.Pipeline.Regions

@[expose] public section

set_option maxRecDepth 3912

noncomputable section

namespace Cert.ReferenceIdeal.Run

open Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- 13 host operations of @main, window 2 (statements 121 … 151), in order. -/
abbrev main_part2_ops0 : List (HloOp τ sig (Elt F)) :=
  [ StableHlo.unary main_v56 main_v87 (broadcastInDim S4096x1 ![0] bcast_S4096_S4096x1_0 : (⟨S4096, .f32⟩ : BufTy).Contents (Elt F) → (⟨S4096x1, .f32⟩ : BufTy).Contents (Elt F)),
    StableHlo.unary main_v87 main_v88 (broadcastInDim S4096x8 ![0, 1] bcast_S4096x1_S4096x8_0_1 : (⟨S4096x1, .f32⟩ : BufTy).Contents (Elt F) → (⟨S4096x8, .f32⟩ : BufTy).Contents (Elt F)),
    StableHlo.binary main_v77 main_v88 main_v89 (mulf : (⟨S4096x8, .f32⟩ : BufTy).Contents (Elt F) → (⟨S4096x8, .f32⟩ : BufTy).Contents (Elt F) → (⟨S4096x8, .f32⟩ : BufTy).Contents (Elt F)),
    StableHlo.nullary main_cst_31 (constant S_ .f32 0x00000000#32),
    StableHlo.binary main_v89 main_cst_31 main_v90 ((fun x v => Host.reduceAdd x v reducesTo_S4096x8_S4096_d1 h_S_) : (⟨S4096x8, .f32⟩ : BufTy).Contents (Elt F) → (⟨S_, .f32⟩ : BufTy).Contents (Elt F) → (⟨S4096, .f32⟩ : BufTy).Contents (Elt F)),
    StableHlo.unary main_v90 main_v91 (broadcastInDim S4096x1 ![0] bcast_S4096_S4096x1_0 : (⟨S4096, .f32⟩ : BufTy).Contents (Elt F) → (⟨S4096x1, .f32⟩ : BufTy).Contents (Elt F)),
    StableHlo.nullary main_cst_32 (constant S_ .f32 0x358637BD#32),
    StableHlo.unary main_cst_32 main_v92 (broadcastInDim S4096x1 ![] bcast_S_S4096x1 : (⟨S_, .f32⟩ : BufTy).Contents (Elt F) → (⟨S4096x1, .f32⟩ : BufTy).Contents (Elt F)),
    StableHlo.binary main_v91 main_v92 main_v93 (maximumf : (⟨S4096x1, .f32⟩ : BufTy).Contents (Elt F) → (⟨S4096x1, .f32⟩ : BufTy).Contents (Elt F) → (⟨S4096x1, .f32⟩ : BufTy).Contents (Elt F)),
    StableHlo.unary main_v93 main_v94 (broadcastInDim S4096x8 ![0, 1] bcast_S4096x1_S4096x8_0_1 : (⟨S4096x1, .f32⟩ : BufTy).Contents (Elt F) → (⟨S4096x8, .f32⟩ : BufTy).Contents (Elt F)),
    StableHlo.binary main_v89 main_v94 main_v95 (Host.divf : (⟨S4096x8, .f32⟩ : BufTy).Contents (Elt F) → (⟨S4096x8, .f32⟩ : BufTy).Contents (Elt F) → (⟨S4096x8, .f32⟩ : BufTy).Contents (Elt F)),
    StableHlo.nullary main_c_33 (constantI S_ 32 0#32),
    StableHlo.nullary main_c_34 (constantI S_ 32 639#32) ]
/-- Each of these operations touches only buffers the core holds. -/
theorem main_part2_ops0_sub : (main_part2_ops0 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.nullary_bufs_sub ..⟩
/-- 6 host operations of @clip_4 (main_call10), window 2 (statements 121 … 151), in order. -/
abbrev main_part2_ops1 : List (HloOp τ sig (Elt F)) :=
  [ StableHlo.TRef.unary (.of main_c_33 : StableHlo.TRef sig ⟨S_, .i32⟩) (.of main_call10_v0 : StableHlo.TRef sig ⟨S_, .i32⟩) id,
    StableHlo.TRef.unary (.of main_call10_v0 : StableHlo.TRef sig ⟨S_, .i32⟩) (.of main_call10_v1 : StableHlo.TRef sig ⟨S4096x8, .i32⟩) (broadcastInDim S4096x8 ![] bcast_S_S4096x8),
    StableHlo.TRef.binary (.of main_call10_v1 : StableHlo.TRef sig ⟨S4096x8, .i32⟩) (.of main_v64 : StableHlo.TRef sig ⟨S4096x8, .i32⟩) (.of main_call10_v2 : StableHlo.TRef sig ⟨S4096x8, .i32⟩) maxsi,
    StableHlo.TRef.unary (.of main_c_34 : StableHlo.TRef sig ⟨S_, .i32⟩) (.of main_call10_v3 : StableHlo.TRef sig ⟨S_, .i32⟩) id,
    StableHlo.TRef.unary (.of main_call10_v3 : StableHlo.TRef sig ⟨S_, .i32⟩) (.of main_call10_v4 : StableHlo.TRef sig ⟨S4096x8, .i32⟩) (broadcastInDim S4096x8 ![] bcast_S_S4096x8),
    StableHlo.TRef.binary (.of main_call10_v4 : StableHlo.TRef sig ⟨S4096x8, .i32⟩) (.of main_call10_v2 : StableHlo.TRef sig ⟨S4096x8, .i32⟩) (.of main_v96 : StableHlo.TRef sig ⟨S4096x8, .i32⟩) minsi ]
/-- Each of these operations touches only buffers the core holds. -/
theorem main_part2_ops1_sub : (main_part2_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 23 host operations of @_take_3 (main_call11), window 2 (statements 121 … 151), in order. -/
abbrev main_part2_ops2 : List (HloOp τ sig (Elt F)) :=
  [ StableHlo.TRef.nullary (.of main_call11_c : StableHlo.TRef sig ⟨S_, .i32⟩) (constantI S_ 32 0#32),
    StableHlo.TRef.unary (.of main_call11_c : StableHlo.TRef sig ⟨S_, .i32⟩) (.of main_call11_v0 : StableHlo.TRef sig ⟨S4096, .i32⟩) (broadcastInDim S4096 ![] bcast_S_S4096),
    StableHlo.TRef.binary (.of main_v75 : StableHlo.TRef sig ⟨S4096, .i32⟩) (.of main_call11_v0 : StableHlo.TRef sig ⟨S4096, .i32⟩) (.of main_call11_v1 : StableHlo.TRef sig ⟨S4096, .i1⟩) (cmpi .slt),
    StableHlo.TRef.nullary (.of main_call11_c_0 : StableHlo.TRef sig ⟨S_, .i32⟩) (constantI S_ 32 4096#32),
    StableHlo.TRef.unary (.of main_call11_c_0 : StableHlo.TRef sig ⟨S_, .i32⟩) (.of main_call11_v2 : StableHlo.TRef sig ⟨S4096, .i32⟩) (broadcastInDim S4096 ![] bcast_S_S4096),
    StableHlo.TRef.binary (.of main_v75 : StableHlo.TRef sig ⟨S4096, .i32⟩) (.of main_call11_v2 : StableHlo.TRef sig ⟨S4096, .i32⟩) (.of main_call11_v3 : StableHlo.TRef sig ⟨S4096, .i32⟩) addi,
    StableHlo.TRef.ternary (.of main_call11_v1 : StableHlo.TRef sig ⟨S4096, .i1⟩) (.of main_call11_v3 : StableHlo.TRef sig ⟨S4096, .i32⟩) (.of main_v75 : StableHlo.TRef sig ⟨S4096, .i32⟩) (.of main_call11_v4 : StableHlo.TRef sig ⟨S4096, .i32⟩) select,
    StableHlo.TRef.unary main_call11_call0.v0 (.of main_call11_v5 : StableHlo.TRef sig ⟨S4096x1, .i32⟩) (broadcastInDim S4096x1 ![0] bcast_S4096_S4096x1_0),
    StableHlo.TRef.nullary (.of main_call11_c_1 : StableHlo.TRef sig ⟨S1, .i32⟩) (constantI S1 32 4095#32),
    StableHlo.TRef.nullary (.of main_call11_c_2 : StableHlo.TRef sig ⟨S_, .i32⟩) (constantI S_ 32 0#32),
    StableHlo.TRef.unary (.of main_call11_c_2 : StableHlo.TRef sig ⟨S_, .i32⟩) (.of main_call11_v6 : StableHlo.TRef sig ⟨S4096x1, .i32⟩) (broadcastInDim S4096x1 ![] bcast_S_S4096x1),
    StableHlo.TRef.binary (.of main_call11_v5 : StableHlo.TRef sig ⟨S4096x1, .i32⟩) (.of main_call11_v6 : StableHlo.TRef sig ⟨S4096x1, .i32⟩) (.of main_call11_v7 : StableHlo.TRef sig ⟨S4096x1, .i1⟩) (cmpi .sge),
    StableHlo.TRef.unary (.of main_call11_c_1 : StableHlo.TRef sig ⟨S1, .i32⟩) (.of main_call11_v8 : StableHlo.TRef sig ⟨S1x1, .i32⟩) (broadcastInDim S1x1 ![1] bcast_S1_S1x1_1),
    StableHlo.TRef.unary (.of main_call11_v8 : StableHlo.TRef sig ⟨S1x1, .i32⟩) (.of main_call11_v9 : StableHlo.TRef sig ⟨S4096x1, .i32⟩) (broadcastInDim S4096x1 ![0, 1] bcast_S1x1_S4096x1_0_1),
    StableHlo.TRef.binary (.of main_call11_v5 : StableHlo.TRef sig ⟨S4096x1, .i32⟩) (.of main_call11_v9 : StableHlo.TRef sig ⟨S4096x1, .i32⟩) (.of main_call11_v10 : StableHlo.TRef sig ⟨S4096x1, .i1⟩) (cmpi .sle),
    StableHlo.TRef.binary (.of main_call11_v7 : StableHlo.TRef sig ⟨S4096x1, .i1⟩) (.of main_call11_v10 : StableHlo.TRef sig ⟨S4096x1, .i1⟩) (.of main_call11_v11 : StableHlo.TRef sig ⟨S4096x1, .i1⟩) andi,
    StableHlo.TRef.nullary (.of main_call11_c_3 : StableHlo.TRef sig ⟨S_, .i1⟩) (constantI S_ 1 1#1),
    StableHlo.TRef.binary (.of main_call11_v11 : StableHlo.TRef sig ⟨S4096x1, .i1⟩) (.of main_call11_c_3 : StableHlo.TRef sig ⟨S_, .i1⟩) (.of main_call11_v12 : StableHlo.TRef sig ⟨S4096, .i1⟩) (fun x v => Host.reduce IntOp.andi x v reducesTo_S4096x1_S4096_d1 h_S_),
    StableHlo.TRef.binary (.of main_v96 : StableHlo.TRef sig ⟨S4096x8, .i32⟩) (.of main_call11_v5 : StableHlo.TRef sig ⟨S4096x1, .i32⟩) (.of main_call11_v13 : StableHlo.TRef sig ⟨S4096x8, .i32⟩) (fun x i => Host.gather gather_S4096x8_S4096x1_S4096x8_1_0_n_n_0_1_18 x i),
    StableHlo.TRef.unary (.of main_call11_v12 : StableHlo.TRef sig ⟨S4096, .i1⟩) (.of main_call11_v14 : StableHlo.TRef sig ⟨S4096x8, .i1⟩) (broadcastInDim S4096x8 ![0] bcast_S4096_S4096x8_0),
    StableHlo.TRef.nullary (.of main_call11_c_4 : StableHlo.TRef sig ⟨S_, .i32⟩) (constantI S_ 32 2147483648#32),
    StableHlo.TRef.unary (.of main_call11_c_4 : StableHlo.TRef sig ⟨S_, .i32⟩) (.of main_call11_v15 : StableHlo.TRef sig ⟨S4096x8, .i32⟩) (broadcastInDim S4096x8 ![] bcast_S_S4096x8),
    StableHlo.TRef.ternary (.of main_call11_v14 : StableHlo.TRef sig ⟨S4096x8, .i1⟩) (.of main_call11_v13 : StableHlo.TRef sig ⟨S4096x8, .i32⟩) (.of main_call11_v15 : StableHlo.TRef sig ⟨S4096x8, .i32⟩) (.of main_v97 : StableHlo.TRef sig ⟨S4096x8, .i32⟩) select ]
/-- Each of these operations touches only buffers the core holds. -/
theorem main_part2_ops2_sub : (main_part2_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 6 host operations of @_one_hot_5 (main_call12), window 2 (statements 121 … 151), in order. -/
abbrev main_part2_ops3 : List (HloOp τ sig (Elt F)) :=
  [ StableHlo.TRef.unary (.of main_v97 : StableHlo.TRef sig ⟨S4096x8, .i32⟩) (.of main_call12_v0 : StableHlo.TRef sig ⟨S4096x8x1, .i32⟩) (broadcastInDim S4096x8x1 ![0, 1] bcast_S4096x8_S4096x8x1_0_1),
    StableHlo.TRef.nullary (.of main_call12_v1 : StableHlo.TRef sig ⟨S1x1x640, .i32⟩) (iotaInDim S1x1x640 32 2),
    StableHlo.TRef.unary (.of main_call12_v0 : StableHlo.TRef sig ⟨S4096x8x1, .i32⟩) (.of main_call12_v2 : StableHlo.TRef sig ⟨S4096x8x640, .i32⟩) (broadcastInDim S4096x8x640 ![0, 1, 2] bcast_S4096x8x1_S4096x8x640_0_1_2),
    StableHlo.TRef.unary (.of main_call12_v1 : StableHlo.TRef sig ⟨S1x1x640, .i32⟩) (.of main_call12_v3 : StableHlo.TRef sig ⟨S4096x8x640, .i32⟩) (broadcastInDim S4096x8x640 ![0, 1, 2] bcast_S1x1x640_S4096x8x640_0_1_2),
    StableHlo.TRef.binary (.of main_call12_v2 : StableHlo.TRef sig ⟨S4096x8x640, .i32⟩) (.of main_call12_v3 : StableHlo.TRef sig ⟨S4096x8x640, .i32⟩) (.of main_call12_v4 : StableHlo.TRef sig ⟨S4096x8x640, .i1⟩) (cmpi .eq),
    StableHlo.TRef.unary (.of main_call12_v4 : StableHlo.TRef sig ⟨S4096x8x640, .i1⟩) (.of main_v98 : StableHlo.TRef sig ⟨S4096x8x640, .f32⟩) (uitofp .f32) ]
/-- Each of these operations touches only buffers the core holds. -/
theorem main_part2_ops3_sub : (main_part2_ops3 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..⟩
/-- 14 host operations of @main, window 2 (statements 121 … 151), in order. -/
abbrev main_part2_ops4 : List (HloOp τ sig (Elt F)) :=
  [ StableHlo.unary main_v95 main_v99 (broadcastInDim S4096x8x1 ![0, 1] bcast_S4096x8_S4096x8x1_0_1 : (⟨S4096x8, .f32⟩ : BufTy).Contents (Elt F) → (⟨S4096x8x1, .f32⟩ : BufTy).Contents (Elt F)),
    StableHlo.unary main_v99 main_v100 (broadcastInDim S4096x8x640 ![0, 1, 2] bcast_S4096x8x1_S4096x8x640_0_1_2 : (⟨S4096x8x1, .f32⟩ : BufTy).Contents (Elt F) → (⟨S4096x8x640, .f32⟩ : BufTy).Contents (Elt F)),
    StableHlo.binary main_v100 main_v98 main_v101 (mulf : (⟨S4096x8x640, .f32⟩ : BufTy).Contents (Elt F) → (⟨S4096x8x640, .f32⟩ : BufTy).Contents (Elt F) → (⟨S4096x8x640, .f32⟩ : BufTy).Contents (Elt F)),
    StableHlo.unary main_v77 main_v102 (broadcastInDim S4096x8x1 ![0, 1] bcast_S4096x8_S4096x8x1_0_1 : (⟨S4096x8, .f32⟩ : BufTy).Contents (Elt F) → (⟨S4096x8x1, .f32⟩ : BufTy).Contents (Elt F)),
    StableHlo.nullary main_cst_35 (constant S_ .f32 0x00000000#32),
    StableHlo.unary main_cst_35 main_v103 (broadcastInDim S4096x8x1 ![] bcast_S_S4096x8x1 : (⟨S_, .f32⟩ : BufTy).Contents (Elt F) → (⟨S4096x8x1, .f32⟩ : BufTy).Contents (Elt F)),
    StableHlo.binary main_v102 main_v103 main_v104 (cmpf .une : (⟨S4096x8x1, .f32⟩ : BufTy).Contents (Elt F) → (⟨S4096x8x1, .f32⟩ : BufTy).Contents (Elt F) → (⟨S4096x8x1, .i1⟩ : BufTy).Contents (Elt F)),
    StableHlo.unary main_v104 main_v105 (id : (⟨S4096x8x1, .i1⟩ : BufTy).Contents (Elt F) → (⟨S4096x8x1, .i1⟩ : BufTy).Contents (Elt F)),
    StableHlo.nullary main_cst_36 (constant S_ .f32 0x00000000#32),
    StableHlo.unary main_cst_36 main_v106 (broadcastInDim S4096x8x640 ![] bcast_S_S4096x8x640 : (⟨S_, .f32⟩ : BufTy).Contents (Elt F) → (⟨S4096x8x640, .f32⟩ : BufTy).Contents (Elt F)),
    StableHlo.binary main_v98 main_v106 main_v107 (cmpf .une : (⟨S4096x8x640, .f32⟩ : BufTy).Contents (Elt F) → (⟨S4096x8x640, .f32⟩ : BufTy).Contents (Elt F) → (⟨S4096x8x640, .i1⟩ : BufTy).Contents (Elt F)),
    StableHlo.unary main_v107 main_v108 (id : (⟨S4096x8x640, .i1⟩ : BufTy).Contents (Elt F) → (⟨S4096x8x640, .i1⟩ : BufTy).Contents (Elt F)),
    StableHlo.unary main_v105 main_v109 (broadcastInDim S4096x8x640 ![0, 1, 2] bcast_S4096x8x1_S4096x8x640_0_1_2 : (⟨S4096x8x1, .i1⟩ : BufTy).Contents (Elt F) → (⟨S4096x8x640, .i1⟩ : BufTy).Contents (Elt F)),
    StableHlo.binary main_v109 main_v108 main_v110 (andi : (⟨S4096x8x640, .i1⟩ : BufTy).Contents (Elt F) → (⟨S4096x8x640, .i1⟩ : BufTy).Contents (Elt F) → (⟨S4096x8x640, .i1⟩ : BufTy).Contents (Elt F)) ]
/-- Each of these operations touches only buffers the core holds. -/
theorem main_part2_ops4_sub : (main_part2_ops4 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub ..⟩
/-- The last window of `main` (`main_part2`, statements 121 … 151) is the chain of ITS items, each item aligned with the window's
    statements, then `chain_rfl`. -/
theorem main_part2_chain (c : Dev nD) : main_part2 (F := F) c = (Pipeline.chain
  [ StableHlo.seq main_part2_ops0,
    StableHlo.seq main_part2_ops1,
    StableHlo.seq main_part2_ops2,
    StableHlo.seq main_part2_ops3,
    StableHlo.seq main_part2_ops4 ] : Prog (TpuEff nD τ sig (Elt F) (Pipeline.Sig Λ₀ (Fin 0) fun p => (pcfgs (F := F) p).Adm) .tc) PUnit) := by
  rewrite [StableHlo.chain_seq_cons, Pipeline.chain_cons, Pipeline.chain_cons, Pipeline.chain_cons, StableHlo.chain_seq_cons]
  chain_rfl

end Cert.ReferenceIdeal.Run

end
-- ==== Proof.RefChain.lean ====
/- The whole reference program as the run of its operation lists, one after the other. -/
module

public import proofs.«01_k».proof.Proof.Gen.ReferenceIdeal
public import Idealize.ShloMosaic.Lib.Pipeline.Kit
public import Idealize.ShloMosaic.Lib.Pipeline.Regions
public import proofs.«01_k».proof.Proof.RefOps0
public import proofs.«01_k».proof.Proof.RefOps1
public import proofs.«01_k».proof.Proof.RefOps2

@[expose] public section

set_option maxRecDepth 3912

noncomputable section

namespace Cert.ReferenceIdeal.Run

open Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    StableHlo.seq main_part1_ops7,
    StableHlo.seq main_part1_ops8,
    StableHlo.seq main_part1_ops9,
    StableHlo.seq main_part1_ops10,
    StableHlo.seq main_part1_ops11,
    StableHlo.seq main_part2_ops0,
    StableHlo.seq main_part2_ops1,
    StableHlo.seq main_part2_ops2,
    StableHlo.seq main_part2_ops3,
    StableHlo.seq main_part2_ops4 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

end Cert.ReferenceIdeal.Run

end
-- ==== Proof.RefRun.lean ====
/- The reference's run: every buffer ends at what its operation lists, applied in order to the launch contents, leave in it. -/
module

public import proofs.«01_k».proof.Proof.RefChain
public import Idealize.ShloMosaic.Lib.StableHlo.RunHlo
public import Idealize.ShloMosaic.Lib.StableHlo.RunRead
public import Idealize.ShloMosaic.Lib.Quiescent
public import Idealize.ShloMosaic.Adequacy
public import Idealize.ShloMosaic.Init

@[expose] public section

set_option maxRecDepth 16384

noncomputable section

namespace Cert.ReferenceIdeal.Run

open Cert.ReferenceIdeal.Gen
open Idealize.ShloMosaic Idealize.ShloMosaic.TcCoe
open Idealize.SL Idealize.SL.RA Idealize.SL.BI
open Idealize.SL.Sem

variable {F : FTy → Type} [FloatOps F]

/-- The operation lists of the reference, in order. -/
abbrev stages : List (List (HloOp τ sig (Elt F))) :=
  [ main_part0_ops0, main_part0_ops1, main_part0_ops2, main_part0_ops3, main_part0_ops4, main_part0_ops5, main_part0_ops6,
    main_part1_ops0, main_part1_ops1, main_part1_ops2, main_part1_ops3, main_part1_ops4, main_part1_ops5, main_part1_ops6,
    main_part1_ops7, main_part1_ops8, main_part1_ops9, main_part1_ops10, main_part1_ops11,
    main_part2_ops0, main_part2_ops1, main_part2_ops2, main_part2_ops3, main_part2_ops4 ]

/-- The chain of the runs of some lists is the run of their concatenation. -/
theorem chain_seq {Λ : Labels} (L : List (List (HloOp τ sig (Elt F)))) :
    Pipeline.chain (L.map fun ops => (StableHlo.seq ops : Prog (TpuEff nD τ sig (Elt F) Λ .tc) PUnit)) = StableHlo.seq L.flatten := by
  induction L with
  | nil => rfl
  | cons a L ih => rw [List.map_cons, Pipeline.chain_cons, ih, List.flatten_cons, StableHlo.seq_append]

/-- The fold of two lists, one after the other. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- The reference is the run of all its operations. -/
theorem main_seq (c : Dev nD) : main (F := F) c = StableHlo.seq (stages (F := F)).flatten :=
  (main_chain_windows (F := F) c).trans (chain_seq (stages (F := F)))

/-- Every operation of a concatenation satisfies what every operation of each list satisfies. -/
theorem forall_flatten {P : HloOp τ sig (Elt F) → Prop} (L : List (List (HloOp τ sig (Elt F)))) (h : L.Forall fun l => l.Forall P) :
    L.flatten.Forall P := by
  rw [List.forall_iff_forall_mem] at h ⊢
  intro op hop
  obtain ⟨l, hl, hop⟩ := List.mem_flatten.mp hop
  exact (List.forall_iff_forall_mem.mp (h l hl)) op hop

/-- Every operation touches only buffers the core holds. -/
theorem stages_sub : ((stages (F := F)).flatten).Forall fun op => op.bufs ⊆ StableHlo.tcRefs τ sig :=
  forall_flatten _ ⟨main_part0_ops0_sub, main_part0_ops1_sub, main_part0_ops2_sub, main_part0_ops3_sub, main_part0_ops4_sub, main_part0_ops5_sub, main_part0_ops6_sub,
    main_part1_ops0_sub, main_part1_ops1_sub, main_part1_ops2_sub, main_part1_ops3_sub, main_part1_ops4_sub, main_part1_ops5_sub, main_part1_ops6_sub,
    main_part1_ops7_sub, main_part1_ops8_sub, main_part1_ops9_sub, main_part1_ops10_sub, main_part1_ops11_sub,
    main_part2_ops0_sub, main_part2_ops1_sub, main_part2_ops2_sub, main_part2_ops3_sub, main_part2_ops4_sub⟩

set_option maxHeartbeats 4000000 in
/-- No operation writes a buffer with unspecified contents. -/
theorem stages_fresh : ∀ op ∈ (stages (F := F)).flatten, op.fresh = ∅ :=
  List.forall_iff_forall_mem.mp (StableHlo.forall_fresh_of_map rfl)

/-- The contents after the first `n` lists. -/
def RV (m : (ℓ : Loc nD τ sig) → Buf (Elt F) ℓ) (c : Dev nD) (n : ℕ) : Valuation τ sig (Elt F) :=
  ((stages (F := F)).take n).foldl (fun V ops => StableHlo.after ops V) (StableHlo.launchContents m c)

/-- The fold of a concatenation is the fold of its lists in turn. -/
theorem after_flatten (L : List (List (HloOp τ sig (Elt F)))) (V : Valuation τ sig (Elt F)) :
    StableHlo.after L.flatten V = L.foldl (fun V ops => StableHlo.after ops V) V := by
  induction L generalizing V with
  | nil => rfl
  | cons a L ih => rw [List.flatten_cons, after_append, ih, List.foldl_cons]

/-- The reference's run: every buffer of the core ends at the contents after all lists. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = RV m c 24 (Proc.devRef .tc b) :=
  θ_run_mono (StableHlo.run_hlo defs main (ops := (stages (F := F)).flatten) (fun d => main_seq d) (by decide) (by decide) stages_sub stages_fresh m ρ)
    fun r h c b => (h c b).trans (congrFun (after_flatten _ _) _)

end Cert.ReferenceIdeal.Run

end
-- ==== Proof.NoiseFn.lean ====
/- The counter-based random bits both programs draw the noise from, as functions: one mixing round, a group of four rounds closed by
   the key's injection, and the uniform number read off the bits. -/
module

public import proofs.«01_k».proof.Proof.Gen.KernelIdeal

@[expose] public section

noncomputable section

namespace Cert.Noise

open Cert.KernelIdeal Cert.KernelIdeal.Gen
open Idealize.ShloMosaic

/-- A word spread over the array. -/
def spread (k : IVec S_ 32) : IVec S4096x8 32 := broadcastInDim S4096x8 ![] bcast_S_S4096x8 k

/-- One mixing round: the first word takes the sum, the second its rotation (left by `r`, right by `l`) against that sum. -/
def rnd (r l : BitVec 32) (p : IVec S4096x8 32 × IVec S4096x8 32) : IVec S4096x8 32 × IVec S4096x8 32 :=
  (addi p.1 p.2, xori (addi p.1 p.2) (ori (Host.shli p.2 (spread (constantI S_ 32 r))) (Host.shrui p.2 (spread (constantI S_ 32 l)))))

/-- Four rounds with the given rotations. -/
def four (r l r' l' r'' l'' r₃ l₃ : BitVec 32) (p : IVec S4096x8 32 × IVec S4096x8 32) : IVec S4096x8 32 × IVec S4096x8 32 :=
  rnd r₃ l₃ (rnd r'' l'' (rnd r' l' (rnd r l p)))

/-- The key's injection after group `n`. -/
def inject (ka kb : IVec S_ 32) (n : BitVec 32) (p : IVec S4096x8 32 × IVec S4096x8 32) : IVec S4096x8 32 × IVec S4096x8 32 :=
  (addi p.1 (spread ka), addi (addi p.2 (spread kb)) (spread (constantI S_ 32 n)))

/-- A group with the first set of rotations. -/
def groupA (ka kb : IVec S_ 32) (n : BitVec 32) (p : IVec S4096x8 32 × IVec S4096x8 32) : IVec S4096x8 32 × IVec S4096x8 32 :=
  inject ka kb n (four 13 19 15 17 26 6 6 26 p)

/-- A group with the second set of rotations. -/
def groupB (ka kb : IVec S_ 32) (n : BitVec 32) (p : IVec S4096x8 32 × IVec S4096x8 32) : IVec S4096x8 32 × IVec S4096x8 32 :=
  inject ka kb n (four 17 15 29 3 16 16 24 8 p)

/-- The third key word. -/
def key3 (k1 k2 : IVec S_ 32) : IVec S_ 32 := xori (xori k1 k2) (constantI S_ 32 466688986#32)

/-- The key's two words. -/
def keyA (key : IVec S2 32) : IVec S_ 32 := shapeCast S_ (extractStridedSlice S1 ![0] key slices_S2_S1_0) shapeCasts_S1_S_
def keyB (key : IVec S2 32) : IVec S_ 32 := shapeCast S_ (extractStridedSlice S1 ![1] key slices_S2_S1_1) shapeCasts_S1_S_

/-- Each element's position in row-major order, as a 64-bit counter. -/
def counter : IVec S4096x8 64 :=
  addi (muli (broadcastInDim S4096x8 ![] bcast_S_S4096x8 (constantI S_ 64 8#64)) (iotaInDim S4096x8 64 0))
    (muli (broadcastInDim S4096x8 ![] bcast_S_S4096x8 (constantI S_ 64 1#64)) (iotaInDim S4096x8 64 1))

/-- The two words the rounds start from. -/
def start (k1 k2 : IVec S_ 32) : IVec S4096x8 32 × IVec S4096x8 32 :=
  (addi (trunci 32 (Host.shrui counter (broadcastInDim S4096x8 ![] bcast_S_S4096x8 (constantI S_ 64 32#64))) natLt_32_64) (spread k1),
   addi (trunci 32 counter natLt_32_64) (spread k2))

/-- All five groups. -/
def words (k1 k2 : IVec S_ 32) : IVec S4096x8 32 × IVec S4096x8 32 :=
  groupA (key3 k1 k2) k1 5#32 (groupB k2 (key3 k1 k2) 4#32 (groupA k1 k2 3#32 (groupB (key3 k1 k2) k1 2#32 (groupA k2 (key3 k1 k2) 1#32 (start k1 k2)))))

variable {F : FTy → Type} [FloatOps F]

/-- The uniform number between `lo` and `hi` read off the bits. -/
def uniform (lo hi : FVec F S1x1 .f32) (w : IVec S4096x8 32 × IVec S4096x8 32) : FVec F S4096x8 .f32 :=
  maximumf (broadcastInDim S4096x8 ![0, 1] bcast_S1x1_S4096x8_0_1 lo)
    (addf (mulf (subf (bitcastToFloat .f32 (ori (Host.shrui (xori w.1 w.2) (spread (constantI S_ 32 9#32))) (spread (constantI S_ 32 1065353216#32))))
          (broadcastInDim S4096x8 ![] bcast_S_S4096x8 (constant S_ .f32 0x3F800000#32)))
        (broadcastInDim S4096x8 ![0, 1] bcast_S1x1_S4096x8_0_1 (subf hi lo)))
      (broadcastInDim S4096x8 ![0, 1] bcast_S1x1_S4096x8_0_1 lo))

/-- A scalar as a one-by-one array. -/
def one (x : FVec F S_ .f32) : FVec F S1x1 .f32 := broadcastInDim S1x1 ![] bcast_S_S1x1 x

end Cert.Noise

end
-- ==== Proof.NoiseRef.lean ====
/- The reference's random bits, group by group: the operations of its random function leave the noise functions' values. -/
module

public import proofs.«01_k».proof.Proof.RefRun
public import proofs.«01_k».proof.Proof.NoiseFn
public import Idealize.ShloMosaic.Lib.StableHlo.RunRead

@[expose] public section

set_option maxRecDepth 16384

noncomputable section

namespace Cert.ReferenceIdeal.Run

open Cert.ReferenceIdeal.Gen
open Idealize.ShloMosaic Idealize.ShloMosaic.TcCoe
open Idealize.SL.Sem
open Cert

variable {F : FTy → Type} [FloatOps F]

/-- The random function's operations from position `a`, `n` of them. -/
abbrev cut (a n : ℕ) : List (HloOp τ sig (Elt F)) := ((main_part0_ops5 (F := F)).drop a).take n

/-- Group 1 of the rounds, over any contents before it. -/
theorem group1 (V : Valuation τ sig (Elt F)) :
    ((StableHlo.after (cut 29 43) V (Proc.devRef .tc main_call2_call0_v35) : IVec Cert.KernelIdeal.S4096x8 32),
     (StableHlo.after (cut 29 43) V (Proc.devRef .tc main_call2_call0_v39) : IVec Cert.KernelIdeal.S4096x8 32))
      = Noise.groupA (V (Proc.devRef .tc main_call2_v7)) (V (Proc.devRef .tc main_call2_call0_v1)) 1#32 (V (Proc.devRef .tc main_call2_call0_v3), V (Proc.devRef .tc main_call2_call0_v5)) := by
  refine Prod.ext ?_ ?_ <;> (after_reads_simp; rfl)

/-- Group 2 of the rounds, over any contents before it. -/
theorem group2 (V : Valuation τ sig (Elt F)) :
    ((StableHlo.after (cut 72 43) V (Proc.devRef .tc main_call2_call0_v69) : IVec Cert.KernelIdeal.S4096x8 32),
     (StableHlo.after (cut 72 43) V (Proc.devRef .tc main_call2_call0_v73) : IVec Cert.KernelIdeal.S4096x8 32))
      = Noise.groupB (V (Proc.devRef .tc main_call2_call0_v1)) (V (Proc.devRef .tc main_call2_v5)) 2#32 (V (Proc.devRef .tc main_call2_call0_v35), V (Proc.devRef .tc main_call2_call0_v39)) := by
  refine Prod.ext ?_ ?_ <;> (after_reads_simp; rfl)

/-- Group 3 of the rounds, over any contents before it. -/
theorem group3 (V : Valuation τ sig (Elt F)) :
    ((StableHlo.after (cut 115 43) V (Proc.devRef .tc main_call2_call0_v103) : IVec Cert.KernelIdeal.S4096x8 32),
     (StableHlo.after (cut 115 43) V (Proc.devRef .tc main_call2_call0_v107) : IVec Cert.KernelIdeal.S4096x8 32))
      = Noise.groupA (V (Proc.devRef .tc main_call2_v5)) (V (Proc.devRef .tc main_call2_v7)) 3#32 (V (Proc.devRef .tc main_call2_call0_v69), V (Proc.devRef .tc main_call2_call0_v73)) := by
  refine Prod.ext ?_ ?_ <;> (after_reads_simp; rfl)

/-- Group 4 of the rounds, over any contents before it. -/
theorem group4 (V : Valuation τ sig (Elt F)) :
    ((StableHlo.after (cut 158 43) V (Proc.devRef .tc main_call2_call0_v137) : IVec Cert.KernelIdeal.S4096x8 32),
     (StableHlo.after (cut 158 43) V (Proc.devRef .tc main_call2_call0_v141) : IVec Cert.KernelIdeal.S4096x8 32))
      = Noise.groupB (V (Proc.devRef .tc main_call2_v7)) (V (Proc.devRef .tc main_call2_call0_v1)) 4#32 (V (Proc.devRef .tc main_call2_call0_v103), V (Proc.devRef .tc main_call2_call0_v107)) := by
  refine Prod.ext ?_ ?_ <;> (after_reads_simp; rfl)

/-- Group 5 of the rounds, over any contents before it. -/
theorem group5 (V : Valuation τ sig (Elt F)) :
    ((StableHlo.after (cut 201 43) V (Proc.devRef .tc main_call2_v19_0) : IVec Cert.KernelIdeal.S4096x8 32),
     (StableHlo.after (cut 201 43) V (Proc.devRef .tc main_call2_v19_1) : IVec Cert.KernelIdeal.S4096x8 32))
      = Noise.groupA (V (Proc.devRef .tc main_call2_call0_v1)) (V (Proc.devRef .tc main_call2_v5)) 5#32 (V (Proc.devRef .tc main_call2_call0_v137), V (Proc.devRef .tc main_call2_call0_v141)) := by
  refine Prod.ext ?_ ?_ <;> (after_reads_simp; rfl)

/-- The number read off the last group's words. -/
theorem tail_read (V : Valuation τ sig (Elt F)) :
    (StableHlo.after (cut 244 18) V (Proc.devRef .tc main_v26) : FVec F Cert.KernelIdeal.S4096x8 .f32)
      = Noise.uniform (V (Proc.devRef .tc main_call2_v2)) (V (Proc.devRef .tc main_call2_v3)) (V (Proc.devRef .tc main_call2_v19_0), V (Proc.devRef .tc main_call2_v19_1)) := by
  after_reads_simp
  rfl

/-- The random function's operations are its start, its five groups and its end. -/
theorem cut_all : main_part0_ops5 (F := F) = cut 0 29 ++ (cut 29 43 ++ (cut 72 43 ++ (cut 115 43 ++ (cut 158 43 ++ (cut 201 43 ++ cut 244 18))))) := rfl

set_option maxHeartbeats 1600000 in
/-- The random function leaves the uniform numbers of its key's words. -/
theorem noise_read (V : Valuation τ sig (Elt F)) :
    (StableHlo.after (main_part0_ops5 (F := F)) V (Proc.devRef .tc main_v26) : FVec F Cert.KernelIdeal.S4096x8 .f32)
      = Noise.uniform (Noise.one (V (Proc.devRef .tc main_cst_11))) (Noise.one (V (Proc.devRef .tc main_cst_12)))
          (Noise.words (Noise.keyA (V (Proc.devRef .tc main_v25))) (Noise.keyB (V (Proc.devRef .tc main_v25)))) := by
  rw [cut_all]
  simp only [after_append]
  rw [tail_read, group5, group4, group3, group2, group1]
  after_reads_simp
  rfl

end Cert.ReferenceIdeal.Run

end
-- ==== Proof.RefFn.lean ====
/- The reference, step by step, as functions of arrays. -/
module

public import proofs.«01_k».proof.Proof.Gen.ReferenceIdeal

@[expose] public section

noncomputable section

namespace Cert.Rf

open Cert.ReferenceIdeal Cert.ReferenceIdeal.Gen
open Idealize.ShloMosaic

variable {F : FTy → Type} [FloatOps F]

/-- A scalar at every token and expert. -/
def all (x : FVec F S_ .f32) : FVec F S4096x8 .f32 := broadcastInDim S4096x8 ![] bcast_S_S4096x8 x

/-- A value per token, at each of its experts. -/
def rows (x : FVec F S4096 .f32) : FVec F S4096x8 .f32 :=
  broadcastInDim S4096x8 ![0, 1] bcast_S4096x1_S4096x8_0_1 (broadcastInDim S4096x1 ![0] bcast_S4096_S4096x1_0 x)

/-- A word at every token. -/
def allI (x : BitVec 32) : IVec S4096 32 := broadcastInDim S4096 ![] bcast_S_S4096 (constantI S_ 32 x)

/-- A word at every token and expert. -/
def allII (x : BitVec 32) : IVec S4096x8 32 := broadcastInDim S4096x8 ![] bcast_S_S4096x8 (constantI S_ 32 x)

/-- The clipped logits: the pooled tokens times the gate's weights, over the temperature, between -10 and 10. -/
def lt (X : FVec F S4096x768x1x1 .f32) (W : FVec F S768x8 .f32) : FVec F S4096x8 .f32 :=
  minimumf (all (constant S_ .f32 0x41200000#32)) (maximumf (all (constant S_ .f32 0xC1200000#32))
    (Host.divf (Host.dotGeneral dot_S4096x768_S768x8_S4096x8_1_0_0_1_n_n none
        (Host.divf (Host.reduceAdd X (constant S_ .f32 0x00000000#32) reducesTo_S4096x768x1x1_S4096x768_d2_3 h_S_)
          (broadcastInDim S4096x768 ![] bcast_S_S4096x768 (constant S_ .f32 0x3F800000#32))) W)
      (all (constant S_ .f32 0x3FC00000#32))))

/-- The mean the deviation is taken from, at every token and expert. -/
def mean (t : FVec F S4096x8 .f32) : FVec F S4096x8 .f32 :=
  broadcastInDim S4096x8 ![0, 1] bcast_S1x1_S4096x8_0_1
    (Host.divf (broadcastInDim S1x1 ![] bcast_S_S1x1 (Host.reduceAdd t (constant S_ .f32 0x00000000#32) reducesTo_S4096x8_S_d0_1 h_S_))
      (broadcastInDim S1x1 ![] bcast_S_S1x1 (constant S_ .f32 0x47000000#32)))

/-- The number of elements the variance divides by, less no degree of freedom. -/
def dof : FVec F S_ .f32 := subf (constant S_ .f32 0x47000000#32) (sitofp .f32 (constantI S_ 32 0#32))

/-- The deviation of the clipped logits. -/
def std (t : FVec F S4096x8 .f32) : FVec F S_ .f32 :=
  Host.sqrt (select (cmpf .ogt (dof (F := F)) (constant S_ .f32 0x00000000#32))
    (Host.divf (Host.reduceAdd (mulf (subf t (mean t)) (subf t (mean t))) (constant S_ .f32 0x00000000#32) reducesTo_S4096x8_S_d0_1 h_S_) dof)
    (constant S_ .f32 0x7FC00000#32))

/-- Each token's largest entry. -/
def top (t : FVec F S4096x8 .f32) : FVec F S4096 .f32 :=
  Host.reduce FloatOps.maximumf t (constant S_ .f32 0xFF800000#32) reducesTo_S4096x8_S4096_d1 h_S_

/-- Each token's sum. -/
def rowSum (t : FVec F S4096x8 .f32) : FVec F S4096 .f32 :=
  Host.reduceAdd t (constant S_ .f32 0x00000000#32) reducesTo_S4096x8_S4096_d1 h_S_

/-- Each token's log-sum-exp. -/
def lse (t : FVec F S4096x8 .f32) : FVec F S4096 .f32 :=
  addf (Host.log (rowSum (Host.exp (subf t (rows (top t)))))) (top t)

/-- The mean square of the log-sum-exp. -/
def zloss (t : FVec F S4096x8 .f32) : FVec F S_ .f32 :=
  Host.divf (Host.reduceAdd (mulf (lse t) (lse t)) (constant S_ .f32 0x00000000#32) reducesTo_S4096_S_d0 h_S_) (constant S_ .f32 0x45800000#32)

/-- The key of the random numbers. -/
def key : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

/-- The logits with the noise `u` added. -/
def noisy (t u : FVec F S4096x8 .f32) : FVec F S4096x8 .f32 := addf t (mulf u (all (constant S_ .f32 0x3CA3D70A#32)))

/-- The exponentials the softmax divides. -/
def expo (g : FVec F S4096x8 .f32) : FVec F S4096x8 .f32 :=
  Host.exp (subf g (rows (maximumf (broadcastInDim S4096 ![] bcast_S_S4096 (constant S_ .f32 0xFF800000#32)) (top g))))

/-- The softmax. -/
def probs (g : FVec F S4096x8 .f32) : FVec F S4096x8 .f32 := Host.divf (expo g) (rows (rowSum (expo g)))

/-- Each token's expert: the first with the largest probability. -/
def expert (p : FVec F S4096x8 .f32) : IVec S4096 32 :=
  fun j => (Host.argReduce reducer_argmax_f32_i32 p (iotaInDim S4096x8 32 1) (constant S_ .f32 0xFF800000#32) (constantI S_ 32 0#32)
    reducesTo_S4096x8_S4096_d1 h_S_ j).2

/-- A possibly negative position `i` among `n`, from the end when negative. -/
def wrap (n : BitVec 32) (i : IVec S4096 32) : IVec S4096 32 := select (cmpi .slt i (allI 0#32)) (addi i (allI n)) i

/-- Each token's probability at its expert. -/
def chosen (p : FVec F S4096x8 .f32) (a : IVec S4096 32) : FVec F S4096 .f32 :=
  Host.gather gather_S4096x8_S4096x2_S4096_n_01_n_n_01_1_11 p
    (concatenate S4096x2 1 [⟨S4096x1, broadcastInDim S4096x1 ![0] bcast_S4096_S4096x1_0 (wrap 4096#32 (iotaInDim S4096 32 0))⟩,
      ⟨S4096x1, broadcastInDim S4096x1 ![0] bcast_S4096_S4096x1_0 (wrap 8#32 a)⟩] concatenates_S4096x1_S4096x1_S4096x2_d1)

/-- Each token's expert as a row of zeros and a one. -/
def oneHot (a : IVec S4096 32) : FVec F S4096x8 .f32 :=
  uitofp .f32 (cmpi .eq (broadcastInDim S4096x8 ![0, 1] bcast_S4096x1_S4096x8_0_1 (broadcastInDim S4096x1 ![0] bcast_S4096_S4096x1_0 a))
    (broadcastInDim S4096x8 ![0, 1] bcast_S1x8_S4096x8_0_1 (iotaInDim S1x8 32 1)))

/-- The tokens in the order of falling probability. -/
def order (q : FVec F S4096 .f32) : IVec S4096 32 :=
  fun j => (Host.sort2 S4096 0 comparator_f32_i32_d0 (Host.negf q) (iotaInDim S4096 32 0)).2 j

/-- The positions of the tokens in that order. -/
def unsort (o : IVec S4096 32) : IVec S4096 32 :=
  fun j => (Host.sort2 S4096 0 comparator_i32_i32_d0 o (iotaInDim S4096 32 0)).2 j

/-- The positions as a column. -/
def col (o : IVec S4096 32) : IVec S4096x1 32 := broadcastInDim S4096x1 ![0] bcast_S4096_S4096x1_0 (wrap 4096#32 o)

/-- Whether a position is within the array, at each expert. -/
def inside (o : IVec S4096 32) : IVec S4096x8 1 :=
  broadcastInDim S4096x8 ![0] bcast_S4096_S4096x8_0 (Host.reduce IntOp.andi
    (andi (cmpi .sge (col o) (broadcastInDim S4096x1 ![] bcast_S_S4096x1 (constantI S_ 32 0#32)))
      (cmpi .sle (col o) (broadcastInDim S4096x1 ![0, 1] bcast_S1x1_S4096x1_0_1 (broadcastInDim S1x1 ![1] bcast_S1_S1x1_1 (constantI S1 32 4095#32)))))
    (constantI S_ 1 1#1) reducesTo_S4096x1_S4096_d1 h_S_)

/-- The rows of `x` at the positions `o`. -/
def takeF (x : FVec F S4096x8 .f32) (o : IVec S4096 32) : FVec F S4096x8 .f32 :=
  select (inside o) (Host.gather gather_S4096x8_S4096x1_S4096x8_1_0_n_n_0_1_18 x (col o)) (all (constant S_ .f32 0x7FC00000#32))

/-- The same of words. -/
def takeI (x : IVec S4096x8 32) (o : IVec S4096 32) : IVec S4096x8 32 :=
  select (inside o) (Host.gather gather_S4096x8_S4096x1_S4096x8_1_0_n_n_0_1_18 x (col o)) (allII 2147483648#32)

/-- The running sums down the tokens. -/
def cumsum (x : IVec S4096x8 32) : IVec S4096x8 32 :=
  Host.reduceWindow IntOp.addi ![4096, 1] ![1, 1] ![4095, 0] ![0, 0] x (broadcastInDim S_ ![] bcast_S_S_ (constantI S_ 32 0#32))
    reduceWindows_S4096x8_S4096x8_w4096s1p4095_0_w1s1p0_0 h_S_

/-- Each sorted token's position within each expert. -/
def pos (c : IVec S4096x8 32) : IVec S4096x8 32 := subi c (allII 1#32)

/-- The sorted tokens kept: routed to the expert, at a position within its capacity. -/
def kept (x p : IVec S4096x8 32) : IVec S4096x8 32 :=
  extui 32 (andi (cmpi .ne x (allII 0#32)) (andi (cmpi .sge p (allII 0#32)) (cmpi .slt p (allII 640#32)))) natLt_1_32

/-- The mean down the tokens. -/
def colMean (x : FVec F S4096x8 .f32) : FVec F S8 .f32 :=
  Host.divf (Host.reduceAdd x (constant S_ .f32 0x00000000#32) reducesTo_S4096x8_S8_d0 h_S_)
    (broadcastInDim S8 ![] bcast_S_S8 (constant S_ .f32 0x45800000#32))

/-- The load-balance loss. -/
def aux (k p : FVec F S4096x8 .f32) : FVec F S_ .f32 :=
  mulf (Host.reduceAdd (mulf (colMean k) (colMean p)) (constant S_ .f32 0x00000000#32) reducesTo_S8_S_d0 h_S_) (constant S_ .f32 0x41000000#32)

/-- The kept tokens' probabilities. -/
def raw (k : FVec F S4096x8 .f32) (q : FVec F S4096 .f32) : FVec F S4096x8 .f32 := mulf k (rows q)

/-- The weights: each kept probability over its token's sum. -/
def weight (k : FVec F S4096x8 .f32) (q : FVec F S4096 .f32) : FVec F S4096x8 .f32 :=
  Host.divf (raw k q) (broadcastInDim S4096x8 ![0, 1] bcast_S4096x1_S4096x8_0_1
    (maximumf (broadcastInDim S4096x1 ![0] bcast_S4096_S4096x1_0 (rowSum (raw k q)))
      (broadcastInDim S4096x1 ![] bcast_S_S4096x1 (constant S_ .f32 0x358637BD#32))))

/-- The positions, brought within the capacity. -/
def clipPos (p : IVec S4096x8 32) : IVec S4096x8 32 := minsi (allII 639#32) (maxsi (allII 0#32) p)

/-- Each position as a row of zeros and a one. -/
def slots (p : IVec S4096x8 32) : FVec F S4096x8x640 .f32 :=
  uitofp .f32 (cmpi .eq (broadcastInDim S4096x8x640 ![0, 1, 2] bcast_S4096x8x1_S4096x8x640_0_1_2 (broadcastInDim S4096x8x1 ![0, 1] bcast_S4096x8_S4096x8x1_0_1 p))
    (broadcastInDim S4096x8x640 ![0, 1, 2] bcast_S1x1x640_S4096x8x640_0_1_2 (iotaInDim S1x1x640 32 2)))

/-- The weights at their slots. -/
def combine (w : FVec F S4096x8 .f32) (s : FVec F S4096x8x640 .f32) : FVec F S4096x8x640 .f32 :=
  mulf (broadcastInDim S4096x8x640 ![0, 1, 2] bcast_S4096x8x1_S4096x8x640_0_1_2 (broadcastInDim S4096x8x1 ![0, 1] bcast_S4096x8_S4096x8x1_0_1 w)) s

/-- Which slots are taken. -/
def dispatch (k : FVec F S4096x8 .f32) (s : FVec F S4096x8x640 .f32) : IVec S4096x8x640 1 :=
  andi (broadcastInDim S4096x8x640 ![0, 1, 2] bcast_S4096x8x1_S4096x8x640_0_1_2
      (cmpf .une (broadcastInDim S4096x8x1 ![0, 1] bcast_S4096x8_S4096x8x1_0_1 k) (broadcastInDim S4096x8x1 ![] bcast_S_S4096x8x1 (constant S_ .f32 0x00000000#32))))
    (cmpf .une s (broadcastInDim S4096x8x640 ![] bcast_S_S4096x8x640 (constant S_ .f32 0x00000000#32)))

end Cert.Rf

end
-- ==== Proof.RefRead.lean ====
/- What the reference's buffers hold at the end of its run: each step's function of the steps before. -/
module

public import proofs.«01_k».proof.Proof.NoiseRef
public import proofs.«01_k».proof.Proof.RefFn

@[expose] public section

set_option maxRecDepth 16384

noncomputable section

namespace Cert.ReferenceIdeal.Run

open Cert.ReferenceIdeal.Gen
open Idealize.ShloMosaic Idealize.ShloMosaic.TcCoe
open Idealize.SL.Sem
open Cert

variable {F : FTy → Type} [FloatOps F]
variable (m : (ℓ : Loc nD τ sig) → Buf (Elt F) ℓ) (c : Dev nD)

/-- The contents at the end of the run. -/
def E (b : Ref sig .tc) : Buf (Elt F) ((c.tc : Thread nD τ).loc b) := RV m c 24 (Proc.devRef .tc b)

/-- They are what the lists from the `n`-th on leave from the contents before them. -/
theorem E_from (n : ℕ) (b : Ref sig .tc) :
    E m c b = ((stages (F := F)).drop n).foldl (fun V ops => StableHlo.after ops V) (RV m c n) (Proc.devRef .tc b) := by
  unfold E RV
  rw [← List.foldl_append, List.take_append_drop]
  rfl

/-- The clipped logits. -/
theorem E_v6 : E m c main_v6 = Rf.lt (E m c main_arg0) (E m c main_arg1) := by
  simp only [E_from m c 0, stages, List.drop_succ_cons, List.drop_zero, List.foldl_cons, List.foldl_nil]
  after_reads_simp
  rfl

/-- Their deviation. -/
theorem E_v7 : E m c main_v7 = Rf.std (E m c main_v6) := by
  simp only [E_from m c 3, stages, List.drop_succ_cons, List.drop_zero, List.foldl_cons, List.foldl_nil]
  after_reads_simp
  rfl

/-- The mean square of their log-sum-exp. -/
theorem E_v18 : E m c main_v18 = Rf.zloss (E m c main_v6) := by
  simp only [E_from m c 4, stages, List.drop_succ_cons, List.drop_zero, List.foldl_cons, List.foldl_nil]
  after_reads_simp
  rfl

/-- The noisy logits. -/
theorem E_v29 : E m c main_v29 = Rf.noisy (E m c main_v6) (E m c main_v26) := by
  simp only [E_from m c 6, stages, List.drop_succ_cons, List.drop_zero, List.foldl_cons, List.foldl_nil]
  after_reads_simp
  rfl

/-- The probabilities. -/
theorem E_v40 : E m c main_v40 = Rf.probs (E m c main_v29) := by
  simp only [E_from m c 6, stages, List.drop_succ_cons, List.drop_zero, List.foldl_cons, List.foldl_nil]
  after_reads_simp
  rfl

/-- The experts. -/
theorem E_v41 : E m c main_v41 = Rf.expert (E m c main_v40) := by
  simp only [E_from m c 7, stages, List.drop_succ_cons, List.drop_zero, List.foldl_cons, List.foldl_nil]
  after_reads_simp
  rfl

/-- The probabilities at the experts. -/
theorem E_v56 : E m c main_v56 = Rf.chosen (E m c main_v40) (E m c main_v41) := by
  simp only [E_from m c 8, stages, List.drop_succ_cons, List.drop_zero, List.foldl_cons, List.foldl_nil]
  have h1 : StableHlo.upto main_part1_ops1 (RV m c 8) 17 (Proc.devRef .tc main_v53)
      = (broadcastInDim S4096x1 ![0] bcast_S4096_S4096x1_0 (Rf.wrap 4096#32 (iotaInDim S4096 32 0)) : IVec S4096x1 32) := by
    after_reads_simp
    rfl
  have h2 : StableHlo.upto main_part1_ops1 (RV m c 8) 17 (Proc.devRef .tc main_v54)
      = (broadcastInDim S4096x1 ![0] bcast_S4096_S4096x1_0 (Rf.wrap 8#32 (RV m c 8 (Proc.devRef .tc main_v41))) : IVec S4096x1 32) := by
    after_reads_simp
    rfl
  after_reads_simp
  rw [h1, h2]
  rfl

/-- The experts, one-hot. -/
theorem E_v57 : E m c main_v57 = Rf.oneHot (E m c main_v41) := by
  simp only [E_from m c 9, stages, List.drop_succ_cons, List.drop_zero, List.foldl_cons, List.foldl_nil]
  after_reads_simp
  simp only [StableHlo.TRef.ofBuf_toBuf]
  rfl

/-- The order. -/
theorem E_v59 : E m c main_v59 = Rf.order (E m c main_v56) := by
  simp only [E_from m c 10, stages, List.drop_succ_cons, List.drop_zero, List.foldl_cons, List.foldl_nil]
  after_reads_simp
  rfl

/-- The one-hot rows in order. -/
theorem E_v60 : E m c main_v60 = Rf.takeF (E m c main_v57) (E m c main_v59) := by
  simp only [E_from m c 12, stages, List.drop_succ_cons, List.drop_zero, List.foldl_cons, List.foldl_nil]
  after_reads_simp
  simp only [StableHlo.TRef.ofBuf_toBuf]
  rfl

/-- The same as words. -/
theorem E_v61 : E m c main_v61 = fptosi 32 (E m c main_v60 : FVec F S4096x8 .f32) := by
  simp only [E_from m c 13, stages, List.drop_succ_cons, List.drop_zero, List.foldl_cons, List.foldl_nil]
  after_reads_simp

/-- Their running sums. -/
theorem E_v62 : E m c main_v62 = Rf.cumsum (E m c main_v61) := by
  simp only [E_from m c 14, stages, List.drop_succ_cons, List.drop_zero, List.foldl_cons, List.foldl_nil]
  after_reads_simp
  simp only [StableHlo.TRef.ofBuf_toBuf]
  unfold Rf.cumsum
  change StableHlo.TRef.toBuf _ (Host.reduceWindow IntOp.addi ![4096, 1] ![1, 1] ![4095, 0] ![0, 0] (RV m c 14 (Proc.devRef .tc main_v61)) _ _ _) = _
  generalize (Host.reduceWindow IntOp.addi ![4096, 1] ![1, 1] ![4095, 0] ![0, 0] (RV m c 14 (Proc.devRef .tc main_v61)) _ _ _) = y
  rfl

/-- The positions. -/
theorem E_v64 : E m c main_v64 = Rf.pos (E m c main_v62) := by
  simp only [E_from m c 15, stages, List.drop_succ_cons, List.drop_zero, List.foldl_cons, List.foldl_nil]
  after_reads_simp
  rfl

/-- The kept tokens, in order. -/
theorem E_v74 : E m c main_v74 = Rf.kept (E m c main_v61) (E m c main_v64) := by
  simp only [E_from m c 15, stages, List.drop_succ_cons, List.drop_zero, List.foldl_cons, List.foldl_nil]
  after_reads_simp
  rfl

/-- The positions in the order. -/
theorem E_v75 : E m c main_v75 = Rf.unsort (E m c main_v59) := by
  simp only [E_from m c 16, stages, List.drop_succ_cons, List.drop_zero, List.foldl_cons, List.foldl_nil]
  after_reads_simp
  rfl

/-- The kept tokens. -/
theorem E_v76 : E m c main_v76 = Rf.takeI (E m c main_v74) (E m c main_v75) := by
  simp only [E_from m c 17, stages, List.drop_succ_cons, List.drop_zero, List.foldl_cons, List.foldl_nil]
  after_reads_simp
  simp only [StableHlo.TRef.ofBuf_toBuf]
  rfl

/-- The same as numbers. -/
theorem E_v77 : E m c main_v77 = sitofp .f32 (E m c main_v76 : IVec S4096x8 32) := by
  simp only [E_from m c 18, stages, List.drop_succ_cons, List.drop_zero, List.foldl_cons, List.foldl_nil]
  after_reads_simp

/-- The load-balance loss. -/
theorem E_v86 : E m c main_v86 = Rf.aux (E m c main_v77) (E m c main_v40) := by
  simp only [E_from m c 18, stages, List.drop_succ_cons, List.drop_zero, List.foldl_cons, List.foldl_nil]
  after_reads_simp
  rfl

/-- The weights. -/
theorem E_v95 : E m c main_v95 = Rf.weight (E m c main_v77) (E m c main_v56) := by
  simp only [E_from m c 19, stages, List.drop_succ_cons, List.drop_zero, List.foldl_cons, List.foldl_nil]
  after_reads_simp
  rfl

/-- The positions within the capacity, in order. -/
theorem E_v96 : E m c main_v96 = Rf.clipPos (E m c main_v64) := by
  simp only [E_from m c 19, stages, List.drop_succ_cons, List.drop_zero, List.foldl_cons, List.foldl_nil]
  after_reads_simp
  simp only [StableHlo.TRef.ofBuf_toBuf]
  unfold Rf.clipPos Rf.allII
  generalize constantI S_ 32 639#32 = k
  generalize constantI S_ 32 0#32 = z
  simp only [id]
  generalize hb : StableHlo.TRef.ofBuf _ _ = b
  generalize hy : minsi _ _ = y
  change y = _
  rw [← hy, ← hb]
  rfl

/-- The positions within the capacity. -/
theorem E_v97 : E m c main_v97 = Rf.takeI (E m c main_v96) (E m c main_v75) := by
  simp only [E_from m c 21, stages, List.drop_succ_cons, List.drop_zero, List.foldl_cons, List.foldl_nil]
  after_reads_simp
  simp only [StableHlo.TRef.ofBuf_toBuf]
  rfl

/-- The slots. -/
theorem E_v98 : E m c main_v98 = Rf.slots (E m c main_v97) := by
  simp only [E_from m c 22, stages, List.drop_succ_cons, List.drop_zero, List.foldl_cons, List.foldl_nil]
  after_reads_simp
  rfl

/-- The combining weights. -/
theorem E_v101 : E m c main_v101 = Rf.combine (E m c main_v95) (E m c main_v98) := by
  simp only [E_from m c 23, stages, List.drop_succ_cons, List.drop_zero, List.foldl_cons, List.foldl_nil]
  after_reads_simp
  rfl

/-- The dispatch. -/
theorem E_v110 : E m c main_v110 = Rf.dispatch (E m c main_v77) (E m c main_v98) := by
  simp only [E_from m c 23, stages, List.drop_succ_cons, List.drop_zero, List.foldl_cons, List.foldl_nil]
  after_reads_simp
  rfl

/-- The key of the random numbers. -/
theorem E_v25 : RV m c 5 (Proc.devRef .tc main_v25) = Rf.key := by
  have h4 : RV m c 5 = StableHlo.after main_part0_ops4 (RV m c 4) := rfl
  rw [h4]
  after_reads_simp
  rfl

/-- The uniform numbers. -/
theorem E_v26 : E m c main_v26 = Noise.uniform (Noise.one (constant S_ .f32 0x00000000#32)) (Noise.one (constant S_ .f32 0x3F800000#32))
    (Noise.words (Noise.keyA Rf.key) (Noise.keyB Rf.key)) := by
  have h : E m c main_v26 = StableHlo.after main_part0_ops5 (RV m c 5) (Proc.devRef .tc main_v26) := by
    have h0 : RV m c 6 = StableHlo.after main_part0_ops5 (RV m c 5) := rfl
    rw [← h0]
    simp only [E_from m c 6, stages, List.drop_succ_cons, List.drop_zero, List.foldl_cons, List.foldl_nil]
    after_reads_simp
  have h1 : RV m c 5 (Proc.devRef .tc main_cst_11) = (constant S_ .f32 0x00000000#32 : FVec F S_ .f32) := by
    have h4 : RV m c 5 = StableHlo.after main_part0_ops4 (RV m c 4) := rfl
    rw [h4]
    after_reads_simp
  have h2 : RV m c 5 (Proc.devRef .tc main_cst_12) = (constant S_ .f32 0x3F800000#32 : FVec F S_ .f32) := by
    have h4 : RV m c 5 = StableHlo.after main_part0_ops4 (RV m c 4) := rfl
    rw [h4]
    after_reads_simp
  rw [h]
  refine (noise_read (RV m c 5)).trans ?_
  rw [h1, h2, E_v25]

/-- The tokens are as launched. -/
theorem E_arg0 : E m c main_arg0 = m ((c.tc : Thread nD τ).loc main_arg0) := by
  simp only [E_from m c 0, stages, List.drop_succ_cons, List.drop_zero, List.foldl_cons, List.foldl_nil]
  after_reads_simp
  rfl

/-- The gate's weights are as launched. -/
theorem E_arg1 : E m c main_arg1 = m ((c.tc : Thread nD τ).loc main_arg1) := by
  simp only [E_from m c 0, stages, List.drop_succ_cons, List.drop_zero, List.foldl_cons, List.foldl_nil]
  after_reads_simp
  rfl

end Cert.ReferenceIdeal.Run

end
-- ==== Proof.RefFrame.lean ====
/- The reference leaves its arguments as launched, and no semaphore counted. -/
module

public import proofs.«01_k».proof.Proof.RefRead

@[expose] public section

noncomputable section

namespace Cert.ReferenceIdeal.Run

open Cert.ReferenceIdeal.Gen
open Idealize.ShloMosaic Idealize.ShloMosaic.TcCoe
open Idealize.SL.Sem
open Cert

variable {F : FTy → Type} [FloatOps F]

/-- The reference's run: it ends, its arguments as launched, every counter at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run m ρ) fun r h => ⟨fun c => ⟨(h c _).trans (E_arg0 m c), (h c _).trans (E_arg1 m c)⟩,
    sem_eq_zero_of_no_sems (by decide) _⟩

end Cert.ReferenceIdeal.Run

end
-- ==== Proof.KernelRun.lean ====
/- The kernel's run, with what every buffer holds at its end. -/
module

public import proofs.«01_k».proof.Proof.Gen.KernelIdeal.Frame

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel's run ends with each unscoped buffer at the contents of the last boundary. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Cert.KernelIdeal.Run

end
-- ==== Proof.KernelVal0.lean ====
/- What the first kernel leaves in its outputs: its payloads of the arrays it is entered with. -/
module

public import proofs.«01_k».proof.Proof.KernelRun
public import Idealize.ShloMosaic.Lib.Pipeline.ValueKit

@[expose] public section

set_option maxRecDepth 16384

noncomputable section

namespace Cert.KernelIdeal.Run

open Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The windows stay in place: each block is the whole array. -/
theorem idx0 : ∀ t : Fin cfg0.N, win0_0.index t = ![0, 0] ∧ win0_1.index t = ![0, 0] ∧ win0_2.index t = ![0, 0] :=
  (by decide +kernel : ∀ t : Fin grid0.N, _)

/-- Window 0's block is its array. -/
theorem iblk0_0 (t : Fin cfg0.N) : iblk0 V c 0 t = V c (Pipeline.arrRef spec0 0) := by
  funext j; blk_point [iblk0, idx0 t]

/-- Window 1's block is its array. -/
theorem iblk0_1 (t : Fin cfg0.N) : iblk0 V c 1 t = V c (Pipeline.arrRef spec0 1) := by
  funext j; blk_point [iblk0, idx0 t]

/-- Window 2's block is its array. -/
theorem iblk0_2 (t : Fin cfg0.N) : iblk0 V c 2 t = V c (Pipeline.arrRef spec0 2) := by
  funext j; blk_point [iblk0, idx0 t]

/-- The clipped logits of the arrays. -/
abbrev LT : FVec Ideal S4096x8 .f32 := k0_pay7 (F := Ideal) (V c (Pipeline.arrRef spec0 0)) (V c (Pipeline.arrRef spec0 1))

/-- The payload's whole loads are its arrays. -/
theorem pay10_eq (x0 : Vec Ideal S4096x768 .f32) (x1 : Vec Ideal S768x8 .f32) (x2 : Vec Ideal S4096x8 .f32) :
    k0_pay10 (F := Ideal) x0 x1 x2 = k0_pay7 (F := Ideal) x0 x1 := by
  unfold k0_pay10
  frame_out

/-- The noisy logits. -/
theorem val0_3 : (dat0 V c).arrAt 3 cfg0.N = k0_pay2 (F := Ideal) (LT V c) (V c (Pipeline.arrRef spec0 2)) := by
  refine (dat0 V c).arrAt_eq_of_after_last 3 t0_0 (by decide +kernel) _ fun j => ?_
  blk_simp
  rw [after0_3, iblk0_0, iblk0_1, iblk0_2]
  frame_out
  rw [pay10_eq]

/-- Each token's largest probability. -/
theorem val0_4 : (dat0 V c).arrAt 4 cfg0.N = k0_pay5 (F := Ideal) (LT V c) (V c (Pipeline.arrRef spec0 2)) := by
  refine (dat0 V c).arrAt_eq_of_after_last 4 t0_0 (by decide +kernel) _ fun j => ?_
  blk_simp
  rw [after0_4, iblk0_0, iblk0_1, iblk0_2]
  frame_out
  rw [pay10_eq]

/-- Each token's expert. -/
theorem val0_5 : (dat0 V c).arrAt 5 cfg0.N = k0_pay6 (F := Ideal) (LT V c) (V c (Pipeline.arrRef spec0 2)) := by
  refine (dat0 V c).arrAt_eq_of_after_last 5 t0_0 (by decide +kernel) _ fun j => ?_
  blk_simp
  rw [after0_5, iblk0_0, iblk0_1, iblk0_2]
  frame_out
  rw [pay10_eq]

/-- The mean probabilities. -/
theorem val0_6 : (dat0 V c).arrAt 6 cfg0.N = k0_pay4 (F := Ideal) (LT V c) (V c (Pipeline.arrRef spec0 2)) := by
  refine (dat0 V c).arrAt_eq_of_after_last 6 t0_0 (by decide +kernel) _ fun j => ?_
  blk_simp
  rw [after0_6, iblk0_0, iblk0_1, iblk0_2]
  frame_out
  rw [pay10_eq]

/-- The mean square of the log-sum-exp. -/
theorem val0_7 : (dat0 V c).arrAt 7 cfg0.N = k0_pay1 (F := Ideal) (k0_pay9 (F := Ideal) (V c (Pipeline.arrRef spec0 0)) (V c (Pipeline.arrRef spec0 1))) := by
  refine (dat0 V c).arrAt_eq_of_after_last 7 t0_0 (by decide +kernel) _ fun j => ?_
  blk_simp
  rw [after0_7, iblk0_0, iblk0_1, iblk0_2]
  frame_out

/-- The deviation. -/
theorem val0_8 : (dat0 V c).arrAt 8 cfg0.N = k0_pay8 (F := Ideal) (V c (Pipeline.arrRef spec0 0)) (V c (Pipeline.arrRef spec0 1)) := by
  refine (dat0 V c).arrAt_eq_of_after_last 8 t0_0 (by decide +kernel) _ fun j => ?_
  blk_simp
  rw [after0_8, iblk0_0, iblk0_1, iblk0_2]
  frame_out

end Cert.KernelIdeal.Run

end
-- ==== Proof.KernelVal1.lean ====
/- What the second kernel leaves in its outputs. -/
module

public import proofs.«01_k».proof.Proof.KernelRun
public import Idealize.ShloMosaic.Lib.Pipeline.ValueKit

@[expose] public section

set_option maxRecDepth 16384

noncomputable section

namespace Cert.KernelIdeal.Run

open Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The blocks of the columns walk down the tokens; the rows' stay in place. -/
theorem idx1 : ∀ t : Fin cfg1.N, win1_0.index t = ![t.val, 0] ∧ win1_1.index t = ![t.val, 0] ∧ win1_2.index t = ![0, 0]
    ∧ win1_3.index t = ![0, 0] ∧ win1_4.index t = ![0, 0] ∧ win1_5.index t = ![t.val, 0] ∧ (grid1.coords t 0).val = t.val :=
  (by decide +kernel : ∀ t : Fin grid1.N, _)

/-- The number of a token within the blocks, as the kernel forms it. -/
def word (n : ℕ) : BitVec 32 := IntOp.addi (Scalar.muli (BitVec.ofNat 32 (n / 512)) 512#32) (BitVec.ofNat 32 (n % 512))

/-- Whether token `m` of the rows, of number `wm`, goes before the token of probability `p`, expert `a` and number `w`, and has its expert. -/
def bit (p : EReal) (a : BitVec 32) (w : BitVec 32) (pr : FVec Ideal S1x4096 .f32) (ar : IVec S1x4096 32) (m : Fin 4096) (wm : BitVec 32) : BitVec 1 :=
  IntOp.andi (IntOp.ori (BitVec.ofBool (decide (p < pr (ix2 0 m))))
    (IntOp.andi (BitVec.ofBool (decide (pr (ix2 0 m) = p))) (IntOp.cmpi .slt wm w))) (IntOp.cmpi .eq (ar (ix2 0 m)) a)

/-- How many of the 1024 tokens from `b` on go before the token and have its expert. -/
def seg (p : EReal) (a : BitVec 32) (w : BitVec 32) (pr : FVec Ideal S1x4096 .f32) (ar : IVec S1x4096 32) (b : ℕ) (hb : b + 1024 ≤ 4096) : BitVec 32 :=
  Finset.fold IntOp.addi 0#32 (fun x : Fin 1024 =>
    BitVec.setWidth 32 (bit p a w pr ar ⟨b + x.val, by omega⟩ (IntOp.addi (BitVec.ofNat 32 b) (BitVec.ofNat 32 x.val)))) Finset.univ

/-- The token's rank within its expert. -/
def rank (p : EReal) (a : BitVec 32) (w : BitVec 32) (pr : FVec Ideal S1x4096 .f32) (ar : IVec S1x4096 32) : BitVec 32 :=
  IntOp.addi (IntOp.addi (IntOp.addi (IntOp.addi 0#32 (seg p a w pr ar 0 (by omega))) (seg p a w pr ar 1024 (by omega)))
    (seg p a w pr ar 2048 (by omega))) (seg p a w pr ar 3072 (by omega))

/-- The token's slot number, or -1 where its expert is full. -/
def slot (p : EReal) (a : BitVec 32) (w : BitVec 32) (pr : FVec Ideal S1x4096 .f32) (ar : IVec S1x4096 32) : BitVec 32 :=
  Scalar.select (IntOp.cmpi .slt (rank p a w pr ar) 640#32) (IntOp.addi (IntOp.muli a 640#32) (rank p a w pr ar)) 4294967295#32

/-- Each token's slot number. -/
def flat (p : FVec Ideal S4096x1 .f32) (a : IVec S4096x1 32) (pr : FVec Ideal S1x4096 .f32) (ar : IVec S1x4096 32) : IVec S4096x1 32 := fun j =>
  slot (p (ix2 (j 0) 0)) (a (ix2 (j 0) 0)) (word (j 0).val) pr ar

/-- The payload of a block. -/
def pay (i : grid1.Coords) (x0 : Vec Ideal S512x1 .f32) (x1 : Vec Ideal S512x1 .i32) (x2 : Vec Ideal S1x4096 .f32) (x3 : Vec Ideal S1x4096 .i32) : IVec S512x1 32 :=
  k1_pay12 (F := Ideal) (k1_pay2 x0) (k1_pay3 (F := Ideal) x1) (k1_pay4 i)
      (k1_pay9 (F := Ideal) (k1_pay2 x0) (k1_pay3 (F := Ideal) x1) (k1_pay4 i)
        (k1_pay5 (F := Ideal) i x0 x1
          (View.ld x2 (Rect.unit ![0, 0] ![1, 1024] inb_S1x4096_S1x1024_0_0))
          (View.ld x3 (Rect.unit ![0, 0] ![1, 1024] inb_S1x4096_S1x1024_0_0)))
        (k1_pay6 (View.ld x2 (Rect.unit ![0, 1024] ![1, 1024] inb_S1x4096_S1x1024_0_1024)))
        (k1_pay7 (F := Ideal) (View.ld x3 (Rect.unit ![0, 1024] ![1, 1024] inb_S1x4096_S1x1024_0_1024))) k1_pay8
        (View.ld x2 (Rect.unit ![0, 2048] ![1, 1024] inb_S1x4096_S1x1024_0_2048))
        (View.ld x3 (Rect.unit ![0, 2048] ![1, 1024] inb_S1x4096_S1x1024_0_2048)))
      (k1_pay10 (View.ld x2 (Rect.unit ![0, 3072] ![1, 1024] inb_S1x4096_S1x1024_0_3072)))
      (k1_pay11 (F := Ideal) (View.ld x3 (Rect.unit ![0, 3072] ![1, 1024] inb_S1x4096_S1x1024_0_3072)))

/-- A part of a row, read at an index. -/
theorem ld_row {α : EltTy → Type} {e : EltTy} (x : S1x4096.Idx → α e) (b : ℕ) (hb : b + 1024 ≤ 4096) (inb) (k : Fin 1024) :
    View.ld x (Rect.unit (s := S1x4096) ![0, b] ![1, 1024] inb) (ix2 0 k) = x (ix2 0 ⟨b + k.val, by omega⟩) := by
  rw [View.ld_unit_apply_of]
  intro a
  match a with
  | ⟨0, _⟩ => rfl
  | ⟨1, _⟩ => rfl

/-- The first part's count. -/
theorem pay5_eq (i : grid1.Coords) (x0 : Vec Ideal S512x1 .f32) (x1 : Vec Ideal S512x1 .i32) (x2 : Vec Ideal S1x1024 .f32) (x3 : Vec Ideal S1x1024 .i32)
    (pr : FVec Ideal S1x4096 .f32) (ar : IVec S1x4096 32) (h2 : ∀ k : Fin 1024, x2 (ix2 0 k) = pr (ix2 0 ⟨0 + k.val, by omega⟩))
    (h3 : ∀ k : Fin 1024, x3 (ix2 0 k) = ar (ix2 0 ⟨0 + k.val, by omega⟩)) (y : Fin 512) :
    k1_pay5 (F := Ideal) i x0 x1 x2 x3 (ix2 y 0) = IntOp.addi 0#32 (seg (x0 (ix2 y 0)) (x1 (ix2 y 0))
      (IntOp.addi (Scalar.muli (BitVec.ofNat 32 (i 0).val) 512#32) (BitVec.ofNat 32 y.val)) pr ar 0 (by omega)) := by
  unfold seg bit
  simp only [← h2, ← h3]
  pointwise [k1_pay2, k1_pay3, k1_pay4, k1_pay5]

/-- The second and third parts' counts, on top of the first's. -/
theorem pay9_eq (p : Vec Ideal S512x1 .f32) (a w acc : IVec S512x1 32) (x2 : FVec Ideal S1x1024 .f32) (x3 : IVec S1x1024 32)
    (z2 : Vec Ideal S1x1024 .f32) (z3 : Vec Ideal S1x1024 .i32) (pr : FVec Ideal S1x4096 .f32) (ar : IVec S1x4096 32)
    (h2 : ∀ k : Fin 1024, x2 (ix2 0 k) = pr (ix2 0 ⟨1024 + k.val, by omega⟩)) (h3 : ∀ k : Fin 1024, x3 (ix2 0 k) = ar (ix2 0 ⟨1024 + k.val, by omega⟩))
    (g2 : ∀ k : Fin 1024, z2 (ix2 0 k) = pr (ix2 0 ⟨2048 + k.val, by omega⟩)) (g3 : ∀ k : Fin 1024, z3 (ix2 0 k) = ar (ix2 0 ⟨2048 + k.val, by omega⟩))
    (y : Fin 512) : k1_pay9 (F := Ideal) p a w acc x2 x3 k1_pay8 z2 z3 (ix2 y 0)
      = IntOp.addi (IntOp.addi (acc (ix2 y 0)) (seg (p (ix2 y 0)) (a (ix2 y 0)) (w (ix2 y 0)) pr ar 1024 (by omega)))
        (seg (p (ix2 y 0)) (a (ix2 y 0)) (w (ix2 y 0)) pr ar 2048 (by omega)) := by
  unfold seg bit
  simp only [← h2, ← h3, ← g2, ← g3]
  pointwise [k1_pay8, k1_pay9]

/-- The last part's count on top of theirs, and the slot number. -/
theorem pay12_eq (p : Vec Ideal S512x1 .f32) (a w acc : IVec S512x1 32) (x2 : FVec Ideal S1x1024 .f32) (x3 : IVec S1x1024 32)
    (pr : FVec Ideal S1x4096 .f32) (ar : IVec S1x4096 32)
    (h2 : ∀ k : Fin 1024, x2 (ix2 0 k) = pr (ix2 0 ⟨3072 + k.val, by omega⟩)) (h3 : ∀ k : Fin 1024, x3 (ix2 0 k) = ar (ix2 0 ⟨3072 + k.val, by omega⟩))
    (y : Fin 512) (r : BitVec 32) (hr : r = IntOp.addi (acc (ix2 y 0)) (seg (p (ix2 y 0)) (a (ix2 y 0)) (w (ix2 y 0)) pr ar 3072 (by omega))) :
    k1_pay12 (F := Ideal) p a w acc x2 x3 (ix2 y 0)
      = Scalar.select (IntOp.cmpi .slt r 640#32) (IntOp.addi (IntOp.muli (a (ix2 y 0)) 640#32) r) 4294967295#32 := by
  rw [hr]
  unfold seg bit
  simp only [← h2, ← h3]
  pointwise [k1_pay12]

/-- The payload is the slot numbers of the block's tokens. -/
theorem pay_eq (i : grid1.Coords) (x0 : Vec Ideal S512x1 .f32) (x1 : Vec Ideal S512x1 .i32) (x2 : Vec Ideal S1x4096 .f32) (x3 : Vec Ideal S1x4096 .i32)
    (y : Fin 512) : pay i x0 x1 x2 x3 (ix2 y 0) = slot (x0 (ix2 y 0)) (x1 (ix2 y 0))
      (IntOp.addi (Scalar.muli (BitVec.ofNat 32 (i 0).val) 512#32) (BitVec.ofNat 32 y.val)) x2 x3 := by
  have e2 : k1_pay2 x0 = x0 := by pointwise [k1_pay2]
  have e3 : k1_pay3 (F := Ideal) x1 = x1 := by pointwise [k1_pay3]
  have e4 : k1_pay4 i (ix2 y 0) = IntOp.addi (Scalar.muli (BitVec.ofNat 32 (i 0).val) 512#32) (BitVec.ofNat 32 y.val) := by pointwise [k1_pay4]
  have e6 : ∀ x : FVec Ideal S1x1024 .f32, k1_pay6 x = x := fun x => by pointwise [k1_pay6]
  have e7 : ∀ x : IVec S1x1024 32, k1_pay7 (F := Ideal) x = x := fun x => by pointwise [k1_pay7]
  have e10 : ∀ x : FVec Ideal S1x1024 .f32, k1_pay10 x = x := fun x => by pointwise [k1_pay10]
  have e11 : ∀ x : IVec S1x1024 32, k1_pay11 (F := Ideal) x = x := fun x => by pointwise [k1_pay11]
  unfold pay
  rw [e2, e3, e6, e7, e10, e11]
  refine (pay12_eq _ _ _ _ _ _ x2 x3 (fun k => ld_row _ 3072 (by omega) _ k) (fun k => ld_row (α := Elt Ideal) (e := .i32) _ 3072 (by omega) _ k) y _ rfl).trans ?_
  rw [pay9_eq _ _ _ _ _ _ _ _ x2 x3 (fun k => ld_row _ 1024 (by omega) _ k) (fun k => ld_row (α := Elt Ideal) (e := .i32) _ 1024 (by omega) _ k)
    (fun k => ld_row _ 2048 (by omega) _ k) (fun k => ld_row (α := Elt Ideal) (e := .i32) _ 2048 (by omega) _ k) y,
    pay5_eq _ _ _ _ _ x2 x3 (fun k => ld_row _ 0 (by omega) _ k) (fun k => ld_row (α := Elt Ideal) (e := .i32) _ 0 (by omega) _ k) y, e4]
  rfl

/-- A row's block is the row. -/
theorem iblk1_2 (t : Fin cfg1.N) : iblk1 V c 2 t = V c (Pipeline.arrRef spec1 2) := by
  funext j; blk_point [iblk1, idx1 t]

/-- A row's block is the row. -/
theorem iblk1_3 (t : Fin cfg1.N) : iblk1 V c 3 t = V c (Pipeline.arrRef spec1 3) := by
  funext j; blk_point [iblk1, idx1 t]

/-- A row's block is the row. -/
theorem iblk1_4 (t : Fin cfg1.N) : iblk1 V c 4 t = V c (Pipeline.arrRef spec1 4) := by
  funext j; blk_point [iblk1, idx1 t]

/-- The number of a token of a block. -/
theorem word_eq (t y n : ℕ) (hy : y < 512) (hn : n = t * 512 + y) :
    IntOp.addi (Scalar.muli (BitVec.ofNat 32 t) 512#32) (BitVec.ofNat 32 y) = word n := by
  rw [word, show n / 512 = t by omega, show n % 512 = y by omega]

/-- At every point the slot numbers' buffer is left the payload of the point's blocks. -/
theorem outs5 (t : Fin cfg1.N) (y : S512x1.Idx) : (outsAt1 V c t.val t.isLt).1 y = pay (grid1.coords t) (iblk1 V c 0 t) (iblk1 V c 1 t) (iblk1 V c 2 t) (iblk1 V c 3 t) y := by
  unfold pay
  by_cases h0 : t.val % 8 = 0
  · rw [outsAt1_A V c t h0 (by omega)]; frame_out
  · by_cases h1 : t.val % 8 = 7
    · rw [outsAt1_C V c t h0 h1]; frame_out
    · rw [outsAt1_B V c t h0 h1]; frame_out

/-- The slot numbers. -/
theorem val1_5 : (dat1 V c).arrAt 5 cfg1.N
    = flat (V c (Pipeline.arrRef spec1 0)) (V c (Pipeline.arrRef spec1 1)) (V c (Pipeline.arrRef spec1 2)) (V c (Pipeline.arrRef spec1 3)) := by
  refine (dat1 V c).arrAt_eq_of_covers 5 _ (by decide +kernel) fun t _ y => ?_
  blk_simp
  have hy : (y 0).val < 512 := (y 0).isLt
  have ey : y = ix2 (y 0) 0 := by
    funext a
    match a with
    | ⟨0, _⟩ => rfl
    | ⟨1, _⟩ => exact Subsingleton.elim (α := Fin 1) _ _
  rw [after1_5, outs5, iblk1_2, iblk1_3]
  refine ((congrArg _ ey).trans (pay_eq _ _ _ _ _ _)).trans ?_
  unfold flat
  congr 1
  · blk_point [iblk1, idx1 t]
  · blk_point [iblk1, idx1 t]
  · rw [(idx1 t).2.2.2.2.2.2]
    refine word_eq _ _ _ hy ?_
    blk_simp [idx1 t]

/-- The running counts add each block's. -/
theorem cnt_step (x1 : Vec Ideal S512x1 .i32) (acc : Vec Ideal S1x8 .f32) (j : S1x8.Idx) : k1_pay15 (F := Ideal) (k1_pay3 (F := Ideal) x1) acc j
    = acc j + ∑ x : Fin 512, FloatOps.sitofp (F := Ideal) .f32 (BitVec.setWidth 32 (IntOp.cmpi .eq (x1 (ix2 x 0)) (BitVec.ofNat 32 (j 1).val))) := by
  pointwise [k1_pay15, k1_pay3]

/-- They start at zero. -/
theorem cnt_zero (j : S1x8.Idx) : k1_pay13 (F := Ideal) j = 0 := by
  pointwise [k1_pay13]

/-- How many tokens each expert has. -/
def count (a : IVec S4096x1 32) : FVec Ideal S1x8 .f32 := fun j =>
  ∑ n : Fin 4096, FloatOps.sitofp (F := Ideal) .f32 (BitVec.setWidth 32 (IntOp.cmpi .eq (a (ix2 n 0)) (BitVec.ofNat 32 (j 1).val)))

/-- The counts at the last point. -/
theorem cnt_last : (outsAt1 V c t1_7.val t1_7.isLt).2.1 = count (V c (Pipeline.arrRef spec1 1)) := by
  funext j
  rw [Pipeline.eq_sum_fin_of_reset_step_apply_last (fun n h => (outsAt1 V c n h).2.1) 8 (fun _ => 0)
    (fun t j => ∑ x : Fin 512, FloatOps.sitofp (F := Ideal) .f32 (BitVec.setWidth 32 (IntOp.cmpi .eq ((show IVec S512x1 32 from iblk1 V c 1 t) (ix2 x 0)) (BitVec.ofNat 32 (j 1).val))))
    (fun t h j => by rw [outsAt1_A V c t h (by omega)]; frame_out; rw [cnt_step, cnt_zero])
    (fun t h j => by
      by_cases h1 : t.val % 8 = 7
      · rw [outsAt1_C V c t h h1]; frame_out; rw [cnt_step]
      · rw [outsAt1_B V c t h h1]; frame_out; rw [cnt_step])
    (le_of_eq N_1) t1_7 rfl j, zero_add]
  unfold count
  refine Fin.sum_mul_add_congr fun t k hl => ?_
  blk_point [iblk1, idx1 t]

/-- The load-balance loss. -/
theorem val1_7 : (dat1 V c).arrAt 7 cfg1.N = k1_pay1 (F := Ideal) (count (V c (Pipeline.arrRef spec1 1))) (V c (Pipeline.arrRef spec1 4)) := by
  refine (dat1 V c).arrAt_eq_of_after_last 7 t1_7 (by decide +kernel) _ fun j => ?_
  blk_simp
  rw [after1_7, ← cnt_last, outsAt1_C V c t1_7 (by decide) (by decide)]
  frame_out
  rw [iblk1_4]

end Cert.KernelIdeal.Run

end
-- ==== Proof.KernelVal2.lean ====
/- What the third kernel leaves in its outputs. -/
module

public import proofs.«01_k».proof.Proof.KernelRun
public import Idealize.ShloMosaic.Lib.Pipeline.ValueKit

@[expose] public section

set_option maxRecDepth 16384

noncomputable section

namespace Cert.KernelIdeal.Run

open Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The slots hit: those whose number is the token's. -/
def hit (f : IVec S4096x1 32) : IVec S4096x8x640 1 := fun j =>
  IntOp.cmpi .eq (IntOp.addi (IntOp.muli (BitVec.ofNat 32 (j 1).val) 640#32) (BitVec.ofNat 32 (j 2).val)) (f (ix2 (j 0) 0))

/-- The blocks walk down the tokens. -/
theorem idx2 : ∀ t : Fin cfg2.N, win2_0.index t = ![t.val, 0] ∧ win2_1.index t = ![t.val, 0, 0] ∧ win2_2.index t = ![t.val, 0, 0] :=
  (by decide +kernel : ∀ t : Fin grid2.N, _)

/-- The slots hit, as words. -/
theorem val2_1 : (dat2 V c).arrAt 1 cfg2.N = fun j => BitVec.setWidth 32 (hit (V c (Pipeline.arrRef spec2 0)) j) := by
  refine (dat2 V c).arrAt_eq_of_covers 1 _ (by decide +kernel) fun t _ y => ?_
  blk_simp
  rw [after2_1]
  frame_out
  pointwise [k2_pay1, k2_pay2, hit]
  blk_point [iblk2, idx2 t]

/-- The slots hit, as numbers. -/
theorem val2_2 : (dat2 V c).arrAt 2 cfg2.N = fun j => FloatOps.sitofp (F := Ideal) .f32 (BitVec.setWidth 32 (hit (V c (Pipeline.arrRef spec2 0)) j)) := by
  refine (dat2 V c).arrAt_eq_of_covers 2 _ (by decide +kernel) fun t _ y => ?_
  blk_simp
  rw [after2_2]
  frame_out
  pointwise [k2_pay1, k2_pay2, k2_pay3, hit]
  blk_point [iblk2, idx2 t]

end Cert.KernelIdeal.Run

end
-- ==== Proof.NoiseKernel.lean ====
/- The kernel program's random bits, group by group: the operations of its random function leave the noise functions' values. -/
module

public import proofs.«01_k».proof.Proof.Gen.KernelIdeal.Launch
public import proofs.«01_k».proof.Proof.NoiseFn
public import Idealize.ShloMosaic.Lib.StableHlo.RunRead

@[expose] public section

set_option maxRecDepth 16384

noncomputable section

namespace Cert.KernelIdeal.Run

open Cert.KernelIdeal.Gen
open Idealize.ShloMosaic Idealize.ShloMosaic.TcCoe
open Idealize.SL.Sem
open Cert

variable {F : FTy → Type} [FloatOps F]

/-- The random function's operations from position `a`, `n` of them. -/
abbrev cut (a n : ℕ) : List (HloOp τ sig (Elt F)) := ((hostOps0_1 (F := F)).drop a).take n

/-- The fold of two lists, one after the other. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- Group 1 of the rounds, over any contents before it. -/
theorem group1 (V : Valuation τ sig (Elt F)) :
    ((StableHlo.after (cut 29 43) V (Proc.devRef .tc main_call0_call0_v35) : IVec Cert.KernelIdeal.S4096x8 32),
     (StableHlo.after (cut 29 43) V (Proc.devRef .tc main_call0_call0_v39) : IVec Cert.KernelIdeal.S4096x8 32))
      = Noise.groupA (V (Proc.devRef .tc main_call0_v7)) (V (Proc.devRef .tc main_call0_call0_v1)) 1#32 (V (Proc.devRef .tc main_call0_call0_v3), V (Proc.devRef .tc main_call0_call0_v5)) := by
  refine Prod.ext ?_ ?_ <;> (after_reads_simp; rfl)

/-- Group 2 of the rounds, over any contents before it. -/
theorem group2 (V : Valuation τ sig (Elt F)) :
    ((StableHlo.after (cut 72 43) V (Proc.devRef .tc main_call0_call0_v69) : IVec Cert.KernelIdeal.S4096x8 32),
     (StableHlo.after (cut 72 43) V (Proc.devRef .tc main_call0_call0_v73) : IVec Cert.KernelIdeal.S4096x8 32))
      = Noise.groupB (V (Proc.devRef .tc main_call0_call0_v1)) (V (Proc.devRef .tc main_call0_v5)) 2#32 (V (Proc.devRef .tc main_call0_call0_v35), V (Proc.devRef .tc main_call0_call0_v39)) := by
  refine Prod.ext ?_ ?_ <;> (after_reads_simp; rfl)

/-- Group 3 of the rounds, over any contents before it. -/
theorem group3 (V : Valuation τ sig (Elt F)) :
    ((StableHlo.after (cut 115 43) V (Proc.devRef .tc main_call0_call0_v103) : IVec Cert.KernelIdeal.S4096x8 32),
     (StableHlo.after (cut 115 43) V (Proc.devRef .tc main_call0_call0_v107) : IVec Cert.KernelIdeal.S4096x8 32))
      = Noise.groupA (V (Proc.devRef .tc main_call0_v5)) (V (Proc.devRef .tc main_call0_v7)) 3#32 (V (Proc.devRef .tc main_call0_call0_v69), V (Proc.devRef .tc main_call0_call0_v73)) := by
  refine Prod.ext ?_ ?_ <;> (after_reads_simp; rfl)

/-- Group 4 of the rounds, over any contents before it. -/
theorem group4 (V : Valuation τ sig (Elt F)) :
    ((StableHlo.after (cut 158 43) V (Proc.devRef .tc main_call0_call0_v137) : IVec Cert.KernelIdeal.S4096x8 32),
     (StableHlo.after (cut 158 43) V (Proc.devRef .tc main_call0_call0_v141) : IVec Cert.KernelIdeal.S4096x8 32))
      = Noise.groupB (V (Proc.devRef .tc main_call0_v7)) (V (Proc.devRef .tc main_call0_call0_v1)) 4#32 (V (Proc.devRef .tc main_call0_call0_v103), V (Proc.devRef .tc main_call0_call0_v107)) := by
  refine Prod.ext ?_ ?_ <;> (after_reads_simp; rfl)

/-- Group 5 of the rounds, over any contents before it. -/
theorem group5 (V : Valuation τ sig (Elt F)) :
    ((StableHlo.after (cut 201 43) V (Proc.devRef .tc main_call0_v19_0) : IVec Cert.KernelIdeal.S4096x8 32),
     (StableHlo.after (cut 201 43) V (Proc.devRef .tc main_call0_v19_1) : IVec Cert.KernelIdeal.S4096x8 32))
      = Noise.groupA (V (Proc.devRef .tc main_call0_call0_v1)) (V (Proc.devRef .tc main_call0_v5)) 5#32 (V (Proc.devRef .tc main_call0_call0_v137), V (Proc.devRef .tc main_call0_call0_v141)) := by
  refine Prod.ext ?_ ?_ <;> (after_reads_simp; rfl)

/-- The number read off the last group's words. -/
theorem tail_read (V : Valuation τ sig (Elt F)) :
    (StableHlo.after (cut 244 18) V (Proc.devRef .tc main_v8) : FVec F Cert.KernelIdeal.S4096x8 .f32)
      = Noise.uniform (V (Proc.devRef .tc main_call0_v2)) (V (Proc.devRef .tc main_call0_v3)) (V (Proc.devRef .tc main_call0_v19_0), V (Proc.devRef .tc main_call0_v19_1)) := by
  after_reads_simp
  rfl

/-- The random function's operations are its start, its five groups and its end. -/
theorem cut_all : hostOps0_1 (F := F) = cut 0 29 ++ (cut 29 43 ++ (cut 72 43 ++ (cut 115 43 ++ (cut 158 43 ++ (cut 201 43 ++ cut 244 18))))) := rfl

set_option maxHeartbeats 1600000 in
/-- The random function leaves the uniform numbers of its key's words. -/
theorem noise_read (V : Valuation τ sig (Elt F)) :
    (StableHlo.after (hostOps0_1 (F := F)) V (Proc.devRef .tc main_v8) : FVec F Cert.KernelIdeal.S4096x8 .f32)
      = Noise.uniform (Noise.one (V (Proc.devRef .tc main_cst))) (Noise.one (V (Proc.devRef .tc main_cst_2)))
          (Noise.words (Noise.keyA (V (Proc.devRef .tc main_v7))) (Noise.keyB (V (Proc.devRef .tc main_v7)))) := by
  rw [cut_all]
  simp only [after_append]
  rw [tail_read, group5, group4, group3, group2, group1]
  after_reads_simp
  rfl

end Cert.KernelIdeal.Run

end
-- ==== Proof.KernelRead.lean ====
/- What the kernel's results hold, as functions of its arguments. -/
module

public import proofs.«01_k».proof.Proof.KernelVal0
public import proofs.«01_k».proof.Proof.KernelVal1
public import proofs.«01_k».proof.Proof.KernelVal2
public import proofs.«01_k».proof.Proof.NoiseKernel
public import proofs.«01_k».proof.Proof.RefFn

@[expose] public section

set_option maxRecDepth 16384

noncomputable section

namespace Cert.KernelIdeal.Run

open Cert.KernelIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg) (c : Dev nD)

/-- The tokens. -/
def argX : FVec Ideal S4096x768x1x1 .f32 := m ((c : Thread nD τ).loc main_arg0)

/-- The gate's weights. -/
def argW : FVec Ideal S768x8 .f32 := m ((c : Thread nD τ).loc main_arg1)

/-- The uniform numbers the noise is drawn from. -/
def unif : FVec Ideal S4096x8 .f32 := Noise.uniform (Noise.one (constant S_ .f32 0x00000000#32)) (Noise.one (constant S_ .f32 0x3F800000#32))
  (Noise.words (Noise.keyA Rf.key) (Noise.keyB Rf.key))

/-- The noise. -/
def noise : FVec Ideal S4096x8 .f32 := mulf unif (broadcastInDim S4096x8 ![] bcast_S_S4096x8 (constant S_ .f32 0x3CA3D70A#32))

/-- The first kernel is entered with the pooled tokens, -/
theorem in0_0 : V3 m ρ c (Pipeline.arrRef spec0 0) = shapeCast S4096x768 (argX m c) shapeCasts_S4096x768x1x1_S4096x768 := by
  refine (W3_of m ρ c main_v0 (by decide)).trans ((W2_of m ρ c main_v0 (by decide)).trans ?_)
  after_reads_simp
  rfl

/-- the weights, -/
theorem in0_1 : V3 m ρ c (Pipeline.arrRef spec0 1) = argW m c := W3_args m ρ c main_arg1 (by decide)

/-- and the noise. -/
theorem in0_2 : V3 m ρ c (Pipeline.arrRef spec0 2) = noise := by
  have h : ∀ V : Valuation τ sig (Elt Ideal), (StableHlo.after (hostOps0_2 (F := Ideal)) V (Proc.devRef .tc main_v10) : FVec Ideal S4096x8 .f32)
      = mulf (F := Ideal) (V (Proc.devRef .tc main_v8) : FVec Ideal S4096x8 .f32) (broadcastInDim S4096x8 ![] bcast_S_S4096x8 (constant S_ .f32 0x3CA3D70A#32)) := fun V => by
    after_reads_simp
  refine (h (W2 m ρ c)).trans ?_
  unfold noise unif
  rw [show W2 m ρ c (Proc.devRef .tc main_v8) = _ from noise_read (W1 m ρ c)]
  have h1 : (W1 m ρ c (Proc.devRef .tc main_cst) : FVec Ideal S_ .f32) = constant (F := Ideal) S_ .f32 0x00000000#32 := by
    after_reads_simp
  have h2 : (W1 m ρ c (Proc.devRef .tc main_cst_2) : FVec Ideal S_ .f32) = constant (F := Ideal) S_ .f32 0x3F800000#32 := by
    after_reads_simp
  have h3 : (W1 m ρ c (Proc.devRef .tc main_v7) : IVec S2 32) = Rf.key := by
    after_reads_simp
    rfl
  rw [h1, h2, h3]

/-- The clipped logits. -/
def kLt : FVec Ideal S4096x8 .f32 := k0_pay7 (F := Ideal) (shapeCast S4096x768 (argX m c) shapeCasts_S4096x768x1x1_S4096x768) (argW m c)

/-- Each token's largest probability. -/
def kTop : FVec Ideal S4096x1 .f32 := k0_pay5 (F := Ideal) (kLt m c) noise

/-- Each token's expert. -/
def kExpert : IVec S4096x1 32 := k0_pay6 (F := Ideal) (kLt m c) noise

/-- Each token's slot number. -/
def kFlat : IVec S4096x1 32 := flat (kTop m c) (kExpert m c) (shapeCast S1x4096 (kTop m c) shapeCasts_S4096x1_S1x4096)
  (shapeCast S1x4096 (kExpert m c) shapeCasts_S4096x1_S1x4096)

/-- The noisy logits, after the first kernel. -/
theorem out0_lg : W4 m ρ c (Proc.devRef .tc main_v11_0) = k0_pay2 (F := Ideal) (kLt m c) noise := by
  refine (W4_arr m ρ c 3).trans ((val0_3 (V3 m ρ) c).trans ?_)
  rw [LT, in0_0, in0_1, in0_2]; rfl

/-- The largest probabilities. -/
theorem out0_top : W4 m ρ c (Proc.devRef .tc main_v11_1) = kTop m c := by
  refine (W4_arr m ρ c 4).trans ((val0_4 (V3 m ρ) c).trans ?_)
  rw [LT, in0_0, in0_1, in0_2]; rfl

/-- The experts. -/
theorem out0_expert : W4 m ρ c (Proc.devRef .tc main_v11_2) = kExpert m c := by
  refine (W4_arr m ρ c 5).trans ((val0_5 (V3 m ρ) c).trans ?_)
  rw [LT, in0_0, in0_1, in0_2]; rfl

/-- The mean probabilities. -/
theorem out0_mean : W4 m ρ c (Proc.devRef .tc main_v11_3) = k0_pay4 (F := Ideal) (kLt m c) noise := by
  refine (W4_arr m ρ c 6).trans ((val0_6 (V3 m ρ) c).trans ?_)
  rw [LT, in0_0, in0_1, in0_2]; rfl

/-- The mean square of the log-sum-exp. -/
theorem out0_z : W4 m ρ c (Proc.devRef .tc main_v11_4)
    = k0_pay1 (F := Ideal) (k0_pay9 (F := Ideal) (shapeCast S4096x768 (argX m c) shapeCasts_S4096x768x1x1_S4096x768) (argW m c)) := by
  refine (W4_arr m ρ c 7).trans ((val0_7 (V3 m ρ) c).trans ?_)
  rw [in0_0, in0_1]

/-- The deviation. -/
theorem out0_std : W4 m ρ c (Proc.devRef .tc main_v11_5)
    = k0_pay8 (F := Ideal) (shapeCast S4096x768 (argX m c) shapeCasts_S4096x768x1x1_S4096x768) (argW m c) := by
  refine (W4_arr m ρ c 8).trans ((val0_8 (V3 m ρ) c).trans ?_)
  rw [in0_0, in0_1]

/-- The second kernel is entered with the largest probabilities and the experts, as columns -/
theorem in1_0 : V5 m ρ c (Pipeline.arrRef spec1 0) = kTop m c := (W5_of m ρ c main_v11_1 (by decide)).trans (out0_top m ρ c)

/-- (the experts), -/
theorem in1_1 : V5 m ρ c (Pipeline.arrRef spec1 1) = kExpert m c := (W5_of m ρ c main_v11_2 (by decide)).trans (out0_expert m ρ c)

/-- and as rows -/
theorem in1_2 : V5 m ρ c (Pipeline.arrRef spec1 2) = shapeCast S1x4096 (kTop m c) shapeCasts_S4096x1_S1x4096 := by
  rw [← out0_top m ρ c]
  show StableHlo.after hostOps1 (W4 m ρ c) (Proc.devRef .tc main_v12) = _
  after_reads_simp
  rfl

/-- (the experts), -/
theorem in1_3 : V5 m ρ c (Pipeline.arrRef spec1 3) = shapeCast S1x4096 (kExpert m c) shapeCasts_S4096x1_S1x4096 := by
  rw [← out0_expert m ρ c]
  show StableHlo.after hostOps1 (W4 m ρ c) (Proc.devRef .tc main_v13) = _
  after_reads_simp
  rfl

/-- and the mean probabilities. -/
theorem in1_4 : V5 m ρ c (Pipeline.arrRef spec1 4) = k0_pay4 (F := Ideal) (kLt m c) noise :=
  (W5_of m ρ c main_v11_3 (by decide)).trans (out0_mean m ρ c)

/-- The slot numbers, after the second kernel. -/
theorem out1_flat : W6 m ρ c (Proc.devRef .tc main_v14_0) = kFlat m c := by
  refine (W6_arr m ρ c 5).trans ((val1_5 (V5 m ρ) c).trans ?_)
  rw [in1_0, in1_1, in1_2, in1_3]; rfl

/-- The load-balance loss. -/
theorem out1_aux : W6 m ρ c (Proc.devRef .tc main_v14_2) = k1_pay1 (F := Ideal) (count (kExpert m c)) (k0_pay4 (F := Ideal) (kLt m c) noise) := by
  refine (W6_arr m ρ c 7).trans ((val1_7 (V5 m ρ) c).trans ?_)
  rw [in1_1, in1_4]

/-- A buffer of the first kernel the later ones leave alone. -/
theorem keep (r : Ref sig .tc) (h2 : ∀ w, Pipeline.arrRef spec2 w ≠ r) (h1 : ∀ w, Pipeline.arrRef spec1 w ≠ r) (h : r ∉ hostOps1_W) :
    W7 m ρ c (Proc.devRef .tc r) = W4 m ρ c (Proc.devRef .tc r) :=
  (W7_of_ne m ρ c r h2).trans ((W6_of_ne m ρ c r h1).trans (W5_of m ρ c r h))

/-- RESULT 1: the slots taken. -/
theorem res_dispatch : (W8 m ρ c (Proc.devRef .tc main_v18) : IVec S4096x8x640 1)
    = fun j => IntOp.cmpi .ne (BitVec.setWidth 32 (hit (kFlat m c) j)) 0#32 := by
  have h : ∀ V : Valuation τ sig (Elt Ideal), (StableHlo.after (hostOps3 (F := Ideal)) V (Proc.devRef .tc main_v18) : IVec S4096x8x640 1)
      = cmpi .ne (V (Proc.devRef .tc main_v15_0) : IVec S4096x8x640 32) (broadcastInDim S4096x8x640 ![] bcast_S_S4096x8x640 (constantI S_ 32 0#32)) := fun V => by
    after_reads_simp
    rfl
  refine (h (W7 m ρ c)).trans ?_
  rw [show W7 m ρ c (Proc.devRef .tc main_v15_0) = _ from (W7_arr m ρ c 1).trans (val2_1 (V6 m ρ) c),
    show V6 m ρ c (Pipeline.arrRef spec2 0) = _ from out1_flat m ρ c]
  rfl

/-- RESULT 2: the weights. -/
theorem res_combine : (W8 m ρ c (Proc.devRef .tc main_v15_1) : FVec Ideal S4096x8x640 .f32)
    = fun j => FloatOps.sitofp (F := Ideal) .f32 (BitVec.setWidth 32 (hit (kFlat m c) j)) := by
  refine (StableHlo.after_of_writes_sub hostOps3 _ hostOps3_writes (by decide)).trans ((W7_arr m ρ c 2).trans ((val2_2 (V6 m ρ) c).trans ?_))
  rw [show V6 m ρ c (Pipeline.arrRef spec2 0) = _ from out1_flat m ρ c]

/-- RESULT 3: the mean square of the log-sum-exp. -/
theorem res_z : (W8 m ρ c (Proc.devRef .tc main_v19) : FVec Ideal S_ .f32)
    = shapeCast S_ (k0_pay1 (F := Ideal) (k0_pay9 (F := Ideal) (shapeCast S4096x768 (argX m c) shapeCasts_S4096x768x1x1_S4096x768) (argW m c))) shapeCasts_S1x1_S_ := by
  rw [← out0_z m ρ c, ← keep m ρ c main_v11_4 (by decide) (by decide) (by decide)]
  show StableHlo.after hostOps3 (W7 m ρ c) (Proc.devRef .tc main_v19) = _
  after_reads_simp
  rfl

/-- RESULT 4: the load-balance loss. -/
theorem res_aux : (W8 m ρ c (Proc.devRef .tc main_v20) : FVec Ideal S_ .f32)
    = shapeCast S_ (k1_pay1 (F := Ideal) (count (kExpert m c)) (k0_pay4 (F := Ideal) (kLt m c) noise)) shapeCasts_S1x1_S_ := by
  rw [← out1_aux m ρ c, ← W7_of_ne m ρ c main_v14_2 (by decide)]
  show StableHlo.after hostOps3 (W7 m ρ c) (Proc.devRef .tc main_v20) = _
  after_reads_simp
  rfl

/-- RESULT 5: the deviation. -/
theorem res_std : (W8 m ρ c (Proc.devRef .tc main_v21) : FVec Ideal S_ .f32)
    = shapeCast S_ (k0_pay8 (F := Ideal) (shapeCast S4096x768 (argX m c) shapeCasts_S4096x768x1x1_S4096x768) (argW m c)) shapeCasts_S1x1_S_ := by
  rw [← out0_std m ρ c, ← keep m ρ c main_v11_5 (by decide) (by decide) (by decide)]
  show StableHlo.after hostOps3 (W7 m ρ c) (Proc.devRef .tc main_v21) = _
  after_reads_simp
  rfl

/-- RESULT 6: the noisy logits. -/
theorem res_lg : (W8 m ρ c (Proc.devRef .tc main_v11_0) : FVec Ideal S4096x8 .f32) = k0_pay2 (F := Ideal) (kLt m c) noise := by
  refine (StableHlo.after_of_writes_sub hostOps3 _ hostOps3_writes (by decide)).trans ((keep m ρ c main_v11_0 (by decide) (by decide) (by decide)).trans ?_)
  exact out0_lg m ρ c

end Cert.KernelIdeal.Run

end
-- ==== Proof.Scalars.lean ====
/- Facts about single extended reals: the constants both programs name, quotients, maxima and sums of real numbers. -/
module

public import proofs.«01_k».proof.Proof.RefFn
public import Idealize.ShloMosaic.Lib.Pipeline.ValueKit
public import Idealize.ShloMosaic.Lib.IdealHost

@[expose] public section

set_option maxRecDepth 16384

noncomputable section

namespace Cert.Num

open Idealize.ShloMosaic

/-- A pattern whose exponent is not the largest is a real number. -/
theorem ofBits_real (b : BitVec 32) (h : (b.extractLsb' 23 8).toNat ≠ 255) : ∃ r : ℝ, Ideal.ofBits .f32 b = (r : EReal) := by
  unfold Ideal.ofBits Ideal.ieee
  dsimp only
  rw [if_neg (by simpa using h)]
  split
  · exact ⟨_, rfl⟩
  · exact ⟨_, rfl⟩

/-- Minus infinity, -/
theorem c_bot : Ideal.ofBits .f32 0xFF800000#32 = ⊥ := by
  simp [Ideal.ofBits, Ideal.ieee]

/-- 32768, -/
theorem c_32768 : Ideal.ofBits .f32 0x47000000#32 = ((32768 : ℝ) : EReal) := by
  simp [Ideal.ofBits, Ideal.ieee, -EReal.coe_mul]; norm_num

/-- 4096, -/
theorem c_4096 : Ideal.ofBits .f32 0x45800000#32 = ((4096 : ℝ) : EReal) := by
  simp [Ideal.ofBits, Ideal.ieee, -EReal.coe_mul]; norm_num

/-- 8, -/
theorem c_8 : Ideal.ofBits .f32 0x41000000#32 = ((8 : ℝ) : EReal) := by
  simp [Ideal.ofBits, Ideal.ieee, -EReal.coe_mul]; norm_num

/-- 640, -/
theorem c_640 : Ideal.ofBits .f32 0x44200000#32 = ((640 : ℝ) : EReal) := by
  simp [Ideal.ofBits, Ideal.ieee, -EReal.coe_mul]; norm_num

/-- 1/512, -/
theorem c_512 : Ideal.ofBits .f32 0x3B000000#32 = ((1 / 512 : ℝ) : EReal) := by
  simp [Ideal.ofBits, Ideal.ieee, -EReal.coe_mul]; norm_num

/-- 10, -/
theorem c_10 : Ideal.ofBits .f32 0x41200000#32 = ((10 : ℝ) : EReal) := by
  simp [Ideal.ofBits, Ideal.ieee, -EReal.coe_mul]; norm_num

/-- -10, -/
theorem c_neg10 : Ideal.ofBits .f32 0xC1200000#32 = ((-10 : ℝ) : EReal) := by
  simp [Ideal.ofBits, Ideal.ieee, -EReal.coe_mul, -EReal.coe_neg]; norm_num

/-- and a number that is at most an eighth. -/
theorem c_tiny : Ideal.ofBits .f32 0x358637BD#32 ≤ ((1 / 8 : ℝ) : EReal) := by
  have h : Ideal.ofBits .f32 0x358637BD#32 = ((8796093 * (2 : ℝ) ^ (-43 : ℤ) : ℝ) : EReal) := by
    simp [Ideal.ofBits, Ideal.ieee, -EReal.coe_mul]
  rw [h, EReal.coe_le_coe_iff]
  norm_num

/-- That number is positive. -/
theorem c_tiny_pos : 0 < Ideal.ofBits .f32 0x358637BD#32 := by
  have h : Ideal.ofBits .f32 0x358637BD#32 = ((8796093 * (2 : ℝ) ^ (-43 : ℤ) : ℝ) : EReal) := by
    simp [Ideal.ofBits, Ideal.ieee, -EReal.coe_mul]
  rw [h]
  exact EReal.coe_pos.mpr (by positivity)

/-- The larger of two reals. -/
theorem max_real (x y : ℝ) : max (x : EReal) (y : EReal) = ((max x y : ℝ) : EReal) := (EReal.coe_strictMono.monotone.map_max).symm

/-- The smaller of two reals. -/
theorem min_real (x y : ℝ) : min (x : EReal) (y : EReal) = ((min x y : ℝ) : EReal) := (EReal.coe_strictMono.monotone.map_min).symm

/-- A number over one. -/
theorem div_one (x : EReal) : Ideal.div x 1 = x := by
  rw [show (1 : EReal) = ((1 : ℝ) : EReal) from rfl, Ideal.div_coe one_ne_zero]
  simp

/-- A real quotient. -/
theorem div_real (x y : ℝ) (h : y ≠ 0) : Ideal.div (x : EReal) (y : EReal) = ((x / y : ℝ) : EReal) := by
  rw [Ideal.div_coe h, ← EReal.coe_mul, mul_one_div]

/-- A number over itself. -/
theorem div_self (x : ℝ) (h : x ≠ 0) : Ideal.div (x : EReal) (x : EReal) = 1 := by
  rw [div_real _ _ h, _root_.div_self h]; rfl

/-- Zero over a number. -/
theorem zero_div (x : ℝ) (h : x ≠ 0) : Ideal.div 0 (x : EReal) = 0 := by
  rw [show (0 : EReal) = ((0 : ℝ) : EReal) from rfl, div_real _ _ h, _root_.zero_div]

/-- A number between two reals is real. -/
theorem real_of_between {x : EReal} {a b : ℝ} (ha : (a : EReal) ≤ x) (hb : x ≤ b) : ∃ r : ℝ, x = r := by
  induction x with
  | bot => exact absurd ha (by simp)
  | top => exact absurd hb (by simp)
  | coe r => exact ⟨r, rfl⟩

/-- A sum of reals. -/
theorem sum_real {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A maximum from minus infinity is the supremum. -/
theorem fold_max {ι : Type*} (s : Finset ι) (f : ι → EReal) : Finset.fold max ⊥ f s = s.sup f := rfl

/-- The larger of minus infinity and a number. -/
theorem bot_max (x : EReal) : max ⊥ x = x := max_eq_right bot_le

/-- The largest of eight reals is real. -/
theorem sup_real (f : Fin 8 → ℝ) : ∃ r : ℝ, (Finset.univ.sup fun e => (f e : EReal)) = r := by
  obtain ⟨e, -, he⟩ := Finset.exists_mem_eq_sup Finset.univ Finset.univ_nonempty fun e => (f e : EReal)
  exact ⟨f e, he⟩

end Cert.Num

end
-- ==== Proof.MathLogits.lean ====
/- The clipped logits, their deviation, the log-sum-exp's mean square, the noisy logits and the probabilities: the kernel's are the reference's. -/
module

public import proofs.«01_k».proof.Proof.KernelRead
public import proofs.«01_k».proof.Proof.Scalars

@[expose] public section

set_option maxRecDepth 16384

noncomputable section

namespace Cert.KernelIdeal.Run

open Cert.KernelIdeal.Gen
open Idealize.ShloMosaic Idealize.ShloMosaic.TcCoe Idealize.ShloMosaic.Tactic Idealize.SL.Sem

/-- The clipped logits: the mean over a token's single pixel is the pixel. -/
theorem lt_eq (X : FVec Ideal S4096x768x1x1 .f32) (W : FVec Ideal S768x8 .f32) :
    k0_pay7 (F := Ideal) (shapeCast S4096x768 X shapeCasts_S4096x768x1x1_S4096x768) W = Rf.lt X W := by
  funext j
  obtain ⟨i, e, rfl⟩ : ∃ (i : Fin 4096) (e : Fin 8), j = ix2 i e := ⟨j 0, j 1, eq_ix2 j⟩
  unfold k0_pay7 Rf.lt Rf.all
  pointwise
  simp only [Num.div_one, Fin.sum_univ_one, Fin.isValue, Finset.univ_unique, Finset.sum_singleton, Fin.default_eq_zero]

/-- The deviation. -/
theorem std_eq (v : FVec Ideal S4096x768 .f32) (W : FVec Ideal S768x8 .f32) :
    shapeCast S_ (k0_pay8 (F := Ideal) v W) shapeCasts_S1x1_S_ = Rf.std (k0_pay7 v W) := by
  funext j
  obtain rfl : j = ix0 := Subsingleton.elim _ _
  unfold k0_pay8 Rf.std Rf.mean Rf.dof
  pointwise
  have h : Ideal.ofBits .f32 1191182336#32 - (FloatOps.sitofp (F := Ideal) .f32 0#32 : EReal) = Ideal.ofBits .f32 1191182336#32 := by
    show _ - (((0#32 : BitVec 32).toInt : ℝ) : EReal) = _
    simp
  rw [h, if_pos (by rw [Num.c_32768]; exact EReal.coe_pos.mpr (by norm_num))]

/-- The mean square of the log-sum-exp. -/
theorem z_eq (v : FVec Ideal S4096x768 .f32) (W : FVec Ideal S768x8 .f32) :
    shapeCast S_ (k0_pay1 (k0_pay9 (F := Ideal) v W)) shapeCasts_S1x1_S_ = Rf.zloss (k0_pay7 v W) := by
  funext j
  obtain rfl : j = ix0 := Subsingleton.elim _ _
  unfold k0_pay1 k0_pay9 Rf.zloss Rf.lse Rf.rowSum Rf.top Rf.rows
  pointwise
  refine congrArg (Ideal.div · _) (Finset.sum_congr rfl fun n _ => ?_)
  simp only [Finset.univ_unique, Finset.sum_singleton]
  rw [add_comm]

/-- The noisy logits, with any numbers the noise is drawn from. -/
theorem lg_eq_of (t u : FVec Ideal S4096x8 .f32) :
    k0_pay2 (F := Ideal) t (mulf u (broadcastInDim S4096x8 ![] bcast_S_S4096x8 (constant S_ .f32 0x3CA3D70A#32))) = Rf.noisy t u := by
  funext j
  obtain ⟨i, e, rfl⟩ : ∃ (i : Fin 4096) (e : Fin 8), j = ix2 i e := ⟨j 0, j 1, eq_ix2 j⟩
  unfold k0_pay2 Rf.noisy Rf.all
  pointwise

/-- The noisy logits. -/
theorem lg_eq (t : FVec Ideal S4096x8 .f32) : k0_pay2 (F := Ideal) t noise = Rf.noisy t unif := by
  rw [noise, lg_eq_of]

/-- The probabilities. -/
theorem probs_eq (t u : FVec Ideal S4096x8 .f32) : k0_pay3 (F := Ideal) t u = Rf.probs (k0_pay2 (F := Ideal) t u) := by
  funext j
  obtain ⟨i, e, rfl⟩ : ∃ (i : Fin 4096) (e : Fin 8), j = ix2 i e := ⟨j 0, j 1, eq_ix2 j⟩
  unfold k0_pay3 Rf.probs Rf.expo Rf.rowSum Rf.rows Rf.top
  pointwise
  simp only [Num.c_bot, Num.bot_max]

end Cert.KernelIdeal.Run

end
-- ==== Proof.MathReal.lean ====
/- The logits and the probabilities are real numbers; each token's probabilities are positive and sum to one. -/
module

public import proofs.«01_k».proof.Proof.MathLogits

@[expose] public section

set_option maxRecDepth 16384

noncomputable section

namespace Cert.Rf

open Cert.ReferenceIdeal Cert.ReferenceIdeal.Gen
open Idealize.ShloMosaic Idealize.ShloMosaic.Tactic

/-- The clipped logits are real: they lie between -10 and 10. -/
theorem lt_real (X : FVec Ideal S4096x768x1x1 .f32) (W : FVec Ideal S768x8 .f32) (n : Fin 4096) (e : Fin 8) :
    ∃ r : ℝ, lt X W (ix2 n e) = (r : EReal) := by
  unfold lt all
  pointwise
  rw [Num.c_10, Num.c_neg10]
  exact Num.real_of_between (le_min (EReal.coe_le_coe_iff.mpr (by norm_num)) (le_max_left _ _)) (min_le_left _ _)

/-- The top nine bits of a word shifted right by nine and joined with the exponent of one are that exponent's. -/
theorem exponent_bits (w : BitVec 32) : (IntOp.ori (IntOp.shrui ArithUnit.host w 9#32) 1065353216#32).extractLsb' 23 8 = 127#8 := by
  have h : IntOp.shrui ArithUnit.host w 9#32 = w >>> 9 := rfl
  rw [h]
  show (w >>> 9 ||| 1065353216#32).extractLsb' 23 8 = 127#8
  have h2 : (w >>> 9).extractLsb' 23 8 = 0#8 := by
    refine BitVec.eq_of_toNat_eq ?_
    simp only [BitVec.extractLsb'_toNat, BitVec.toNat_ushiftRight, Nat.shiftRight_eq_div_pow]
    have := w.isLt
    simp
    omega
  have h3 : (1065353216#32 : BitVec 32).extractLsb' 23 8 = 127#8 := by decide
  have h4 : ∀ a b : BitVec 32, (a ||| b).extractLsb' 23 8 = a.extractLsb' 23 8 ||| b.extractLsb' 23 8 := fun a b => by
    ext i hi
    simp
  rw [h4, h2, h3]
  decide

/-- The numbers the noise is drawn from are real. -/
theorem uniform_real (w : IVec S4096x8 32 × IVec S4096x8 32) (n : Fin 4096) (e : Fin 8) :
    ∃ r : ℝ, (Noise.uniform (F := Ideal) (Noise.one (constant S_ .f32 0x00000000#32)) (Noise.one (constant S_ .f32 0x3F800000#32)) w) (ix2 n e) = (r : EReal) := by
  unfold Noise.uniform Noise.one Noise.spread
  pointwise
  obtain ⟨b, hb⟩ := Num.ofBits_real (IntOp.ori (IntOp.shrui ArithUnit.host (IntOp.xori (w.1 (ix2 n e)) (w.2 (ix2 n e))) 9#32) 1065353216#32) (by
    rw [exponent_bits]; decide)
  rw [hb]
  refine ⟨max 0 (b - 1), ?_⟩
  rw [← Num.max_real, EReal.coe_sub]
  rfl

/-- The noisy logits are real. -/
theorem noisy_real (t u : FVec Ideal S4096x8 .f32) (ht : ∀ n e, ∃ r : ℝ, t (ix2 n e) = (r : EReal)) (hu : ∀ n e, ∃ r : ℝ, u (ix2 n e) = (r : EReal))
    (n : Fin 4096) (e : Fin 8) : ∃ r : ℝ, noisy t u (ix2 n e) = (r : EReal) := by
  obtain ⟨a, ha⟩ := ht n e
  obtain ⟨b, hb⟩ := hu n e
  obtain ⟨c, hc⟩ := Num.ofBits_real 0x3CA3D70A#32 (by decide)
  unfold noisy all
  pointwise
  rw [ha, hb, hc, ← EReal.coe_mul, ← EReal.coe_add]
  exact ⟨_, rfl⟩

/-- The probabilities are real and positive, and each token's sum to one. -/
theorem probs_real (g : FVec Ideal S4096x8 .f32) (hg : ∀ n e, ∃ r : ℝ, g (ix2 n e) = (r : EReal)) :
    ∃ P : Fin 4096 → Fin 8 → ℝ, (∀ n e, probs g (ix2 n e) = (P n e : EReal)) ∧ (∀ n e, 0 < P n e) ∧ ∀ n, ∑ e, P n e = 1 := by
  choose G hG using hg
  have hM : ∀ n, ∃ r : ℝ, (Finset.univ.sup fun e => g (ix2 n e)) = (r : EReal) := fun n => by
    simp only [hG]; exact Num.sup_real (G n)
  choose M hM using hM
  have hS : ∀ n, 0 < ∑ e, Real.exp (G n e - M n) := fun n => Finset.sum_pos (fun e _ => Real.exp_pos _) Finset.univ_nonempty
  refine ⟨fun n e => Real.exp (G n e - M n) / ∑ x, Real.exp (G n x - M n), fun n e => ?_, fun n e => div_pos (Real.exp_pos _) (hS n), fun n => ?_⟩
  · unfold probs expo rowSum rows top
    pointwise
    simp only [Num.c_bot, Num.bot_max, Num.fold_max, hM]
    simp only [hG, ← EReal.coe_sub, Ideal.exp_coe]
    rw [Num.sum_real, Num.div_real _ _ (hS n).ne']
  · rw [← Finset.sum_div, div_self (hS n).ne']

end Cert.Rf

end
-- ==== Proof.Order.lean ====
/- A stable argsort by falling key, and each element's place in it, as counts. -/
module

public import Idealize.ShloMosaic.Lib.SortPrefix
public import Idealize.ShloMosaic.Lib.Pipeline.ValueKit

@[expose] public section

namespace Cert.Ord

open Idealize.ShloMosaic

variable {n : Nat} {α : Type} [LinearOrder α]

/-- `k` goes before `k'`: its key is larger, or the keys are equal and `k` is the earlier. -/
def Ahead (q : Fin n → α) (k k' : Fin n) : Prop := q k' < q k ∨ (q k = q k' ∧ k < k')

instance (q : Fin n → α) (k k' : Fin n) : Decidable (Ahead q k k') := by unfold Ahead; infer_instance

/-- Nothing goes before itself. -/
theorem Ahead.irrefl (q : Fin n → α) (k : Fin n) : ¬ Ahead q k k := fun h => by
  rcases h with h | ⟨_, h⟩ <;> exact lt_irrefl _ h

/-- Going before is transitive. -/
theorem Ahead.trans {q : Fin n → α} {a b c : Fin n} (h : Ahead q a b) (h' : Ahead q b c) : Ahead q a c := by
  rcases h with h | ⟨e, h⟩ <;> rcases h' with h' | ⟨e', h'⟩
  · exact .inl (h'.trans h)
  · exact .inl (e' ▸ h)
  · exact .inl (e ▸ h')
  · exact .inr ⟨e.trans e', h.trans h'⟩

/-- Of two different elements one goes before the other. -/
theorem Ahead.total (q : Fin n → α) {a b : Fin n} (h : a ≠ b) : Ahead q a b ∨ Ahead q b a := by
  rcases lt_trichotomy (q a) (q b) with hq | hq | hq
  · exact .inr (.inl hq)
  · rcases lt_or_gt_of_ne h with h | h
    · exact .inl (.inr ⟨hq, h⟩)
    · exact .inr (.inr ⟨hq.symm, h⟩)
  · exact .inl (.inl hq)

/-- Not going before is transitive. -/
theorem Ahead.not_trans {q : Fin n → α} {a b c : Fin n} (h : ¬ Ahead q a b) (h' : ¬ Ahead q b c) : ¬ Ahead q a c := fun hac => by
  by_cases e : a = b
  · exact h' (e ▸ hac)
  · exact h' (((Ahead.total q e).resolve_left h).trans hac)

/-- Inserting an element before a list of later ones compares keys only. -/
theorem insertBefore_key (q : Fin n → α) (a : Fin n) : ∀ l : List (Fin n), (∀ b ∈ l, a < b) →
    insertBefore (fun k k' => decide (q k' < q k)) a l = insertBefore (fun k k' => decide (Ahead q k k')) a l
  | [], _ => rfl
  | b :: l, h => by
    have hb : a < b := h b (List.mem_cons_self ..)
    have e : decide (q a < q b) = decide (Ahead q b a) := by
      refine decide_eq_decide.2 ⟨.inl, fun h => ?_⟩
      rcases h with h | ⟨_, h⟩
      · exact h
      · exact absurd h (lt_asymm hb)
    show (if decide (q a < q b) = true then _ else _) = (if decide (Ahead q b a) = true then _ else _)
    rw [e, insertBefore_key q a l fun c hc => h c (List.mem_cons_of_mem _ hc)]

/-- The stable sort of positions in rising order by key is their sort by key, then by position. -/
theorem stableSort_key (q : Fin n → α) : ∀ l : List (Fin n), l.Pairwise (· < ·) →
    stableSort (fun k k' => decide (q k' < q k)) l = stableSort (fun k k' => decide (Ahead q k k')) l
  | [], _ => rfl
  | a :: l, h => by
    rw [List.pairwise_cons] at h
    show insertBefore _ a (stableSort _ l) = insertBefore _ a (stableSort _ l)
    rw [← stableSort_key q l h.2]
    exact insertBefore_key q a _ fun b hb => h.1 b ((perm_stableSort _ l).mem_iff.1 hb)

/-- The stable argsort by falling key. -/
def place (q : Fin n → α) : Fin n → Fin n := sortedFrom fun k k' => decide (q k' < q k)

/-- It is the argsort by key, then by position. -/
theorem place_eq (q : Fin n → α) : place q = sortedFrom fun k k' => decide (Ahead q k k') := by
  have hl : sortPositions n (fun k k' => decide (q k' < q k)) = sortPositions n fun k k' => decide (Ahead q k k') :=
    stableSort_key q (List.finRange n) (List.pairwise_lt_finRange n)
  have hg : ∀ (L L' : List (Fin n)) (h : n = L.length) (h' : n = L'.length) (j : Fin n), L = L' → L.get (Fin.cast h j) = L'.get (Fin.cast h' j) := by
    rintro L _ h h' j rfl; rfl
  funext j
  exact hg _ _ _ _ j hl

/-- It is one to one. -/
theorem place_injective (q : Fin n → α) : Function.Injective (place q) := sortedFrom_injective _

/-- An earlier slot holds the element that goes before. -/
theorem ahead_of_lt (q : Fin n → α) {i j : Fin n} (h : i < j) : Ahead q (place q i) (place q j) := by
  have hne : place q i ≠ place q j := fun e => (ne_of_lt h) (place_injective q e)
  refine (Ahead.total q hne).resolve_right fun hb => ?_
  have := sortedFrom_noInversion (fun k k' => decide (Ahead q k k')) (fun k k' => decide (Ahead q k k'))
    (fun a b hab => decide_eq_false fun hba => Ahead.irrefl q a ((of_decide_eq_true hab).trans hba))
    (fun a b hab => hab)
    (fun a b c hab hbc => decide_eq_false (Ahead.not_trans (of_decide_eq_false hab) (of_decide_eq_false hbc))) i j h
  rw [← place_eq] at this
  exact (of_decide_eq_false this) hb

/-- The slots are ordered as the elements they hold. -/
theorem lt_iff_ahead (q : Fin n → α) (i j : Fin n) : i < j ↔ Ahead q (place q i) (place q j) := by
  refine ⟨ahead_of_lt q, fun h => ?_⟩
  rcases lt_trichotomy i j with h' | h' | h'
  · exact h'
  · exact absurd (h' ▸ h) (Ahead.irrefl q _)
  · exact absurd (h.trans (ahead_of_lt q h')) (Ahead.irrefl q _)

/-- The argsort as a permutation. -/
noncomputable def perm (q : Fin n → α) : Fin n ≃ Fin n := Equiv.ofBijective (place q) (Finite.injective_iff_bijective.1 (place_injective q))

/-- The permutation's values. -/
theorem perm_apply (q : Fin n → α) (i : Fin n) : perm q i = place q i := rfl

/-- The slots of two elements are ordered as the elements go. -/
theorem symm_lt_iff (q : Fin n → α) (a b : Fin n) : (perm q).symm a < (perm q).symm b ↔ Ahead q a b := by
  rw [lt_iff_ahead q, ← perm_apply, ← perm_apply, Equiv.apply_symm_apply, Equiv.apply_symm_apply]

/-- Sorting the elements of a permutation gives back its inverse. -/
theorem sortedFrom_perm (σ : Fin n ≃ Fin n) (j : Fin n) : sortedFrom (fun k k' => decide (σ k < σ k')) j = σ.symm j := by
  have h : ∀ i j : Fin n, i < j → σ (sortedFrom (fun k k' => decide (σ k < σ k')) i) < σ (sortedFrom (fun k k' => decide (σ k < σ k')) j) := by
    intro i j hij
    have hne : sortedFrom (fun k k' => decide (σ k < σ k')) i ≠ sortedFrom (fun k k' => decide (σ k < σ k')) j :=
      fun e => (ne_of_lt hij) (sortedFrom_injective _ e)
    have := sortedFrom_noInversion (fun k k' => decide (σ k < σ k')) (fun k k' => decide (σ k < σ k'))
      (fun a b hab => decide_eq_false fun hba => lt_asymm (of_decide_eq_true hab) hba) (fun a b hab => hab)
      (fun a b c hab hbc => decide_eq_false (not_lt.2 (le_trans (not_lt.1 (of_decide_eq_false hbc)) (not_lt.1 (of_decide_eq_false hab))))) i j hij
    exact lt_of_le_of_ne (not_lt.1 (of_decide_eq_false this)) fun e => hne (σ.injective e)
  have hm : StrictMono fun i => σ (sortedFrom (fun k k' => decide (σ k < σ k')) i) := fun i j hij => h i j hij
  have hid : (fun i => σ (sortedFrom (fun k k' => decide (σ k < σ k')) i)) = id :=
    hm.range_inj strictMono_id |>.1 (by
      rw [Set.range_id, Set.range_eq_univ]
      exact Finite.surjective_of_injective hm.injective)
  rw [Equiv.eq_symm_apply]
  exact congrFun hid j

section Rank

variable {β : Type} [DecidableEq β]

/-- The number of elements of the same class as `k` that go before it. -/
def rk (q : Fin n → α) (A : Fin n → β) (k : Fin n) : ℕ := (Finset.univ.filter fun m => Ahead q m k ∧ A m = A k).card

/-- Up to the slot of `k`, its class appears once more than its rank. -/
theorem card_upto (q : Fin n → α) (A : Fin n → β) (k : Fin n) :
    (Finset.univ.filter fun j => j ≤ (perm q).symm k ∧ A (perm q j) = A k).card = rk q A k + 1 := by
  have hk : k ∉ Finset.univ.filter fun m => Ahead q m k ∧ A m = A k := fun h => Ahead.irrefl q k (Finset.mem_filter.1 h).2.1
  rw [rk, ← Finset.card_insert_of_notMem hk, ← Finset.card_map (perm q).toEmbedding]
  congr 1
  ext m
  simp only [Finset.mem_map_equiv, Finset.mem_filter, Finset.mem_univ, true_and, Equiv.apply_symm_apply, Finset.mem_insert]
  rw [le_iff_lt_or_eq, symm_lt_iff]
  constructor
  · rintro ⟨h | h, h'⟩
    · exact .inr ⟨h, h'⟩
    · exact .inl ((perm q).symm.injective h)
  · rintro (h | ⟨h, h'⟩)
    · exact ⟨.inr (by rw [h]), by rw [h]⟩
    · exact ⟨.inl h, h'⟩

/-- A rank is below the number of elements. -/
theorem rk_lt (q : Fin n → α) (A : Fin n → β) (k : Fin n) : rk q A k < n := by
  have h := card_upto q A k
  have := Finset.card_le_univ (Finset.univ.filter fun j => j ≤ (perm q).symm k ∧ A (perm q j) = A k)
  rw [Fintype.card_fin] at this
  omega

/-- An element that goes before another of its class has the smaller rank. -/
theorem rk_lt_rk (q : Fin n → α) (A : Fin n → β) {a b : Fin n} (h : Ahead q a b) (e : A a = A b) : rk q A a < rk q A b := by
  refine Finset.card_lt_card ⟨fun m hm => ?_, fun hs => ?_⟩
  · have := (Finset.mem_filter.1 hm).2
    exact Finset.mem_filter.2 ⟨Finset.mem_univ _, this.1.trans h, this.2.trans e⟩
  · exact Ahead.irrefl q a (Finset.mem_filter.1 (hs (Finset.mem_filter.2 ⟨Finset.mem_univ _, h, e⟩))).2.1

/-- Of a class, the elements of rank below `c` are as many as the class has, at most `c`. -/
theorem card_kept (q : Fin n → α) (A : Fin n → β) (e : β) (c : ℕ) :
    (Finset.univ.filter fun k => A k = e ∧ rk q A k < c).card = min (Finset.univ.filter fun k => A k = e).card c := by
  set S := Finset.univ.filter fun k => A k = e with hS
  have hinj : Set.InjOn (rk q A) S := fun a ha b hb hab => by
    by_contra hne
    have ea : A a = e := (Finset.mem_filter.1 ha).2
    have eb : A b = e := (Finset.mem_filter.1 hb).2
    rcases Ahead.total q hne with h | h
    · exact (ne_of_lt (rk_lt_rk q A h (ea.trans eb.symm))) hab
    · exact (ne_of_lt (rk_lt_rk q A h (eb.trans ea.symm))) hab.symm
  have himg : S.image (rk q A) = Finset.range S.card := by
    refine Finset.eq_of_subset_of_card_le (fun r hr => ?_) (by rw [Finset.card_range, Finset.card_image_of_injOn hinj])
    obtain ⟨k, hk, rfl⟩ := Finset.mem_image.1 hr
    have ek : A k = e := (Finset.mem_filter.1 hk).2
    refine Finset.mem_range.2 (Finset.card_lt_card ⟨fun m hm => ?_, fun hs => ?_⟩)
    · exact Finset.mem_filter.2 ⟨Finset.mem_univ _, (Finset.mem_filter.1 hm).2.2.trans ek⟩
    · exact Ahead.irrefl q k (Finset.mem_filter.1 (hs hk)).2.1
  have h1 : (Finset.univ.filter fun k => A k = e ∧ rk q A k < c) = S.filter fun k => rk q A k < c := by
    rw [hS, Finset.filter_filter]
  have h2 : (S.filter fun k => rk q A k < c).image (rk q A) = (Finset.range S.card).filter (· < c) := by
    rw [← himg, Finset.filter_image]
  rw [h1, ← Finset.card_image_of_injOn (hinj.mono (Finset.filter_subset _ _)), h2]
  have h3 : (Finset.range S.card).filter (· < c) = Finset.range (min S.card c) := by
    ext r; simp only [Finset.mem_filter, Finset.mem_range, lt_min_iff]
  rw [h3, Finset.card_range]

end Rank

end Cert.Ord

end
-- ==== Proof.MathArgmax.lean ====
/- Each token's expert: the first of the eight with the largest probability, as the kernel and as the reference find it. -/
module

public import proofs.«01_k».proof.Proof.MathLogits
public import Idealize.ShloMosaic.PureOps.Ideal.Laws
public import Idealize.ShloMosaic.Lib.SortNet.Extract

@[expose] public section

set_option maxRecDepth 16384

noncomputable section

namespace Cert.Rf

open Cert.ReferenceIdeal Cert.ReferenceIdeal.Gen
open Idealize.ShloMosaic Idealize.ShloMosaic.Tactic

/-- `a` is the first of the eight with the largest value. -/
def IsFirst (f : Fin 8 → EReal) (a : Fin 8) : Prop := ∀ c, f c < f a ∨ (f a = f c ∧ a ≤ c)

/-- There is such an `a`. -/
theorem exists_first (f : Fin 8 → EReal) : ∃ a, IsFirst f a := by
  classical
  obtain ⟨m, -, hm⟩ := Finset.exists_max_image Finset.univ f Finset.univ_nonempty
  have hne : (Finset.univ.filter fun a => f a = f m).Nonempty := ⟨m, by simp⟩
  refine ⟨(Finset.univ.filter fun a => f a = f m).min' hne, fun c => ?_⟩
  have ha : f ((Finset.univ.filter fun a => f a = f m).min' hne) = f m := (Finset.mem_filter.mp (Finset.min'_mem _ hne)).2
  rw [ha]
  rcases lt_or_eq_of_le (hm c (Finset.mem_univ c)) with h | h
  · exact .inl h
  · exact .inr ⟨h.symm, Finset.min'_le _ c (by simp [h])⟩

/-- The first of the eight with the largest value. -/
def first (f : Fin 8 → EReal) : Fin 8 := (exists_first f).choose

theorem first_spec (f : Fin 8 → EReal) : IsFirst f (first f) := (exists_first f).choose_spec

/-- There is no other. -/
theorem first_unique {f : Fin 8 → EReal} {a : Fin 8} (h : IsFirst f a) : a = first f := by
  rcases h (first f) with h1 | ⟨h1, h2⟩ <;> rcases first_spec f a with h3 | ⟨h3, h4⟩
  · exact absurd h3 (not_lt.mpr h1.le)
  · exact absurd h3 h1.ne
  · exact absurd h1 h3.ne
  · exact le_antisymm h2 h4

/-- Its value is the largest. -/
theorem sup_eq_first (f : Fin 8 → EReal) : Finset.univ.sup f = f (first f) :=
  le_antisymm (Finset.sup_le fun c _ => by rcases first_spec f c with h | ⟨h, -⟩ <;> [exact h.le; exact h.ge])
    (Finset.le_sup (Finset.mem_univ (first f)))

/-- A small word's value. -/
theorem toInt_small (n : Nat) (h : n < 2 ^ 31) : (BitVec.ofNat 32 n).toInt = n := by
  rw [BitVec.toInt_eq_toNat_cond, BitVec.toNat_ofNat, Nat.mod_eq_of_lt (by omega), if_pos (by omega)]

/-- A fold of the signed minimum is at most every word met, and is the start or one of them. -/
theorem fold_minsi_spec {ι : Type*} (g : ι → BitVec 32) (s : Finset ι) (z : BitVec 32) :
    (∀ i ∈ s, (s.fold IntOp.minsi z g).toInt ≤ (g i).toInt) ∧ (s.fold IntOp.minsi z g = z ∨ ∃ i ∈ s, s.fold IntOp.minsi z g = g i) := by
  classical
  refine Finset.induction_on s ⟨fun i hi => absurd hi (Finset.notMem_empty i), .inl (by rw [Finset.fold_empty])⟩ ?_
  intro a s has ih
  obtain ⟨h2, h3⟩ := ih
  rw [Finset.fold_insert has]
  have hm := SortNet.toInt_minsi (g a) (s.fold IntOp.minsi z g)
  refine ⟨fun i hi => ?_, ?_⟩
  · rw [hm]
    rcases Finset.mem_insert.mp hi with rfl | hi
    · exact min_le_left _ _
    · exact (min_le_right _ _).trans (h2 i hi)
  · rcases min_choice (g a).toInt (s.fold IntOp.minsi z g).toInt with h | h
    · exact .inr ⟨a, Finset.mem_insert_self a s, BitVec.eq_of_toInt_eq (hm.trans h)⟩
    · rcases h3 with h3 | ⟨i, hi, h3⟩
      · exact .inl ((BitVec.eq_of_toInt_eq (hm.trans h)).trans h3)
      · exact .inr ⟨i, Finset.mem_insert_of_mem hi, (BitVec.eq_of_toInt_eq (hm.trans h)).trans h3⟩

/-- The least of the positions holding the largest value (eight for the others) is the first's. -/
theorem fold_minsi_first (f : Fin 8 → EReal) :
    Finset.fold IntOp.minsi 2147483647#32 (fun e : Fin 8 => if f e = Finset.univ.sup f then BitVec.ofNat 32 e.val else 8#32) Finset.univ
      = BitVec.ofNat 32 (first f).val := by
  obtain ⟨h1, h2⟩ := fold_minsi_spec (fun e : Fin 8 => if f e = Finset.univ.sup f then BitVec.ofNat 32 e.val else 8#32) Finset.univ 2147483647#32
  have hf := h1 (first f) (Finset.mem_univ _)
  rw [if_pos (sup_eq_first f).symm, toInt_small _ (by omega)] at hf
  have h7 := (first f).isLt
  rcases h2 with h2 | ⟨e, -, h2⟩
  · rw [h2] at hf
    have : (2147483647#32 : BitVec 32).toInt = 2147483647 := by decide
    omega
  · by_cases he : f e = Finset.univ.sup f
    · rw [if_pos he] at h2
      rw [h2, toInt_small _ (by omega)] at hf
      rw [h2]
      rcases first_spec f e with h | ⟨-, h⟩
      · rw [he, sup_eq_first] at h; exact absurd h (lt_irrefl _)
      · rw [show e = first f from le_antisymm (by rw [Fin.le_def]; omega) h]
    · rw [if_neg he] at h2
      rw [h2] at hf
      have : (8#32 : BitVec 32).toInt = 8 := by decide
      omega

/-- One step of the reference's search, between two of the eight. -/
theorem step (f : Fin 8 → EReal) (a b : Fin 8) :
    reducer_argmax_f32_i32 (F := Ideal) (f a, BitVec.ofNat 32 a.val) (f b, BitVec.ofNat 32 b.val)
      = if f b < f a ∨ (f a = f b ∧ a < b) then (f a, BitVec.ofNat 32 a.val) else (f b, BitVec.ofNat 32 b.val) := by
  have hlt : (BitVec.ofNat 32 a.val).slt (BitVec.ofNat 32 b.val) = decide (a < b) := by
    rw [BitVec.slt_eq_decide, toInt_small _ (by omega), toInt_small _ (by omega)]
    exact decide_eq_decide.mpr (by rw [Fin.lt_def]; omega)
  unfold reducer_argmax_f32_i32
  simp only [Ideal.cmpf_def, Ideal.cmp, IntOp.cmpi, hlt, Scalar.select, IntOp.ori, IntOp.andi]
  rcases lt_trichotomy (f a) (f b) with h | h | h
  · simp [h, h.not_gt, h.ne]
  · by_cases hab : a < b <;> simp [h, hab]
  · simp [h, h.ne', h.not_gt]

/-- The search over a list of positions, from one of them, finds the first with the largest value among them. -/
theorem search_from (f : Fin 8 → EReal) (l : List (Fin 8)) (a : Fin 8) :
    ∃ b, (l.map fun e => (f e, BitVec.ofNat 32 e.val)).foldl (reducer_argmax_f32_i32 (F := Ideal)) (f a, BitVec.ofNat 32 a.val) = (f b, BitVec.ofNat 32 b.val)
      ∧ (f a < f b ∨ (f b = f a ∧ b ≤ a)) ∧ ∀ c ∈ l, f c < f b ∨ (f b = f c ∧ b ≤ c) := by
  induction l generalizing a with
  | nil => exact ⟨a, rfl, .inr ⟨rfl, le_rfl⟩, by simp⟩
  | cons e l ih =>
    rw [List.map_cons, List.foldl_cons, step]
    by_cases h : f e < f a ∨ (f a = f e ∧ a < e)
    · rw [if_pos h]
      obtain ⟨b, hb, hba, hl⟩ := ih a
      refine ⟨b, hb, hba, fun c hc => ?_⟩
      rcases List.mem_cons.mp hc with rfl | hc
      · rcases h with h | ⟨h, h'⟩ <;> rcases hba with g | ⟨g, g'⟩
        · exact .inl (h.trans g)
        · exact .inl (g ▸ h)
        · exact .inl (h ▸ g)
        · exact .inr ⟨g.trans h, g'.trans h'.le⟩
      · exact hl c hc
    · rw [if_neg h]
      obtain ⟨b, hb, hbe, hl⟩ := ih e
      refine ⟨b, hb, ?_, fun c hc => ?_⟩
      · push Not at h
        obtain ⟨h1, h2⟩ := h
        rcases hbe with g | ⟨g, g'⟩
        · exact .inl (h1.trans_lt g)
        · rcases lt_or_eq_of_le h1 with h1 | h1
          · exact .inl (g ▸ h1)
          · exact .inr ⟨g.trans h1.symm, g'.trans (h2 h1)⟩
      · rcases List.mem_cons.mp hc with rfl | hc
        · exact hbe
        · exact hl c hc

/-- The search over a list holding all eight positions, of values above minus infinity, finds the first with the largest value. -/
theorem search (f : Fin 8 → EReal) (hf : ∀ e, ⊥ < f e) (l : List (Fin 8)) (hl : ∀ e, e ∈ l) :
    (l.map fun e => (f e, BitVec.ofNat 32 e.val)).foldl (reducer_argmax_f32_i32 (F := Ideal)) ((⊥ : EReal), 0#32)
      = (f (first f), BitVec.ofNat 32 (first f).val) := by
  cases l with
  | nil => exact absurd (hl 0) (by simp)
  | cons e l =>
    rw [List.map_cons, List.foldl_cons]
    have h0 : reducer_argmax_f32_i32 (F := Ideal) ((⊥ : EReal), 0#32) (f e, BitVec.ofNat 32 e.val) = (f e, BitVec.ofNat 32 e.val) := by
      unfold reducer_argmax_f32_i32
      simp [Ideal.cmpf_def, Ideal.cmp, Scalar.select, IntOp.ori, IntOp.andi, (hf e).not_gt, (hf e).ne]
    rw [h0]
    obtain ⟨b, hb, hbe, hbl⟩ := search_from f l e
    have : b = first f := first_unique fun c => by
      rcases List.mem_cons.mp (hl c) with rfl | hc
      · exact hbe
      · exact hbl c hc
    rw [hb, this]

/-- The column of an element. -/
def colOf (k : S4096x8.Idx) : Fin 8 := k 1

/-- The row an element is reduced to. -/
theorem drop_row (k : S4096x8.Idx) : reducesTo_S4096x8_S4096_d1.drop k = ix1 (k 0) := by
  funext a; fin_cases a; rfl

/-- The reference's expert. -/
theorem expert_apply (p : FVec Ideal S4096x8 .f32) (hp : ∀ n e, (⊥ : EReal) < p (ix2 n e)) (n : Fin 4096) :
    expert p (ix1 n) = BitVec.ofNat 32 (first fun e => p (ix2 n e)).val := by
  unfold expert
  rw [Ideal.argReduce_eq_reduce2, Host.reduce2_eq_foldl_fiber, Host.argReduceFiber]
  have hmap : ∀ L : List (Fin S4096x8.numel), (∀ k ∈ L, (S4096x8.rowMajor.symm k) 0 = n) →
      L.map (fun k => (p (S4096x8.rowMajor.symm k), iotaInDim S4096x8 32 1 (S4096x8.rowMajor.symm k)))
        = (L.map fun k => colOf (S4096x8.rowMajor.symm k)).map fun e : Fin 8 => (p (ix2 n e), BitVec.ofNat 32 e.val) := fun L hL => by
    refine Eq.trans (List.map_congr_left fun k hk => ?_) List.map_map.symm
    have := hL k hk
    show _ = (p (ix2 n (colOf (S4096x8.rowMajor.symm k))), BitVec.ofNat 32 (colOf (S4096x8.rowMajor.symm k)).val)
    generalize S4096x8.rowMajor.symm k = j at this ⊢
    obtain ⟨i, e, rfl⟩ : ∃ (i : Fin 4096) (e : Fin 8), j = ix2 i e := ⟨j 0, j 1, eq_ix2 j⟩
    obtain rfl : i = n := this
    rfl
  rw [hmap _ fun k hk => by
    have h := of_decide_eq_true (List.mem_filter.mp hk).2
    rw [drop_row] at h
    exact congrFun h 0]
  have hs := search (fun e => p (ix2 n e)) (hp n)
    (((List.finRange S4096x8.numel).filter fun k => reducesTo_S4096x8_S4096_d1.drop (S4096x8.rowMajor.symm k) = ix1 n).map
      fun k => colOf (S4096x8.rowMajor.symm k)) fun e => List.mem_map.mpr ⟨S4096x8.rowMajor (ix2 n e), by
        exact List.mem_filter.mpr ⟨List.mem_finRange _, decide_eq_true (by rw [Equiv.symm_apply_apply, drop_row]; rfl)⟩, by
        rw [Equiv.symm_apply_apply]; rfl⟩
  have hb : constant (F := Ideal) S_ .f32 0xFF800000#32 (Shape.Idx.first h_S_) = (⊥ : EReal) := Num.c_bot
  rw [hb]
  exact congrArg Prod.snd hs

end Cert.Rf

namespace Cert.KernelIdeal.Run

open Cert.KernelIdeal.Gen
open Idealize.ShloMosaic Idealize.ShloMosaic.TcCoe Idealize.ShloMosaic.Tactic Idealize.SL.Sem

/-- The kernel's largest probability. -/
theorem top_apply (t u : FVec Ideal S4096x8 .f32) (n : Fin 4096) :
    k0_pay5 (F := Ideal) t u (ix2 n 0) = Finset.univ.sup fun e => k0_pay3 (F := Ideal) t u (ix2 n e) := by
  unfold k0_pay5
  pointwise
  rw [Num.c_bot, Num.fold_max]

/-- The kernel's expert. -/
theorem expert_apply (t u : FVec Ideal S4096x8 .f32) (n : Fin 4096) :
    k0_pay6 (F := Ideal) t u (ix2 n 0) = BitVec.ofNat 32 (Rf.first fun e => k0_pay3 (F := Ideal) t u (ix2 n e)).val := by
  unfold k0_pay6
  pointwise
  rw [top_apply]
  exact Rf.fold_minsi_first _

end Cert.KernelIdeal.Run

end
-- ==== Proof.MathSort.lean ====
/- The reference's sort of the tokens by falling probability, and the sort that undoes it. -/
module

public import proofs.«01_k».proof.Proof.Order
public import proofs.«01_k».proof.Proof.MathArgmax
public import Idealize.ShloMosaic.Lib.Routing.OpsOne
public import Idealize.ShloMosaic.Lib.Routing.Ops
public import Idealize.ShloMosaic.Lib.ReduceAll

@[expose] public section

set_option maxRecDepth 16384

noncomputable section

namespace Cert.Rf

open Cert.ReferenceIdeal Cert.ReferenceIdeal.Gen
open Idealize.ShloMosaic Idealize.ShloMosaic.Tactic

/-- The tokens' probabilities, by token. -/
abbrev keys (q : FVec Ideal S4096 .f32) : Fin 4096 → EReal := fun n => q (ix1 n)

/-- The sort's comparison is the order of its keys. -/
theorem comparator_eq (l r : EReal × BitVec 32) :
    (comparator_f32_i32_d0 (F := Ideal) (l.1, l.2) (r.1, r.2) == 1#1) = decide (l.1 < r.1) := by
  have hz : ∀ x : EReal, Scalar.select (Ideal.cmp .oeq x (Ideal.ofBits .f32 0x00000000#32)) (Ideal.ofBits .f32 0x00000000#32) x = x := fun x => by
    rw [Ideal.ofBits_zero_f32]
    by_cases h : x = 0 <;> simp [Ideal.cmp, Scalar.select, h]
  have hn : ∀ x y : EReal, Scalar.select (Ideal.cmp .une x x) y x = x := fun x y => by
    simp [Ideal.cmp, Scalar.select]
  unfold comparator_f32_i32_d0
  simp only [Ideal.cmpf_def, Ideal.cmpfTotal_def, Ideal.ofBits_def, hz, hn]
  by_cases h : l.1 < r.1 <;> simp [Ideal.cmp, CmpDirection.ordered, h]

/-- The payload of a sort of a vector of pairs: position `j` holds the payload of the position sorted there. -/
theorem sort2_payload {n : Nat} {α β : Type} (cmp : α × β → α × β → BitVec 1) (x : (⟨1, ![n]⟩ : Shape).Idx → α) (y : (⟨1, ![n]⟩ : Shape).Idx → β)
    (j p : Fin n) (hp : sortedFrom (fun k k' : Fin n => cmp (x (ix1 k), y (ix1 k)) (x (ix1 k'), y (ix1 k')) == 1#1) j = p) :
    (Host.sort2 ⟨1, ![n]⟩ 0 cmp x y).2 (ix1 j) = y (ix1 p) := by
  have hd : 0 < (⟨1, ![n]⟩ : Shape).rank := Nat.zero_lt_one
  have e : ∀ c : Fin n, (ix1 j : (⟨1, ![n]⟩ : Shape).Idx).along (⟨0, hd⟩ : Fin (⟨1, ![n]⟩ : Shape).rank) c = ix1 c := fun c => by
    funext a; fin_cases a; exact Function.update_self ..
  have hb : (fun k k' : Fin n => cmp (x ((ix1 j : (⟨1, ![n]⟩ : Shape).Idx).along ⟨0, hd⟩ k), y ((ix1 j : (⟨1, ![n]⟩ : Shape).Idx).along ⟨0, hd⟩ k))
      (x ((ix1 j : (⟨1, ![n]⟩ : Shape).Idx).along ⟨0, hd⟩ k'), y ((ix1 j : (⟨1, ![n]⟩ : Shape).Idx).along ⟨0, hd⟩ k')) == 1#1)
      = fun k k' : Fin n => cmp (x (ix1 k), y (ix1 k)) (x (ix1 k'), y (ix1 k')) == 1#1 := by
    funext k k'; simp only [e]
  have h : sortedFrom (fun k k' : Fin n => cmp (x ((ix1 j : (⟨1, ![n]⟩ : Shape).Idx).along ⟨0, hd⟩ k), y ((ix1 j : (⟨1, ![n]⟩ : Shape).Idx).along ⟨0, hd⟩ k))
      (x ((ix1 j : (⟨1, ![n]⟩ : Shape).Idx).along ⟨0, hd⟩ k'), y ((ix1 j : (⟨1, ![n]⟩ : Shape).Idx).along ⟨0, hd⟩ k')) == 1#1) j = p := by
    rw [hb]; exact hp
  unfold Host.sort2
  rw [dif_pos hd]
  exact (congrArg (fun c : Fin n => y ((ix1 j : (⟨1, ![n]⟩ : Shape).Idx).along ⟨0, hd⟩ c)) h).trans (congrArg y (e p))

/-- The tokens in the order of falling probability. -/
theorem order_apply (q : FVec Ideal S4096 .f32) (j : Fin 4096) : order q (ix1 j) = BitVec.ofNat 32 (Ord.perm (keys q) j).val := by
  refine sort2_payload _ _ _ j (Ord.perm (keys q) j) ?_
  rw [Ord.perm_apply, Ord.place]
  refine congrArg (fun b => sortedFrom b j) (funext fun k => funext fun k' => ?_)
  refine (comparator_eq (Host.negf q (ix1 k), iotaInDim S4096 32 0 (ix1 k)) (Host.negf q (ix1 k'), iotaInDim S4096 32 0 (ix1 k'))).trans ?_
  exact decide_eq_decide.mpr EReal.neg_lt_neg_iff

/-- Small words compare as their values. -/
theorem comparator_small (a b : Nat) (ha : a < 2 ^ 31) (hb : b < 2 ^ 31) (u v : BitVec 32) :
    (comparator_i32_i32_d0 (BitVec.ofNat 32 a, u) (BitVec.ofNat 32 b, v) == 1#1) = decide (a < b) := by
  unfold comparator_i32_i32_d0
  simp only [IntOp.cmpi, BitVec.slt_eq_decide, toInt_small _ ha, toInt_small _ hb, Nat.cast_lt]
  by_cases h : a < b <;> simp [h]

/-- The positions of the tokens in an order. -/
theorem unsort_apply (o : IVec S4096 32) (σ : Fin 4096 ≃ Fin 4096) (ho : ∀ j, o (ix1 j) = BitVec.ofNat 32 (σ j).val) (j : Fin 4096) :
    unsort o (ix1 j) = BitVec.ofNat 32 (σ.symm j).val := by
  refine sort2_payload _ _ _ j (σ.symm j) ?_
  rw [← Ord.sortedFrom_perm]
  refine congrArg (fun b => sortedFrom b j) (funext fun k => funext fun k' => ?_)
  rw [ho, ho, comparator_small _ _ (by omega) (by omega)]
  exact decide_eq_decide.mpr Iff.rfl

/-- A position that is one of the tokens is not taken from the end. -/
theorem wrap_apply (n : BitVec 32) (o : IVec S4096 32) (j : Fin 4096) (b : Nat) (hb : b < 2 ^ 31) (ho : o (ix1 j) = BitVec.ofNat 32 b) :
    wrap n o (ix1 j) = BitVec.ofNat 32 b := by
  unfold wrap allI
  pointwise
  rw [ho]
  simp only [Scalar.select, IntOp.cmpi, BitVec.slt_eq_decide, toInt_small _ hb]
  have h0 : ¬ ((b : Int) < 0) := by omega
  simp [h0]

/-- The column of positions. -/
theorem col_apply (o : IVec S4096 32) (j : Fin 4096) (b : Nat) (hb : b < 2 ^ 31) (ho : o (ix1 j) = BitVec.ofNat 32 b) :
    col o (ix2 j 0) = BitVec.ofNat 32 b := by
  rw [← wrap_apply 4096#32 o j b hb ho]
  unfold col
  pointwise

/-- Every position is within the array. -/
theorem inside_apply (o : IVec S4096 32) (b : Fin 4096 → Fin 4096) (ho : ∀ j, o (ix1 j) = BitVec.ofNat 32 (b j).val) (j : Fin 4096) (e : Fin 8) :
    inside o (ix2 j e) = 1#1 := by
  unfold inside
  refine (broadcastInDim_apply _ _ _ _ (ix1 j) fun a => by fin_cases a; rfl).trans ?_
  refine Host.reduce_andi_one _ _ _ _ _ rfl fun k => ?_
  obtain ⟨i, z, rfl⟩ : ∃ (i : Fin 4096) (z : Fin 1), k = ix2 i z := ⟨k 0, k 1, eq_ix2 k⟩
  obtain rfl : z = 0 := Subsingleton.elim _ _
  pointwise
  rw [col_apply o i (b i).val (by omega) (ho i)]
  have h1 : (0#32 : BitVec 32).toInt ≤ ((b i).val : Int) := by have : (0#32 : BitVec 32).toInt = 0 := by decide
                                                               omega
  have h2 : ((b i).val : Int) ≤ (4095#32 : BitVec 32).toInt := by have : (4095#32 : BitVec 32).toInt = 4095 := by decide
                                                                  omega
  simp only [IntOp.cmpi, IntOp.andi, BitVec.sle_eq_decide, toInt_small _ (show (b i).val < 2 ^ 31 by omega), h1, h2]
  rfl

/-- The rows of `x` at the positions. -/
theorem takeF_apply (x : FVec Ideal S4096x8 .f32) (o : IVec S4096 32) (b : Fin 4096 → Fin 4096) (ho : ∀ j, o (ix1 j) = BitVec.ofNat 32 (b j).val)
    (j : Fin 4096) (e : Fin 8) : takeF x o (ix2 j e) = x (ix2 (b j) e) := by
  unfold takeF
  rw [ValueIdx.select_apply, inside_apply o b ho]
  refine Eq.trans (if_pos rfl) ?_
  exact Routing.gather_row _ rfl rfl rfl rfl rfl x (col o) j e (b j) (col_apply o j _ (by omega) (ho j)) (by norm_num)

/-- The same of words. -/
theorem takeI_apply (x : IVec S4096x8 32) (o : IVec S4096 32) (b : Fin 4096 → Fin 4096) (ho : ∀ j, o (ix1 j) = BitVec.ofNat 32 (b j).val)
    (j : Fin 4096) (e : Fin 8) : takeI x o (ix2 j e) = x (ix2 (b j) e) := by
  unfold takeI
  rw [ValueIdx.select_apply, inside_apply o b ho]
  refine Eq.trans (if_pos rfl) ?_
  exact Routing.gather_row _ rfl rfl rfl rfl rfl x (col o) j e (b j) (col_apply o j _ (by omega) (ho j)) (by norm_num)

end Cert.Rf

end
-- ==== Proof.MathRoute.lean ====
/- The reference's routing: which tokens are kept, and at which slot, by each token's rank among the tokens of its expert. -/
module

public import proofs.«01_k».proof.Proof.MathSort

@[expose] public section

set_option maxRecDepth 16384

noncomputable section

namespace Cert.Rf

open Cert.ReferenceIdeal Cert.ReferenceIdeal.Gen
open Idealize.ShloMosaic Idealize.ShloMosaic.Tactic

/-- A token's probability at its expert. -/
theorem chosen_apply (p : FVec Ideal S4096x8 .f32) (a : IVec S4096 32) (A : Fin 4096 → Fin 8) (ha : ∀ n, a (ix1 n) = BitVec.ofNat 32 (A n).val)
    (n : Fin 4096) : chosen p a (ix1 n) = p (ix2 n (A n)) := by
  have hc0 : ∀ x y : IVec S4096x1 32, concatenate S4096x2 1 [⟨S4096x1, x⟩, ⟨S4096x1, y⟩] concatenates_S4096x1_S4096x1_S4096x2_d1 (ix2 n 0) = x (ix2 n 0) := fun x y => by
    pointwise
  have hc1 : ∀ x y : IVec S4096x1 32, concatenate S4096x2 1 [⟨S4096x1, x⟩, ⟨S4096x1, y⟩] concatenates_S4096x1_S4096x1_S4096x2_d1 (ix2 n 1) = y (ix2 n 0) := fun x y => by
    pointwise
  have hb : ∀ x : IVec S4096 32, broadcastInDim S4096x1 ![0] bcast_S4096_S4096x1_0 x (ix2 n 0) = x (ix1 n) := fun x => by
    pointwise
  unfold chosen Host.gather
  refine congrArg p (funext fun k => Fin.ext ?_)
  show gather_S4096x8_S4096x2_S4096_n_01_n_n_01_1_11.start (ix1 n) _ k + gather_S4096x8_S4096x2_S4096_n_01_n_n_01_1_11.batchCoord (ix1 n) k
      + gather_S4096x8_S4096x2_S4096_n_01_n_n_01_1_11.offCoord (ix1 n) k = _
  have h01 : k = 0 ∨ k = 1 := by
    match k with
    | ⟨0, _⟩ => exact Or.inl rfl
    | ⟨1, _⟩ => exact Or.inr rfl
  rcases h01 with rfl | rfl
  · rw [GatherDims.batchCoord_eq_zero _ _ _ (fun h => by cases h),
      GatherDims.offCoord_eq_zero _ _ _ (fun h => ((GatherDims.mem_sKept _ _).mp h).1 (by decide))]
    simp only [Nat.add_zero]
    unfold GatherDims.start
    rw [dif_pos (show (0 : Fin 2) ∈ gather_S4096x8_S4096x2_S4096_n_01_n_n_01_1_11.startIndexMap by decide)]
    have hsi : gather_S4096x8_S4096x2_S4096_n_01_n_n_01_1_11.siIdx (ix1 n) ⟨List.idxOf (0 : Fin 2) gather_S4096x8_S4096x2_S4096_n_01_n_n_01_1_11.startIndexMap,
        List.idxOf_lt_length_iff.2 (by decide)⟩ = ix2 n 0 := by
      funext b; refine Fin.ext ?_
      match b with
      | ⟨0, _⟩ => rfl
      | ⟨1, _⟩ => rfl
    rw [hsi, hc0, hb, wrap_apply 4096#32 _ n n.val (by omega) rfl, toInt_small _ (by omega)]
    show min ((n.val : Int)).toNat (4096 - 1) = n.val
    omega
  · rw [GatherDims.batchCoord_eq_zero _ _ _ (fun h => by cases h),
      GatherDims.offCoord_eq_zero _ _ _ (fun h => ((GatherDims.mem_sKept _ _).mp h).1 (by decide))]
    simp only [Nat.add_zero]
    unfold GatherDims.start
    rw [dif_pos (show (1 : Fin 2) ∈ gather_S4096x8_S4096x2_S4096_n_01_n_n_01_1_11.startIndexMap by decide)]
    have hsi : gather_S4096x8_S4096x2_S4096_n_01_n_n_01_1_11.siIdx (ix1 n) ⟨List.idxOf (1 : Fin 2) gather_S4096x8_S4096x2_S4096_n_01_n_n_01_1_11.startIndexMap,
        List.idxOf_lt_length_iff.2 (by decide)⟩ = ix2 n 1 := by
      funext b; refine Fin.ext ?_
      match b with
      | ⟨0, _⟩ => rfl
      | ⟨1, _⟩ => rfl
    rw [hsi, hc1, hb, wrap_apply 8#32 a n (A n).val (by omega) (ha n), toInt_small _ (by omega)]
    show min (((A n).val : Int)).toNat (8 - 1) = (A n).val
    omega

/-- Small words are equal when their values are. -/
theorem ofNat_eq_iff (a b : Nat) (ha : a < 2 ^ 32) (hb : b < 2 ^ 32) : BitVec.ofNat 32 a = BitVec.ofNat 32 b ↔ a = b := by
  rw [← BitVec.toNat_inj, BitVec.toNat_ofNat, BitVec.toNat_ofNat, Nat.mod_eq_of_lt ha, Nat.mod_eq_of_lt hb]

/-- A token's row of zeros and a one. -/
theorem oneHot_apply (a : IVec S4096 32) (A : Fin 4096 → Fin 8) (ha : ∀ n, a (ix1 n) = BitVec.ofNat 32 (A n).val) (n : Fin 4096) (e : Fin 8) :
    (oneHot a : FVec Ideal S4096x8 .f32) (ix2 n e) = if A n = e then (1 : EReal) else 0 := by
  unfold oneHot
  pointwise
  rw [ha]
  show (((IntOp.cmpi .eq (BitVec.ofNat 32 (A n).val) (BitVec.ofNat 32 e.val)).toNat : ℝ) : EReal) = _
  simp only [IntOp.cmpi]
  by_cases h : A n = e
  · simp [h]
  · have : ¬ BitVec.ofNat 32 (A n).val = BitVec.ofNat 32 e.val := by
      rw [ofNat_eq_iff _ _ (by omega) (by omega)]; exact fun g => h (Fin.ext g)
    simp [h, this]

/-- The sorted rows, as words. -/
theorem sorted_apply (a : IVec S4096 32) (A : Fin 4096 → Fin 8) (ha : ∀ n, a (ix1 n) = BitVec.ofNat 32 (A n).val) (q : FVec Ideal S4096 .f32)
    (j : Fin 4096) (e : Fin 8) :
    fptosi (F := Ideal) 32 (takeF (oneHot a) (order q)) (ix2 j e) = if A (Ord.perm (keys q) j) = e then 1#32 else 0#32 := by
  show Ideal.fptosi 32 (takeF (F := Ideal) (oneHot a) (order q) (ix2 j e)) = _
  rw [takeF_apply _ _ _ (order_apply q), oneHot_apply a A ha]
  by_cases h : A (Ord.perm (keys q) j) = e
  · rw [if_pos h, if_pos h, show (1 : EReal) = ((1 : ℝ) : EReal) from rfl, Ideal.fptosi, Ideal.toIntClamped_coe]
    norm_num
  · rw [if_neg h, if_neg h, show (0 : EReal) = ((0 : ℝ) : EReal) from rfl, Ideal.fptosi, Ideal.toIntClamped_coe]
    norm_num

/-- A running sum of zeros and ones counts. -/
theorem cumsum_apply (x : IVec S4096x8 32) (P : Fin 4096 → Fin 8 → Prop) [∀ j e, Decidable (P j e)]
    (hx : ∀ j e, x (ix2 j e) = if P j e then 1#32 else 0#32) (j : Fin 4096) (e : Fin 8) :
    cumsum x (ix2 j e) = BitVec.ofNat 32 (Finset.univ.filter fun k => k ≤ j ∧ P k e).card := by
  refine (Routing.cumsum_rows_sum (A := 4096) (Am1 := 4095) rfl x _ rfl _ _ j e).trans ?_
  rw [show (BitVec.ofNat 32 (Finset.univ.filter fun k => k ≤ j ∧ P k e).card) = (((Finset.univ.filter fun k => k ≤ j ∧ P k e).card : ℕ) : BitVec 32) from rfl,
    ← Finset.sum_boole]
  refine Finset.sum_congr rfl fun k _ => ?_
  rw [show x (ValueIdx.ix2 k e) = _ from hx k e]
  by_cases h1 : k ≤ j <;> by_cases h2 : P k e <;> simp [h1, h2]

/-- The words of the sorted rows. -/
def sortedRows (q : FVec Ideal S4096 .f32) (a : IVec S4096 32) : IVec S4096x8 32 := fptosi (F := Ideal) 32 (takeF (oneHot a) (order q))

/-- The positions in sorted order. -/
def sortedPos (q : FVec Ideal S4096 .f32) (a : IVec S4096 32) : IVec S4096x8 32 := pos (cumsum (sortedRows q a))

/-- A token's position at its expert is its rank. -/
theorem sortedPos_apply (a : IVec S4096 32) (A : Fin 4096 → Fin 8) (ha : ∀ n, a (ix1 n) = BitVec.ofNat 32 (A n).val) (q : FVec Ideal S4096 .f32)
    (n : Fin 4096) : sortedPos q a (ix2 ((Ord.perm (keys q)).symm n) (A n)) = BitVec.ofNat 32 (Ord.rk (keys q) A n) := by
  have h := cumsum_apply (sortedRows q a) (fun j e => A (Ord.perm (keys q) j) = e) (sorted_apply a A ha q) ((Ord.perm (keys q)).symm n) (A n)
  have hs : sortedPos q a (ix2 ((Ord.perm (keys q)).symm n) (A n)) = cumsum (sortedRows q a) (ix2 ((Ord.perm (keys q)).symm n) (A n)) - 1#32 := by
    unfold sortedPos pos allII
    pointwise
    rfl
  rw [hs, h, Ord.card_upto, BitVec.ofNat_add]
  simp

/-- A token is kept at its expert when its rank is within the capacity, and nowhere else. -/
theorem kept_apply (a : IVec S4096 32) (A : Fin 4096 → Fin 8) (ha : ∀ n, a (ix1 n) = BitVec.ofNat 32 (A n).val) (q : FVec Ideal S4096 .f32)
    (n : Fin 4096) (e : Fin 8) :
    takeI (kept (sortedRows q a) (sortedPos q a)) (unsort (order q)) (ix2 n e)
      = if e = A n ∧ Ord.rk (keys q) A n < 640 then 1#32 else 0#32 := by
  rw [takeI_apply _ _ _ (unsort_apply _ _ (order_apply q))]
  have hk : kept (sortedRows q a) (sortedPos q a) (ix2 ((Ord.perm (keys q)).symm n) e)
      = BitVec.setWidth 32 (IntOp.andi (IntOp.cmpi .ne (sortedRows q a (ix2 ((Ord.perm (keys q)).symm n) e)) 0#32)
          (IntOp.andi (IntOp.cmpi .sge (sortedPos q a (ix2 ((Ord.perm (keys q)).symm n) e)) 0#32)
            (IntOp.cmpi .slt (sortedPos q a (ix2 ((Ord.perm (keys q)).symm n) e)) 640#32))) := by
    unfold kept allII
    pointwise
  rw [hk, sortedRows, sorted_apply a A ha, Equiv.apply_symm_apply]
  by_cases h : e = A n
  · subst h
    have hr : Ord.rk (keys q) A n < 4096 := Ord.rk_lt _ _ _
    have h0 : (0#32 : BitVec 32).toInt = 0 := by decide
    have h640 : (640#32 : BitVec 32).toInt = 640 := by decide
    rw [sortedPos_apply a A ha]
    simp only [IntOp.cmpi, IntOp.andi, BitVec.sle_eq_decide, BitVec.slt_eq_decide, toInt_small _ (show Ord.rk (keys q) A n < 2 ^ 31 by omega), h0, h640]
    by_cases g : Ord.rk (keys q) A n < 640
    · have g' : ((Ord.rk (keys q) A n : ℕ) : Int) < 640 := by omega
      simp [g, g']
    · have g' : ¬ ((Ord.rk (keys q) A n : ℕ) : Int) < 640 := by omega
      simp [g, g']
  · rw [if_neg fun g => h g.symm, if_neg fun g => h g.1]
    simp [IntOp.cmpi, IntOp.andi]

/-- A kept token's slot is its rank. -/
theorem slot_apply (a : IVec S4096 32) (A : Fin 4096 → Fin 8) (ha : ∀ n, a (ix1 n) = BitVec.ofNat 32 (A n).val) (q : FVec Ideal S4096 .f32)
    (n : Fin 4096) (h : Ord.rk (keys q) A n < 640) :
    takeI (clipPos (sortedPos q a)) (unsort (order q)) (ix2 n (A n)) = BitVec.ofNat 32 (Ord.rk (keys q) A n) := by
  rw [takeI_apply _ _ _ (unsort_apply _ _ (order_apply q))]
  have hk : clipPos (sortedPos q a) (ix2 ((Ord.perm (keys q)).symm n) (A n))
      = IntOp.minsi 639#32 (IntOp.maxsi 0#32 (sortedPos q a (ix2 ((Ord.perm (keys q)).symm n) (A n)))) := by
    unfold clipPos allII
    pointwise
  rw [hk, sortedPos_apply a A ha]
  have h0 : (0#32 : BitVec 32).toInt = 0 := by decide
  have h639 : (639#32 : BitVec 32).toInt = 639 := by decide
  refine BitVec.eq_of_toInt_eq ?_
  rw [SortNet.toInt_minsi, SortNet.toInt_maxsi, toInt_small _ (show Ord.rk (keys q) A n < 2 ^ 31 by omega), h0, h639]
  omega

end Cert.Rf

end
-- ==== Proof.MathRank.lean ====
/- The kernel's ranks: how many tokens of the same expert go before a token, counted over four segments of the tokens. -/
module

public import proofs.«01_k».proof.Proof.MathRoute
public import Idealize.ShloMosaic.Lib.IndicatorCount

@[expose] public section

set_option maxRecDepth 16384

noncomputable section

namespace Cert.KernelIdeal.Run

open Cert.KernelIdeal.Gen
open Idealize.ShloMosaic Idealize.ShloMosaic.TcCoe Idealize.ShloMosaic.Tactic Idealize.SL.Sem

/-- The number of a token. -/
theorem word_small (n : ℕ) (h : n < 4096) : word n = BitVec.ofNat 32 n := by
  refine BitVec.eq_of_toNat_eq ?_
  show (BitVec.ofNat 32 (n / 512) * 512#32 + BitVec.ofNat 32 (n % 512)).toNat = _
  simp only [BitVec.toNat_add, BitVec.toNat_mul, BitVec.toNat_ofNat]
  omega

section

variable (q : Fin 4096 → EReal) (A : Fin 4096 → Fin 8) (pr : FVec Ideal S1x4096 .f32) (ar : IVec S1x4096 32)
  (hp : ∀ m, pr (ix2 0 m) = q m) (ha : ∀ m, ar (ix2 0 m) = BitVec.ofNat 32 (A m).val) (n : Fin 4096)

include hp ha in
/-- One token's bit. -/
theorem bit_iff (m : Fin 4096) :
    bit (q n) (BitVec.ofNat 32 (A n).val) (word n.val) pr ar m (BitVec.ofNat 32 m.val) = 1#1 ↔ Ord.Ahead q m n ∧ A m = A n := by
  have hA : BitVec.ofNat 32 (A m).val = BitVec.ofNat 32 (A n).val ↔ A m = A n := by
    rw [Rf.ofNat_eq_iff _ _ (by omega) (by omega), Fin.ext_iff]
  have hlt : (BitVec.ofNat 32 m.val).slt (BitVec.ofNat 32 n.val) = decide (m < n) := by
    rw [BitVec.slt_eq_decide, Rf.toInt_small _ (by omega), Rf.toInt_small _ (by omega)]
    exact decide_eq_decide.mpr (by rw [Fin.lt_def]; omega)
  unfold bit Ord.Ahead
  rw [hp, ha, word_small _ n.isLt]
  simp only [IntOp.cmpi, IntOp.andi, IntOp.ori, hlt]
  rw [show (BitVec.ofNat 32 (A m).val == BitVec.ofNat 32 (A n).val) = decide (A m = A n) by
    by_cases h : A m = A n
    · simp [h]
    · simp [h, mt hA.mp h]]
  by_cases h1 : q n < q m <;> by_cases h2 : q m = q n <;> by_cases h3 : m < n <;> by_cases h4 : A m = A n <;> simp [h1, h2, h3, h4]

/-- Whether token number `m` goes before token `n` and has its expert, as a number. -/
def ind (m : ℕ) : ℕ := if h : m < 4096 then (if Ord.Ahead q ⟨m, h⟩ n ∧ A ⟨m, h⟩ = A n then 1 else 0) else 0

include hp ha in
/-- One segment counts its tokens. -/
theorem seg_eq (b : ℕ) (hb : b + 1024 ≤ 4096) :
    seg (q n) (BitVec.ofNat 32 (A n).val) (word n.val) pr ar b hb = BitVec.ofNat 32 (∑ x ∈ Finset.range 1024, ind q A n (b + x)) := by
  classical
  unfold seg
  rw [IndicatorCount.fold_addi_setWidth_eq_card, Finset.card_filter, ← Fin.sum_univ_eq_sum_range (fun x => ind q A n (b + x))]
  refine congrArg (BitVec.ofNat 32) (Finset.sum_congr rfl fun x _ => ?_)
  have hw : IntOp.addi (BitVec.ofNat 32 b) (BitVec.ofNat 32 x.val) = BitVec.ofNat 32 (b + x.val) := (BitVec.ofNat_add b x.val).symm
  rw [hw, ind, dif_pos (by omega)]
  exact if_congr (bit_iff q A pr ar hp ha n ⟨b + x.val, by omega⟩) rfl rfl

/-- The indicators count the rank. -/
theorem sum_ind : ∑ m ∈ Finset.range 4096, ind q A n m = Ord.rk q A n := by
  classical
  rw [Ord.rk, Finset.card_filter, ← Fin.sum_univ_eq_sum_range]
  exact Finset.sum_congr rfl fun m _ => dif_pos m.isLt

include hp ha in
/-- The kernel's rank. -/
theorem rank_eq : rank (q n) (BitVec.ofNat 32 (A n).val) (word n.val) pr ar = BitVec.ofNat 32 (Ord.rk q A n) := by
  unfold rank
  simp only [seg_eq q A pr ar hp ha n]
  rw [← sum_ind q A n, show (4096 : ℕ) = 1024 + 1024 + 1024 + 1024 from rfl, Finset.sum_range_add, Finset.sum_range_add, Finset.sum_range_add]
  simp only [BitVec.ofNat_add, IntOp.addi, Nat.zero_add, BitVec.zero_add]

include hp ha in
/-- The kernel's slot number: the expert's first slot plus the rank where that is within the capacity, else -1. -/
theorem slot_eq : slot (q n) (BitVec.ofNat 32 (A n).val) (word n.val) pr ar
    = if Ord.rk q A n < 640 then BitVec.ofNat 32 ((A n).val * 640 + Ord.rk q A n) else 4294967295#32 := by
  have hr : Ord.rk q A n < 4096 := Ord.rk_lt _ _ _
  have h640 : (640#32 : BitVec 32).toInt = 640 := by decide
  unfold slot
  rw [rank_eq q A pr ar hp ha n]
  simp only [IntOp.cmpi, BitVec.slt_eq_decide, Rf.toInt_small _ (show Ord.rk q A n < 2 ^ 31 by omega), h640, Scalar.select]
  by_cases g : Ord.rk q A n < 640
  · have g' : ((Ord.rk q A n : ℕ) : Int) < 640 := by omega
    rw [if_pos (by simp [g']), if_pos g, BitVec.ofNat_add, BitVec.ofNat_mul]; rfl
  · have g' : ¬ ((Ord.rk q A n : ℕ) : Int) < 640 := by omega
    rw [if_neg (by simp [g']), if_neg g]

end

/-- The kernel's slots: slot `k` of expert `e` is token `n`'s when `e` is its expert and `k` its rank, within the capacity. -/
theorem hit_eq (q : Fin 4096 → EReal) (A : Fin 4096 → Fin 8) (p : FVec Ideal S4096x1 .f32) (a : IVec S4096x1 32)
    (hp : ∀ m, p (ix2 m 0) = q m) (ha : ∀ m, a (ix2 m 0) = BitVec.ofNat 32 (A m).val) (n : Fin 4096) (e : Fin 8) (k : Fin 640) :
    hit (flat p a (shapeCast S1x4096 p shapeCasts_S4096x1_S1x4096) (shapeCast S1x4096 a shapeCasts_S4096x1_S1x4096)) (ix3 n e k)
      = if e = A n ∧ Ord.rk q A n < 640 ∧ k.val = Ord.rk q A n then 1#1 else 0#1 := by
  have hp' : ∀ m, shapeCast S1x4096 p shapeCasts_S4096x1_S1x4096 (ix2 0 m) = q m := fun m => by
    rw [← hp m]; pointwise
  have ha' : ∀ m, shapeCast S1x4096 a shapeCasts_S4096x1_S1x4096 (ix2 0 m) = BitVec.ofNat 32 (A m).val := fun m => by
    rw [← ha m]; pointwise
  show IntOp.cmpi .eq (IntOp.addi (IntOp.muli (BitVec.ofNat 32 e.val) 640#32) (BitVec.ofNat 32 k.val))
    (slot (p (ix2 n 0)) (a (ix2 n 0)) (word n.val) _ _) = _
  rw [hp n, ha n, slot_eq q A _ _ hp' ha' n]
  have hw : IntOp.addi (IntOp.muli (BitVec.ofNat 32 e.val) 640#32) (BitVec.ofNat 32 k.val) = BitVec.ofNat 32 (e.val * 640 + k.val) := by
    rw [BitVec.ofNat_add, BitVec.ofNat_mul]; rfl
  rw [hw]
  simp only [IntOp.cmpi]
  by_cases g : Ord.rk q A n < 640
  · rw [if_pos g]
    have hiff : BitVec.ofNat 32 (e.val * 640 + k.val) = BitVec.ofNat 32 ((A n).val * 640 + Ord.rk q A n) ↔ e = A n ∧ k.val = Ord.rk q A n := by
      rw [Rf.ofNat_eq_iff _ _ (by omega) (by omega), Fin.ext_iff]
      omega
    by_cases h : e = A n ∧ k.val = Ord.rk q A n
    · rw [if_pos ⟨h.1, g, h.2⟩, hiff.mpr h, beq_self_eq_true]; rfl
    · rw [if_neg fun h' => h ⟨h'.1, h'.2.2⟩, beq_eq_false_iff_ne.mpr (mt hiff.mp h)]; rfl
  · rw [if_neg g, if_neg fun h => g h.2.1]
    have : ¬ BitVec.ofNat 32 (e.val * 640 + k.val) = 4294967295#32 := by
      rw [show (4294967295#32 : BitVec 32) = BitVec.ofNat 32 4294967295 from rfl, Rf.ofNat_eq_iff _ _ (by omega) (by omega)]
      omega
    rw [beq_eq_false_iff_ne.mpr this]; rfl

end Cert.KernelIdeal.Run

end
-- ==== Proof.MathResults.lean ====
/- The results the routing decides: the slots taken, the weights and the load-balance loss are the same in the kernel and in the reference. -/
module

public import proofs.«01_k».proof.Proof.MathRank
public import proofs.«01_k».proof.Proof.MathReal

@[expose] public section

set_option maxRecDepth 16384

noncomputable section

namespace Cert.Rf

open Cert.ReferenceIdeal Cert.ReferenceIdeal.Gen
open Idealize.ShloMosaic Idealize.ShloMosaic.Tactic

/-- Whether each token is kept at each expert, as a number. -/
def keptF (a : IVec S4096 32) (q : FVec Ideal S4096 .f32) : FVec Ideal S4096x8 .f32 :=
  sitofp .f32 (takeI (kept (sortedRows q a) (sortedPos q a)) (unsort (order q)))

/-- Each token's slot at each expert, as a row of zeros and a one. -/
def slotF (a : IVec S4096 32) (q : FVec Ideal S4096 .f32) : FVec Ideal S4096x8x640 .f32 :=
  slots (takeI (clipPos (sortedPos q a)) (unsort (order q)))

section

variable (a : IVec S4096 32) (A : Fin 4096 → Fin 8) (ha : ∀ n, a (ix1 n) = BitVec.ofNat 32 (A n).val) (q : FVec Ideal S4096 .f32)

include ha in
/-- Whether a token is kept at an expert. -/
theorem keptF_apply (n : Fin 4096) (e : Fin 8) :
    keptF a q (ix2 n e) = if e = A n ∧ Ord.rk (keys q) A n < 640 then (1 : EReal) else 0 := by
  show (((takeI (kept (sortedRows q a) (sortedPos q a)) (unsort (order q)) (ix2 n e)).toInt : ℝ) : EReal) = _
  rw [kept_apply a A ha]
  by_cases h : e = A n ∧ Ord.rk (keys q) A n < 640
  · rw [if_pos h, if_pos h]; simp
  · rw [if_neg h, if_neg h]; simp

/-- A slot's entry is zero or one. -/
theorem slotF_cases (n : Fin 4096) (e : Fin 8) (k : Fin 640) : slotF a q (ix3 n e k)
    = if takeI (clipPos (sortedPos q a)) (unsort (order q)) (ix2 n e) = BitVec.ofNat 32 k.val then (1 : EReal) else 0 := by
  unfold slotF slots
  pointwise
  show (((IntOp.cmpi .eq _ _).toNat : ℝ) : EReal) = _
  simp only [IntOp.cmpi]
  by_cases h : takeI (clipPos (sortedPos q a)) (unsort (order q)) (ix2 n e) = BitVec.ofNat 32 k.val
  · rw [if_pos h, h, beq_self_eq_true]; simp
  · rw [if_neg h, beq_eq_false_iff_ne.mpr h]; simp

include ha in
/-- A kept token's slot is its rank. -/
theorem slotF_apply (n : Fin 4096) (h : Ord.rk (keys q) A n < 640) (k : Fin 640) :
    slotF a q (ix3 n (A n) k) = if k.val = Ord.rk (keys q) A n then (1 : EReal) else 0 := by
  rw [slotF_cases, slot_apply a A ha q n h]
  exact if_congr (by rw [ofNat_eq_iff _ _ (by omega) (by omega), eq_comm]) rfl rfl

include ha in
/-- The slots taken. -/
theorem dispatch_apply (n : Fin 4096) (e : Fin 8) (k : Fin 640) : dispatch (keptF a q) (slotF a q) (ix3 n e k)
    = if e = A n ∧ Ord.rk (keys q) A n < 640 ∧ k.val = Ord.rk (keys q) A n then 1#1 else 0#1 := by
  have hd : dispatch (keptF a q) (slotF a q) (ix3 n e k)
      = IntOp.andi (BitVec.ofBool (decide (keptF a q (ix2 n e) ≠ 0))) (BitVec.ofBool (decide (slotF a q (ix3 n e k) ≠ 0))) := by
    unfold dispatch
    pointwise
  rw [hd, keptF_apply a A ha]
  by_cases h : e = A n ∧ Ord.rk (keys q) A n < 640
  · obtain ⟨rfl, h⟩ := h
    rw [slotF_apply a A ha q n h, if_pos ⟨rfl, h⟩]
    by_cases g : k.val = Ord.rk (keys q) A n
    · rw [if_pos g, if_pos ⟨rfl, h, g⟩]; simp [IntOp.andi]
    · rw [if_neg g, if_neg fun g' => g g'.2.2]; simp [IntOp.andi]
  · rw [if_neg h, if_neg fun g => h ⟨g.1, g.2.1⟩]; simp [IntOp.andi]

include ha in
/-- The weights: one at the slots taken, as each kept token's probability is at least an eighth. -/
theorem combine_apply (n : Fin 4096) (e : Fin 8) (k : Fin 640) (Q : ℝ) (hQ : q (ix1 n) = (Q : EReal)) (h8 : 1 / 8 ≤ Q) :
    combine (weight (keptF a q) q) (slotF a q) (ix3 n e k)
      = if e = A n ∧ Ord.rk (keys q) A n < 640 ∧ k.val = Ord.rk (keys q) A n then (1 : EReal) else 0 := by
  have hc : combine (weight (keptF a q) q) (slotF a q) (ix3 n e k)
      = Ideal.div (keptF a q (ix2 n e) * q (ix1 n)) (max (∑ x, keptF a q (ix2 n x) * q (ix1 n)) (Ideal.ofBits .f32 0x358637BD#32)) * slotF a q (ix3 n e k) := by
    unfold combine weight raw rowSum rows
    pointwise
  rw [hc, keptF_apply a A ha, hQ]
  by_cases h : e = A n ∧ Ord.rk (keys q) A n < 640
  · obtain ⟨rfl, h⟩ := h
    have hs : ∑ x, keptF a q (ix2 n x) * (Q : EReal) = (Q : EReal) := by
      rw [Finset.sum_eq_single (A n)]
      · rw [keptF_apply a A ha, if_pos ⟨rfl, h⟩, one_mul]
      · intro x _ hx
        rw [keptF_apply a A ha, if_neg fun g => hx g.1, zero_mul]
      · exact fun g => absurd (Finset.mem_univ _) g
    rw [hs, max_eq_left (Num.c_tiny.trans (EReal.coe_le_coe_iff.mpr h8)), slotF_apply a A ha q n h, if_pos ⟨rfl, h⟩, one_mul,
      Num.div_self _ (by linarith), one_mul]
    exact if_congr ⟨fun g => ⟨rfl, h, g⟩, fun g => g.2.2⟩ rfl rfl
  · rw [if_neg h, if_neg fun g => h ⟨g.1, g.2.1⟩]
    have h0 : ∀ y : EReal, Ideal.div 0 (max y (Ideal.ofBits .f32 0x358637BD#32)) = 0 := fun y =>
      Ideal.zero_div (lt_max_of_lt_right Num.c_tiny_pos).ne'
    rw [zero_mul, h0, zero_mul]

include ha in
/-- How many tokens are kept at an expert: as many as it has, up to the capacity. -/
theorem sum_keptF (e : Fin 8) : ∑ n, keptF a q (ix2 n e) = (((min (Finset.univ.filter fun n => A n = e).card 640 : ℕ) : ℝ) : EReal) := by
  classical
  rw [← Ord.card_kept (keys q) A e 640]
  have h : ∀ n, keptF a q (ix2 n e) = (((if A n = e ∧ Ord.rk (keys q) A n < 640 then (1 : ℝ) else 0) : ℝ) : EReal) := fun n => by
    rw [keptF_apply a A ha]
    by_cases g : A n = e ∧ Ord.rk (keys q) A n < 640
    · rw [if_pos ⟨g.1.symm, g.2⟩, if_pos g]; rfl
    · rw [if_neg fun g' => g ⟨g'.1.symm, g'.2⟩, if_neg g]; rfl
  rw [Finset.sum_congr rfl fun n _ => h n, Num.sum_real, Finset.sum_boole]

end

end Cert.Rf

namespace Cert.KernelIdeal.Run

open Cert.KernelIdeal.Gen
open Idealize.ShloMosaic Idealize.ShloMosaic.TcCoe Idealize.ShloMosaic.Tactic Idealize.SL.Sem

/-- The kernel's slots taken, from its slots. -/
theorem dispatch_bit (b : BitVec 1) : IntOp.cmpi .ne (BitVec.setWidth 32 b) 0#32 = b := by
  revert b; decide

/-- The kernel's weights, from its slots. -/
theorem combine_bit (p : Prop) [Decidable p] : FloatOps.sitofp (F := Ideal) .f32 (BitVec.setWidth 32 (if p then 1#1 else 0#1)) = if p then (1 : EReal) else 0 := by
  show (((BitVec.setWidth 32 (if p then 1#1 else 0#1)).toInt : ℝ) : EReal) = _
  by_cases h : p
  · rw [if_pos h, if_pos h]; simp
  · rw [if_neg h, if_neg h]; simp

/-- How many tokens each expert has. -/
theorem count_apply (a : IVec S4096x1 32) (A : Fin 4096 → Fin 8) (ha : ∀ n, a (ix2 n 0) = BitVec.ofNat 32 (A n).val) (e : Fin 8) :
    count a (ix2 0 e) = (((Finset.univ.filter fun n => A n = e).card : ℝ) : EReal) := by
  classical
  have h : ∀ n : Fin 4096, FloatOps.sitofp (F := Ideal) .f32 (BitVec.setWidth 32 (IntOp.cmpi .eq (a (ix2 n 0)) (BitVec.ofNat 32 e.val)))
      = (((if A n = e then (1 : ℝ) else 0) : ℝ) : EReal) := fun n => by
    rw [ha]
    have hb : IntOp.cmpi .eq (BitVec.ofNat 32 (A n).val) (BitVec.ofNat 32 e.val) = if A n = e then 1#1 else 0#1 := by
      simp only [IntOp.cmpi]
      by_cases g : A n = e
      · rw [if_pos g, g, beq_self_eq_true]; rfl
      · rw [if_neg g, beq_eq_false_iff_ne.mpr]
        · rfl
        · rw [ne_eq, Rf.ofNat_eq_iff _ _ (by omega) (by omega)]; exact fun g' => g (Fin.ext g')
    rw [hb, combine_bit]
    by_cases g : A n = e
    · rw [if_pos g, if_pos g]; rfl
    · rw [if_neg g, if_neg g]; rfl
  show ∑ n : Fin 4096, FloatOps.sitofp (F := Ideal) .f32 (BitVec.setWidth 32 (IntOp.cmpi .eq (a (ix2 n 0)) (BitVec.ofNat 32 e.val))) = _
  rw [Finset.sum_congr rfl fun n _ => h n, Num.sum_real, Finset.sum_boole]

/-- The load-balance loss. -/
theorem aux_eq (p : FVec Ideal S4096x8 .f32) (P : Fin 4096 → Fin 8 → ℝ) (hP : ∀ n e, p (ix2 n e) = (P n e : EReal)) (A : Fin 4096 → Fin 8)
    (a : IVec S4096 32) (ha : ∀ n, a (ix1 n) = BitVec.ofNat 32 (A n).val) (a' : IVec S4096x1 32) (ha' : ∀ n, a' (ix2 n 0) = BitVec.ofNat 32 (A n).val)
    (q : FVec Ideal S4096 .f32) (pm : FVec Ideal S1x8 .f32)
    (hpm : ∀ e, pm (ix2 0 e) = Ideal.div (∑ n, p (ix2 n e)) (Ideal.ofBits .f32 0x45800000#32)) :
    shapeCast S_ (k1_pay1 (F := Ideal) (count a') pm) shapeCasts_S1x1_S_ = Rf.aux (Rf.keptF a q) p := by
  funext j
  obtain rfl : j = ix0 := Subsingleton.elim _ _
  have hk : shapeCast S_ (k1_pay1 (F := Ideal) (count a') pm) shapeCasts_S1x1_S_ ix0
      = (∑ e : Fin 8, min (count a' (ix2 0 e)) (Ideal.ofBits .f32 0x44200000#32) * pm (ix2 0 e)) * Ideal.ofBits .f32 0x3B000000#32 := by
    unfold k1_pay1
    pointwise
    simp only [Finset.univ_unique, Finset.sum_singleton]
  have hr : Rf.aux (Rf.keptF a q) p ix0
      = (∑ e : Fin 8, Ideal.div (∑ n, Rf.keptF a q (ix2 n e)) (Ideal.ofBits .f32 0x45800000#32) * Ideal.div (∑ n, p (ix2 n e)) (Ideal.ofBits .f32 0x45800000#32))
          * Ideal.ofBits .f32 0x41000000#32 := by
    unfold Rf.aux Rf.colMean
    pointwise
  have h4 : (4096 : ℝ) ≠ 0 := by norm_num
  rw [hk, hr]
  simp only [hpm, Rf.sum_keptF a A ha q, count_apply a' A ha', hP, Num.sum_real, Num.c_640, Num.c_4096, Num.c_8, Num.c_512, Num.div_real _ _ h4,
    Num.min_real, ← EReal.coe_mul]
  refine congrArg _ ?_
  rw [Finset.sum_mul, Finset.sum_mul]
  refine Finset.sum_congr rfl fun e _ => ?_
  push_cast
  ring

end Cert.KernelIdeal.Run

end
-- ==== Proof.Agree.lean ====
/- The kernel's results are the reference's, from the same arguments. -/
module

public import proofs.«01_k».proof.Proof.KernelRead
public import proofs.«01_k».proof.Proof.RefRead
public import proofs.«01_k».proof.Proof.MathReal
public import proofs.«01_k».proof.Proof.MathResults

@[expose] public section

set_option maxRecDepth 16384

noncomputable section

namespace Cert.KernelIdeal.Run

open Cert.KernelIdeal.Gen
open Idealize.ShloMosaic Idealize.ShloMosaic.TcCoe Idealize.ShloMosaic.Tactic Idealize.SL.Sem

section

variable (X : FVec Ideal S4096x768x1x1 .f32) (W : FVec Ideal S768x8 .f32)

/-- The reference's probabilities, of the arguments. -/
def rProbs : FVec Ideal S4096x8 .f32 := Rf.probs (Rf.noisy (Rf.lt X W) unif)

/-- The expert a token goes to. -/
def rA (n : Fin 4096) : Fin 8 := Rf.first fun e => rProbs X W (ix2 n e)

/-- The reference's experts. -/
def rExpert : IVec S4096 32 := Rf.expert (rProbs X W)

/-- The reference's chosen probabilities. -/
def rChosen : FVec Ideal S4096 .f32 := Rf.chosen (rProbs X W) (rExpert X W)

/-- The uniform numbers are real. -/
theorem unif_real (n : Fin 4096) (e : Fin 8) : ∃ r : ℝ, unif (ix2 n e) = (r : EReal) := by
  unfold unif
  exact Rf.uniform_real _ n e

/-- The probabilities are real and positive, and a token's add to one. -/
theorem rProbs_real : ∃ P : Fin 4096 → Fin 8 → ℝ, (∀ n e, rProbs X W (ix2 n e) = (P n e : EReal)) ∧ (∀ n e, 0 < P n e) ∧ ∀ n, ∑ e, P n e = 1 :=
  Rf.probs_real _ fun n e => Rf.noisy_real _ _ (Rf.lt_real X W) unif_real n e

/-- The reference's expert of a token. -/
theorem rExpert_apply (n : Fin 4096) : rExpert X W (ix1 n) = BitVec.ofNat 32 (rA X W n).val := by
  obtain ⟨P, hP, -, -⟩ := rProbs_real X W
  exact Rf.expert_apply (rProbs X W) (fun n e => by rw [hP]; exact EReal.bot_lt_coe _) n

/-- The chosen probability is the one at the token's expert. -/
theorem rChosen_apply (n : Fin 4096) : rChosen X W (ix1 n) = rProbs X W (ix2 n (rA X W n)) :=
  Rf.chosen_apply (rProbs X W) (rExpert X W) (rA X W) (rExpert_apply X W) n

/-- The largest of eight probabilities is an eighth or more. -/
theorem rChosen_large (n : Fin 4096) : ∃ Q : ℝ, rChosen X W (ix1 n) = (Q : EReal) ∧ 1 / 8 ≤ Q := by
  obtain ⟨P, hP, -, hS⟩ := rProbs_real X W
  refine ⟨P n (rA X W n), by rw [rChosen_apply, hP], ?_⟩
  have hle : ∀ e ∈ Finset.univ, P n e ≤ P n (rA X W n) := fun e _ => by
    have h := Rf.first_spec (fun e => rProbs X W (ix2 n e)) e
    change rProbs X W (ix2 n e) < rProbs X W (ix2 n (rA X W n)) ∨ (rProbs X W (ix2 n (rA X W n)) = rProbs X W (ix2 n e) ∧ _) at h
    rw [hP, hP] at h
    rcases h with h | h
    · exact (EReal.coe_lt_coe_iff.mp h).le
    · exact (EReal.coe_eq_coe_iff.mp h.1).ge
  have h := Finset.sum_le_card_nsmul Finset.univ (P n) (P n (rA X W n)) hle
  rw [hS n, Finset.card_univ, Fintype.card_fin] at h
  simp only [nsmul_eq_mul] at h
  norm_num at h ⊢
  linarith

/-- The kernel's probabilities are the reference's. -/
theorem pay3_eq : k0_pay3 (Rf.lt X W) noise = rProbs X W := by
  rw [probs_eq, lg_eq, rProbs]

/-- The kernel's largest probability of a token. -/
theorem kTop_apply (n : Fin 4096) : k0_pay5 (Rf.lt X W) noise (ix2 n 0) = Rf.keys (rChosen X W) n := by
  rw [top_apply, pay3_eq]
  show _ = rChosen X W (ix1 n)
  rw [rChosen_apply]
  exact Rf.sup_eq_first _

/-- The kernel's expert of a token. -/
theorem kExpert_apply (n : Fin 4096) : k0_pay6 (Rf.lt X W) noise (ix2 n 0) = BitVec.ofNat 32 (rA X W n).val := by
  rw [expert_apply, pay3_eq, rA]

/-- The kernel's mean probability of an expert. -/
theorem kMean_apply (e : Fin 8) : k0_pay4 (Rf.lt X W) noise (ix2 0 e) = Ideal.div (∑ n, rProbs X W (ix2 n e)) (Ideal.ofBits .f32 0x45800000#32) := by
  rw [← pay3_eq]
  unfold k0_pay4
  pointwise

end

variable (m : (ℓ : Loc nD τ sig) → Buf (Elt Ideal) ℓ) (ρ : Dev nD → PrngReg) (c : Dev nD)

/-- The kernel's clipped logits are the reference's. -/
theorem kLt_eq : kLt m c = Rf.lt (argX m c) (argW m c) := lt_eq (argX m c) (argW m c)

/-- A slot is taken by the token of its expert whose rank it is. -/
theorem kHit (n : Fin 4096) (e : Fin 8) (k : Fin 640) : hit (kFlat m c) (ix3 n e k)
    = if e = rA (argX m c) (argW m c) n ∧ Ord.rk (Rf.keys (rChosen (argX m c) (argW m c))) (rA (argX m c) (argW m c)) n < 640
        ∧ k.val = Ord.rk (Rf.keys (rChosen (argX m c) (argW m c))) (rA (argX m c) (argW m c)) n then 1#1 else 0#1 := by
  unfold kFlat
  exact hit_eq (Rf.keys (rChosen (argX m c) (argW m c))) (rA (argX m c) (argW m c)) (kTop m c) (kExpert m c)
    (fun n => by rw [kTop, kLt_eq]; exact kTop_apply _ _ n) (fun n => by rw [kExpert, kLt_eq]; exact kExpert_apply _ _ n) n e k

/-- The dispatch. -/
theorem dispatch_agrees : W8 m ρ c (Proc.devRef .tc main_v18)
    = Rf.dispatch (Rf.keptF (rExpert (argX m c) (argW m c)) (rChosen (argX m c) (argW m c))) (Rf.slotF (rExpert (argX m c) (argW m c)) (rChosen (argX m c) (argW m c))) := by
  rw [res_dispatch]
  funext j
  obtain ⟨n, e, k, rfl⟩ : ∃ (n : Fin 4096) (e : Fin 8) (k : Fin 640), j = ix3 n e k := ⟨j 0, j 1, j 2, eq_ix3 j⟩
  rw [dispatch_bit, kHit]
  exact (Rf.dispatch_apply _ _ (rExpert_apply _ _) _ n e k).symm

/-- The weights. -/
theorem combine_agrees : W8 m ρ c (Proc.devRef .tc main_v15_1)
    = Rf.combine (Rf.weight (Rf.keptF (rExpert (argX m c) (argW m c)) (rChosen (argX m c) (argW m c))) (rChosen (argX m c) (argW m c)))
        (Rf.slotF (rExpert (argX m c) (argW m c)) (rChosen (argX m c) (argW m c))) := by
  rw [res_combine]
  funext j
  obtain ⟨n, e, k, rfl⟩ : ∃ (n : Fin 4096) (e : Fin 8) (k : Fin 640), j = ix3 n e k := ⟨j 0, j 1, j 2, eq_ix3 j⟩
  obtain ⟨Q, hQ, h8⟩ := rChosen_large (argX m c) (argW m c) n
  rw [kHit, combine_bit]
  exact (Rf.combine_apply _ _ (rExpert_apply _ _) _ n e k Q hQ h8).symm

/-- The logits' penalty. -/
theorem z_agrees : W8 m ρ c (Proc.devRef .tc main_v19) = Rf.zloss (Rf.lt (argX m c) (argW m c)) := by
  rw [res_z, z_eq, lt_eq]

/-- The balance of the experts. -/
theorem aux_agrees : W8 m ρ c (Proc.devRef .tc main_v20)
    = Rf.aux (Rf.keptF (rExpert (argX m c) (argW m c)) (rChosen (argX m c) (argW m c))) (rProbs (argX m c) (argW m c)) := by
  rw [res_aux]
  obtain ⟨P, hP, -, -⟩ := rProbs_real (argX m c) (argW m c)
  exact aux_eq (rProbs (argX m c) (argW m c)) P hP (rA (argX m c) (argW m c)) _ (rExpert_apply _ _) _
    (fun n => by rw [kExpert, kLt_eq]; exact kExpert_apply _ _ n) _ _ (fun e => by rw [kLt_eq]; exact kMean_apply _ _ e)

/-- The deviation. -/
theorem std_agrees : W8 m ρ c (Proc.devRef .tc main_v21) = Rf.std (Rf.lt (argX m c) (argW m c)) := by
  rw [res_std, std_eq, lt_eq]

/-- The noisy logits. -/
theorem lg_agrees : W8 m ρ c (Proc.devRef .tc main_v11_0) = Rf.noisy (Rf.lt (argX m c) (argW m c)) unif := by
  rw [res_lg, kLt_eq, lg_eq]

end Cert.KernelIdeal.Run

namespace Cert.ReferenceIdeal.Run

open Cert.ReferenceIdeal.Gen
open Idealize.ShloMosaic Idealize.ShloMosaic.TcCoe
open Cert.KernelIdeal.Run (unif rProbs rExpert rChosen)

variable (m : (ℓ : Loc nD τ sig) → Buf (Elt Ideal) ℓ) (c : Dev nD)
variable (X : FVec Ideal S4096x768x1x1 .f32) (W : FVec Ideal S768x8 .f32)

section

variable (hX : m ((c.tc : Thread nD τ).loc main_arg0) = X) (hW : m ((c.tc : Thread nD τ).loc main_arg1) = W)
include hX hW

/-- The clipped logits, of the arguments. -/
theorem ref_lt : E m c main_v6 = Rf.lt X W := by
  rw [E_v6, E_arg0, E_arg1, hX, hW]

/-- The noisy logits, of the arguments. -/
theorem ref_noisy : E m c main_v29 = Rf.noisy (Rf.lt X W) unif := by
  rw [E_v29, E_v26, ref_lt m c X W hX hW, unif]

/-- The probabilities. -/
theorem ref_probs : E m c main_v40 = rProbs X W := by
  rw [E_v40, ref_noisy m c X W hX hW, rProbs]

/-- The experts. -/
theorem ref_expert : E m c main_v41 = rExpert X W := by
  rw [E_v41, ref_probs m c X W hX hW, rExpert]

/-- The chosen probabilities. -/
theorem ref_chosen : E m c main_v56 = rChosen X W := by
  rw [E_v56, ref_probs m c X W hX hW, ref_expert m c X W hX hW, rChosen]

/-- The order the tokens are ranked in. -/
theorem ref_order : E m c main_v59 = Rf.order (rChosen X W) := by
  rw [E_v59, ref_chosen m c X W hX hW]

/-- Each token's expert, as a row of zeros and a one, in that order. -/
theorem ref_rows : E m c main_v61 = Rf.sortedRows (rChosen X W) (rExpert X W) := by
  rw [E_v61, E_v60, E_v57, ref_order m c X W hX hW, ref_expert m c X W hX hW, Rf.sortedRows]

/-- The positions in that order. -/
theorem ref_pos : E m c main_v64 = Rf.sortedPos (rChosen X W) (rExpert X W) := by
  rw [E_v64, E_v62, ref_rows m c X W hX hW, Rf.sortedPos]

/-- Which tokens are kept. -/
theorem ref_kept : E m c main_v77 = Rf.keptF (rExpert X W) (rChosen X W) := by
  rw [E_v77, E_v76, E_v74, E_v75, ref_rows m c X W hX hW, ref_pos m c X W hX hW, ref_order m c X W hX hW, Rf.keptF]

/-- Their slots. -/
theorem ref_slots : E m c main_v98 = Rf.slotF (rExpert X W) (rChosen X W) := by
  rw [E_v98, E_v97, E_v96, E_v75, ref_pos m c X W hX hW, ref_order m c X W hX hW, Rf.slotF]

/-- The dispatch. -/
theorem ref_dispatch : E m c main_v110 = Rf.dispatch (Rf.keptF (rExpert X W) (rChosen X W)) (Rf.slotF (rExpert X W) (rChosen X W)) := by
  rw [E_v110, ref_kept m c X W hX hW, ref_slots m c X W hX hW]

/-- The weights. -/
theorem ref_combine : E m c main_v101
    = Rf.combine (Rf.weight (Rf.keptF (rExpert X W) (rChosen X W)) (rChosen X W)) (Rf.slotF (rExpert X W) (rChosen X W)) := by
  rw [E_v101, E_v95, ref_kept m c X W hX hW, ref_chosen m c X W hX hW, ref_slots m c X W hX hW]

/-- The logits' penalty. -/
theorem ref_z : E m c main_v18 = Rf.zloss (Rf.lt X W) := by
  rw [E_v18, ref_lt m c X W hX hW]

/-- The balance of the experts. -/
theorem ref_aux : E m c main_v86 = Rf.aux (Rf.keptF (rExpert X W) (rChosen X W)) (rProbs X W) := by
  rw [E_v86, ref_kept m c X W hX hW, ref_probs m c X W hX hW]

/-- The deviation. -/
theorem ref_std : E m c main_v7 = Rf.std (Rf.lt X W) := by
  rw [E_v7, ref_lt m c X W hX hW]

end

end Cert.ReferenceIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefFrame
public import proofs.«01_k».proof.Proof.KernelRun
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The idealized kernel and the reference end with equal results, element by element, and unchanged arguments. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => KernelIdeal.Gen.W8 m g c (Proc.devRef .tc KernelIdeal.main_v18), fun c => KernelIdeal.Gen.W8 m g c (Proc.devRef .tc KernelIdeal.main_v15_1),
    fun c => KernelIdeal.Gen.W8 m g c (Proc.devRef .tc KernelIdeal.main_v19), fun c => KernelIdeal.Gen.W8 m g c (Proc.devRef .tc KernelIdeal.main_v20),
    fun c => KernelIdeal.Gen.W8 m g c (Proc.devRef .tc KernelIdeal.main_v21), fun c => KernelIdeal.Gen.W8 m g c (Proc.devRef .tc KernelIdeal.main_v11_0), ?_, ?_⟩
  · refine θ_run_mono (KernelIdeal.Run.run m g) fun r h c => ?_
    exact ⟨h c _ (KernelIdeal.Gen.mem_uc KernelIdeal.main_v18 (by decide)), h c _ (KernelIdeal.Gen.mem_uc KernelIdeal.main_v15_1 (by decide)),
      h c _ (KernelIdeal.Gen.mem_uc KernelIdeal.main_v19 (by decide)), h c _ (KernelIdeal.Gen.mem_uc KernelIdeal.main_v20 (by decide)),
      h c _ (KernelIdeal.Gen.mem_uc KernelIdeal.main_v21 (by decide)), h c _ (KernelIdeal.Gen.mem_uc KernelIdeal.main_v11_0 (by decide)),
      (h c _ (KernelIdeal.Gen.mem_uc KernelIdeal.main_arg0 (by decide))).trans (KernelIdeal.Gen.W8_main_arg0 m g c),
      (h c _ (KernelIdeal.Gen.mem_uc KernelIdeal.main_arg1 (by decide))).trans (KernelIdeal.Gen.W8_main_arg1 m g c)⟩
  · refine θ_run_mono (ReferenceIdeal.Run.run m' g') fun r h c => ?_
    have hX := (hargs c).1
    have hW := (hargs c).2
    exact ⟨(h c _).trans ((ReferenceIdeal.Run.ref_dispatch m' c _ _ hX hW).trans (KernelIdeal.Run.dispatch_agrees m g c).symm),
      (h c _).trans ((ReferenceIdeal.Run.ref_combine m' c _ _ hX hW).trans (KernelIdeal.Run.combine_agrees m g c).symm),
      (h c _).trans ((ReferenceIdeal.Run.ref_z m' c _ _ hX hW).trans (KernelIdeal.Run.z_agrees m g c).symm),
      (h c _).trans ((ReferenceIdeal.Run.ref_aux m' c _ _ hX hW).trans (KernelIdeal.Run.aux_agrees m g c).symm),
      (h c _).trans ((ReferenceIdeal.Run.ref_std m' c _ _ hX hW).trans (KernelIdeal.Run.std_agrees m g c).symm),
      (h c _).trans ((ReferenceIdeal.Run.ref_noisy m' c _ _ hX hW).trans (KernelIdeal.Run.lg_agrees m g c).symm),
      (h c _).trans (ReferenceIdeal.Run.E_arg0 m' c), (h c _).trans (ReferenceIdeal.Run.E_arg1 m' c)⟩

/-- Everything the certificate claims. -/
theorem claim : Cert.Claim := ⟨Cert.Kernel.Gen.facts, Cert.KernelIdeal.Gen.facts, Cert.ReferenceIdeal.Gen.facts, fun m ρ _ => Cert.Kernel.Gen.frame m ρ,
  fun m ρ _ => Cert.KernelIdeal.Gen.frame m ρ, fun m ρ _ => Cert.ReferenceIdeal.Run.frame m ρ, trivial, algebraic⟩

end Cert.Proof

end
